-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite3 [hPre_finite3 : Cert.Pre_finite3.Facts] (m : (ℓ : Loc Cert.GqaIdeal.nD Cert.GqaIdeal.τ Cert.GqaIdeal.sig) → Buf (Elt Ideal) ℓ) : Prop :=
  ∀ c : Dev Cert.GqaIdeal.nD,
    (Cert.Pre_finite3.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7)) (m ((c.tc : Thread Cert.GqaIdeal.nD Cert.GqaIdeal.τ).loc Cert.GqaIdeal.main_arg8))).1 = (fun _ => 1#1)
    ∧ (Cert.Pre_finite3.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5)) (m ((c.tc : Thread Cert.GqaIdeal.nD Cert.GqaIdeal.τ).loc Cert.GqaIdeal.main_arg6)) (m ((c.tc : Thread Cert.GqaIdeal.nD Cert.GqaIdeal.τ).loc Cert.GqaIdeal.main_arg7)) (m ((c.tc : Thread Cert.GqaIdeal.nD Cert.GqaIdeal.τ).loc Cert.GqaIdeal.main_arg8))).2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite3 [hPre_finite3 : Cert.Pre_finite3.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite3.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7)) (m ((c.tc : Thread Cert.GqaRefIdeal.nD Cert.GqaRefIdeal.τ).loc Cert.GqaRefIdeal.main_arg8))).1 = (fun _ => 1#1)
    ∧ (Cert.Pre_finite3.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5)) (m ((c.tc : Thread Cert.GqaRefIdeal.nD Cert.GqaRefIdeal.τ).loc Cert.GqaRefIdeal.main_arg6)) (m ((c.tc : Thread Cert.GqaRefIdeal.nD Cert.GqaRefIdeal.τ).loc Cert.GqaRefIdeal.main_arg7)) (m ((c.tc : Thread Cert.GqaRefIdeal.nD Cert.GqaRefIdeal.τ).loc Cert.GqaRefIdeal.main_arg8))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite5 [hPre_finite5 : Cert.Pre_finite5.Facts] (m : (ℓ : Loc Cert.MixIdeal.nD Cert.MixIdeal.τ Cert.MixIdeal.sig) → Buf (Elt Ideal) ℓ) : Prop :=
  ∀ c : Dev Cert.MixIdeal.nD,
    (Cert.Pre_finite5.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).1 = (fun _ => 1#1)
    ∧ (Cert.Pre_finite5.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.1 = (fun _ => 1#1)
    ∧ (Cert.Pre_finite5.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite5 [hPre_finite5 : Cert.Pre_finite5.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite5.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).1 = (fun _ => 1#1)
    ∧ (Cert.Pre_finite5.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.1 = (fun _ => 1#1)
    ∧ (Cert.Pre_finite5.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4)
      ∧ r.2.mem ((c.tc : Thread Cert.Gqa.nD Cert.Gqa.τ).loc Cert.Gqa.main_arg5) = m ((c.tc : Thread Cert.Gqa.nD Cert.Gqa.τ).loc Cert.Gqa.main_arg5)
      ∧ r.2.mem ((c.tc : Thread Cert.Gqa.nD Cert.Gqa.τ).loc Cert.Gqa.main_arg6) = m ((c.tc : Thread Cert.Gqa.nD Cert.Gqa.τ).loc Cert.Gqa.main_arg6)
      ∧ r.2.mem ((c.tc : Thread Cert.Gqa.nD Cert.Gqa.τ).loc Cert.Gqa.main_arg7) = m ((c.tc : Thread Cert.Gqa.nD Cert.Gqa.τ).loc Cert.Gqa.main_arg7)
      ∧ r.2.mem ((c.tc : Thread Cert.Gqa.nD Cert.Gqa.τ).loc Cert.Gqa.main_arg8) = m ((c.tc : Thread Cert.Gqa.nD Cert.Gqa.τ).loc Cert.Gqa.main_arg8))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5)
      ∧ r.2.mem ((c.tc : Thread Cert.GqaIdeal.nD Cert.GqaIdeal.τ).loc Cert.GqaIdeal.main_arg6) = m ((c.tc : Thread Cert.GqaIdeal.nD Cert.GqaIdeal.τ).loc Cert.GqaIdeal.main_arg6)
      ∧ r.2.mem ((c.tc : Thread Cert.GqaIdeal.nD Cert.GqaIdeal.τ).loc Cert.GqaIdeal.main_arg7) = m ((c.tc : Thread Cert.GqaIdeal.nD Cert.GqaIdeal.τ).loc Cert.GqaIdeal.main_arg7)
      ∧ r.2.mem ((c.tc : Thread Cert.GqaIdeal.nD Cert.GqaIdeal.τ).loc Cert.GqaIdeal.main_arg8) = m ((c.tc : Thread Cert.GqaIdeal.nD Cert.GqaIdeal.τ).loc Cert.GqaIdeal.main_arg8))
      ∧ r.2.sem = fun _ => 0)

def quiescent_GqaIdeal_pre_finite3 [hGqaIdeal : Cert.GqaIdeal.Facts] [hPre_finite3 : Cert.Pre_finite3.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite3 m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5)
      ∧ r.2.mem ((c.tc : Thread Cert.GqaIdeal.nD Cert.GqaIdeal.τ).loc Cert.GqaIdeal.main_arg6) = m ((c.tc : Thread Cert.GqaIdeal.nD Cert.GqaIdeal.τ).loc Cert.GqaIdeal.main_arg6)
      ∧ r.2.mem ((c.tc : Thread Cert.GqaIdeal.nD Cert.GqaIdeal.τ).loc Cert.GqaIdeal.main_arg7) = m ((c.tc : Thread Cert.GqaIdeal.nD Cert.GqaIdeal.τ).loc Cert.GqaIdeal.main_arg7)
      ∧ r.2.mem ((c.tc : Thread Cert.GqaIdeal.nD Cert.GqaIdeal.τ).loc Cert.GqaIdeal.main_arg8) = m ((c.tc : Thread Cert.GqaIdeal.nD Cert.GqaIdeal.τ).loc Cert.GqaIdeal.main_arg8))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4)
      ∧ r.2.mem ((c.tc : Thread Cert.GqaRefIdeal.nD Cert.GqaRefIdeal.τ).loc Cert.GqaRefIdeal.main_arg5) = m ((c.tc : Thread Cert.GqaRefIdeal.nD Cert.GqaRefIdeal.τ).loc Cert.GqaRefIdeal.main_arg5)
      ∧ r.2.mem ((c.tc : Thread Cert.GqaRefIdeal.nD Cert.GqaRefIdeal.τ).loc Cert.GqaRefIdeal.main_arg6) = m ((c.tc : Thread Cert.GqaRefIdeal.nD Cert.GqaRefIdeal.τ).loc Cert.GqaRefIdeal.main_arg6)
      ∧ r.2.mem ((c.tc : Thread Cert.GqaRefIdeal.nD Cert.GqaRefIdeal.τ).loc Cert.GqaRefIdeal.main_arg7) = m ((c.tc : Thread Cert.GqaRefIdeal.nD Cert.GqaRefIdeal.τ).loc Cert.GqaRefIdeal.main_arg7)
      ∧ r.2.mem ((c.tc : Thread Cert.GqaRefIdeal.nD Cert.GqaRefIdeal.τ).loc Cert.GqaRefIdeal.main_arg8) = m ((c.tc : Thread Cert.GqaRefIdeal.nD Cert.GqaRefIdeal.τ).loc Cert.GqaRefIdeal.main_arg8))
      ∧ r.2.sem = fun _ => 0)

def quiescent_GqaRefIdeal_pre_finite3 [hGqaRefIdeal : Cert.GqaRefIdeal.Facts] [hPre_finite3 : Cert.Pre_finite3.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite3 m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4)
      ∧ r.2.mem ((c.tc : Thread Cert.GqaRefIdeal.nD Cert.GqaRefIdeal.τ).loc Cert.GqaRefIdeal.main_arg5) = m ((c.tc : Thread Cert.GqaRefIdeal.nD Cert.GqaRefIdeal.τ).loc Cert.GqaRefIdeal.main_arg5)
      ∧ r.2.mem ((c.tc : Thread Cert.GqaRefIdeal.nD Cert.GqaRefIdeal.τ).loc Cert.GqaRefIdeal.main_arg6) = m ((c.tc : Thread Cert.GqaRefIdeal.nD Cert.GqaRefIdeal.τ).loc Cert.GqaRefIdeal.main_arg6)
      ∧ r.2.mem ((c.tc : Thread Cert.GqaRefIdeal.nD Cert.GqaRefIdeal.τ).loc Cert.GqaRefIdeal.main_arg7) = m ((c.tc : Thread Cert.GqaRefIdeal.nD Cert.GqaRefIdeal.τ).loc Cert.GqaRefIdeal.main_arg7)
      ∧ r.2.mem ((c.tc : Thread Cert.GqaRefIdeal.nD Cert.GqaRefIdeal.τ).loc Cert.GqaRefIdeal.main_arg8) = m ((c.tc : Thread Cert.GqaRefIdeal.nD Cert.GqaRefIdeal.τ).loc Cert.GqaRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixIdeal_pre_finite5 [hMixIdeal : Cert.MixIdeal.Facts] [hPre_finite5 : Cert.Pre_finite5.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite5 m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_MixRefIdeal_pre_finite5 [hMixRefIdeal : Cert.MixRefIdeal.Facts] [hPre_finite5 : Cert.Pre_finite5.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite5 m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v21) = v0 c
          ∧ r.2.mem ((c.tc : Thread Cert.AttnRefIdeal.nD Cert.AttnRefIdeal.τ).loc Cert.AttnRefIdeal.main_v22) = v1 c
          ∧ r.2.mem ((c.tc : Thread Cert.AttnRefIdeal.nD Cert.AttnRefIdeal.τ).loc Cert.AttnRefIdeal.main_v23) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v49) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v13) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Gqa_GqaIdeal : Prop :=
  True

def algebraic_GqaIdeal_GqaRefIdeal_pre_finite3 [hGqaIdeal : Cert.GqaIdeal.Facts] [hGqaRefIdeal : Cert.GqaRefIdeal.Facts] [hPre_finite3 : Cert.Pre_finite3.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite3 m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)
      ∧ m' ((c.tc : Thread Cert.GqaRefIdeal.nD Cert.GqaRefIdeal.τ).loc Cert.GqaRefIdeal.main_arg5) = m ((c.tc : Thread Cert.GqaIdeal.nD Cert.GqaIdeal.τ).loc Cert.GqaIdeal.main_arg5)
      ∧ m' ((c.tc : Thread Cert.GqaRefIdeal.nD Cert.GqaRefIdeal.τ).loc Cert.GqaRefIdeal.main_arg6) = m ((c.tc : Thread Cert.GqaIdeal.nD Cert.GqaIdeal.τ).loc Cert.GqaIdeal.main_arg6)
      ∧ m' ((c.tc : Thread Cert.GqaRefIdeal.nD Cert.GqaRefIdeal.τ).loc Cert.GqaRefIdeal.main_arg7) = m ((c.tc : Thread Cert.GqaIdeal.nD Cert.GqaIdeal.τ).loc Cert.GqaIdeal.main_arg7)
      ∧ m' ((c.tc : Thread Cert.GqaRefIdeal.nD Cert.GqaRefIdeal.τ).loc Cert.GqaRefIdeal.main_arg8) = m ((c.tc : Thread Cert.GqaIdeal.nD Cert.GqaIdeal.τ).loc Cert.GqaIdeal.main_arg8)) →
    ∃ (v0 : (c : Dev Cert.GqaIdeal.nD) → Buf (Elt Ideal) ((c.tc : Thread Cert.GqaIdeal.nD Cert.GqaIdeal.τ).loc Cert.GqaIdeal.main_v0_0)) (v1 : (c : Dev Cert.GqaIdeal.nD) → Buf (Elt Ideal) ((c.tc : Thread Cert.GqaIdeal.nD Cert.GqaIdeal.τ).loc Cert.GqaIdeal.main_v0_1)) (v2 : (c : Dev Cert.GqaIdeal.nD) → Buf (Elt Ideal) ((c.tc : Thread Cert.GqaIdeal.nD Cert.GqaIdeal.τ).loc Cert.GqaIdeal.main_v0_2)) (v3 : (c : Dev Cert.GqaIdeal.nD) → Buf (Elt Ideal) ((c.tc : Thread Cert.GqaIdeal.nD Cert.GqaIdeal.τ).loc Cert.GqaIdeal.main_v0_3)) (v4 : (c : Dev Cert.GqaIdeal.nD) → Buf (Elt Ideal) ((c.tc : Thread Cert.GqaIdeal.nD Cert.GqaIdeal.τ).loc Cert.GqaIdeal.main_v0_4)) (v5 : (c : Dev Cert.GqaIdeal.nD) → Buf (Elt Ideal) ((c.tc : Thread Cert.GqaIdeal.nD Cert.GqaIdeal.τ).loc Cert.GqaIdeal.main_v0_5)) (v6 : (c : Dev Cert.GqaIdeal.nD) → Buf (Elt Ideal) ((c.tc : Thread Cert.GqaIdeal.nD Cert.GqaIdeal.τ).loc Cert.GqaIdeal.main_v0_6)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0_0) = v0 c
          ∧ r.2.mem ((c.tc : Thread Cert.GqaIdeal.nD Cert.GqaIdeal.τ).loc Cert.GqaIdeal.main_v0_1) = v1 c
          ∧ r.2.mem ((c.tc : Thread Cert.GqaIdeal.nD Cert.GqaIdeal.τ).loc Cert.GqaIdeal.main_v0_2) = v2 c
          ∧ r.2.mem ((c.tc : Thread Cert.GqaIdeal.nD Cert.GqaIdeal.τ).loc Cert.GqaIdeal.main_v0_3) = v3 c
          ∧ r.2.mem ((c.tc : Thread Cert.GqaIdeal.nD Cert.GqaIdeal.τ).loc Cert.GqaIdeal.main_v0_4) = v4 c
          ∧ r.2.mem ((c.tc : Thread Cert.GqaIdeal.nD Cert.GqaIdeal.τ).loc Cert.GqaIdeal.main_v0_5) = v5 c
          ∧ r.2.mem ((c.tc : Thread Cert.GqaIdeal.nD Cert.GqaIdeal.τ).loc Cert.GqaIdeal.main_v0_6) = v6 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
          ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5)
          ∧ r.2.mem ((c.tc : Thread Cert.GqaIdeal.nD Cert.GqaIdeal.τ).loc Cert.GqaIdeal.main_arg6) = m ((c.tc : Thread Cert.GqaIdeal.nD Cert.GqaIdeal.τ).loc Cert.GqaIdeal.main_arg6)
          ∧ r.2.mem ((c.tc : Thread Cert.GqaIdeal.nD Cert.GqaIdeal.τ).loc Cert.GqaIdeal.main_arg7) = m ((c.tc : Thread Cert.GqaIdeal.nD Cert.GqaIdeal.τ).loc Cert.GqaIdeal.main_arg7)
          ∧ r.2.mem ((c.tc : Thread Cert.GqaIdeal.nD Cert.GqaIdeal.τ).loc Cert.GqaIdeal.main_arg8) = m ((c.tc : Thread Cert.GqaIdeal.nD Cert.GqaIdeal.τ).loc Cert.GqaIdeal.main_arg8))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v22) = v0 c
          ∧ r.2.mem ((c.tc : Thread Cert.GqaRefIdeal.nD Cert.GqaRefIdeal.τ).loc Cert.GqaRefIdeal.main_v23) = v1 c
          ∧ r.2.mem ((c.tc : Thread Cert.GqaRefIdeal.nD Cert.GqaRefIdeal.τ).loc Cert.GqaRefIdeal.main_v24) = v2 c
          ∧ r.2.mem ((c.tc : Thread Cert.GqaRefIdeal.nD Cert.GqaRefIdeal.τ).loc Cert.GqaRefIdeal.main_v25) = v3 c
          ∧ r.2.mem ((c.tc : Thread Cert.GqaRefIdeal.nD Cert.GqaRefIdeal.τ).loc Cert.GqaRefIdeal.main_v26) = v4 c
          ∧ r.2.mem ((c.tc : Thread Cert.GqaRefIdeal.nD Cert.GqaRefIdeal.τ).loc Cert.GqaRefIdeal.main_v27) = v5 c
          ∧ r.2.mem ((c.tc : Thread Cert.GqaRefIdeal.nD Cert.GqaRefIdeal.τ).loc Cert.GqaRefIdeal.main_v28) = v6 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4)
          ∧ r.2.mem ((c.tc : Thread Cert.GqaRefIdeal.nD Cert.GqaRefIdeal.τ).loc Cert.GqaRefIdeal.main_arg5) = m' ((c.tc : Thread Cert.GqaRefIdeal.nD Cert.GqaRefIdeal.τ).loc Cert.GqaRefIdeal.main_arg5)
          ∧ r.2.mem ((c.tc : Thread Cert.GqaRefIdeal.nD Cert.GqaRefIdeal.τ).loc Cert.GqaRefIdeal.main_arg6) = m' ((c.tc : Thread Cert.GqaRefIdeal.nD Cert.GqaRefIdeal.τ).loc Cert.GqaRefIdeal.main_arg6)
          ∧ r.2.mem ((c.tc : Thread Cert.GqaRefIdeal.nD Cert.GqaRefIdeal.τ).loc Cert.GqaRefIdeal.main_arg7) = m' ((c.tc : Thread Cert.GqaRefIdeal.nD Cert.GqaRefIdeal.τ).loc Cert.GqaRefIdeal.main_arg7)
          ∧ r.2.mem ((c.tc : Thread Cert.GqaRefIdeal.nD Cert.GqaRefIdeal.τ).loc Cert.GqaRefIdeal.main_arg8) = m' ((c.tc : Thread Cert.GqaRefIdeal.nD Cert.GqaRefIdeal.τ).loc Cert.GqaRefIdeal.main_arg8))

def preserves_Mix_MixIdeal : Prop :=
  True

def algebraic_MixIdeal_MixRefIdeal_pre_finite5 [hMixIdeal : Cert.MixIdeal.Facts] [hMixRefIdeal : Cert.MixRefIdeal.Facts] [hPre_finite5 : Cert.Pre_finite5.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite5 m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v57) = v0 c
          ∧ r.2.mem ((c.tc : Thread Cert.MixRefIdeal.nD Cert.MixRefIdeal.τ).loc Cert.MixRefIdeal.main_v72) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hGate : Cert.Gate.Facts) (hGateIdeal : Cert.GateIdeal.Facts) (hGateRefIdeal : Cert.GateRefIdeal.Facts) (hGqa : Cert.Gqa.Facts) (hGqaIdeal : Cert.GqaIdeal.Facts) (hGqaRefIdeal : Cert.GqaRefIdeal.Facts) (hMix : Cert.Mix.Facts) (hMixIdeal : Cert.MixIdeal.Facts) (hMixRefIdeal : Cert.MixRefIdeal.Facts) (hPre_finite : Cert.Pre_finite.Facts) (hPre_finite3 : Cert.Pre_finite3.Facts) (hPre_finite5 : Cert.Pre_finite5.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Gate (hGate := hGate)
    ∧ quiescent_GateIdeal (hGateIdeal := hGateIdeal)
    ∧ quiescent_GateRefIdeal (hGateRefIdeal := hGateRefIdeal)
    ∧ quiescent_Gqa (hGqa := hGqa)
    ∧ quiescent_GqaIdeal (hGqaIdeal := hGqaIdeal)
    ∧ quiescent_GqaIdeal_pre_finite3 (hGqaIdeal := hGqaIdeal) (hPre_finite3 := hPre_finite3)
    ∧ quiescent_GqaRefIdeal (hGqaRefIdeal := hGqaRefIdeal)
    ∧ quiescent_GqaRefIdeal_pre_finite3 (hGqaRefIdeal := hGqaRefIdeal) (hPre_finite3 := hPre_finite3)
    ∧ quiescent_Mix (hMix := hMix)
    ∧ quiescent_MixIdeal (hMixIdeal := hMixIdeal)
    ∧ quiescent_MixIdeal_pre_finite5 (hMixIdeal := hMixIdeal) (hPre_finite5 := hPre_finite5)
    ∧ quiescent_MixRefIdeal (hMixRefIdeal := hMixRefIdeal)
    ∧ quiescent_MixRefIdeal_pre_finite5 (hMixRefIdeal := hMixRefIdeal) (hPre_finite5 := hPre_finite5)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Gate_GateIdeal
    ∧ algebraic_GateIdeal_GateRefIdeal (hGateIdeal := hGateIdeal) (hGateRefIdeal := hGateRefIdeal)
    ∧ preserves_Gqa_GqaIdeal
    ∧ algebraic_GqaIdeal_GqaRefIdeal_pre_finite3 (hGqaIdeal := hGqaIdeal) (hGqaRefIdeal := hGqaRefIdeal) (hPre_finite3 := hPre_finite3)
    ∧ preserves_Mix_MixIdeal
    ∧ algebraic_MixIdeal_MixRefIdeal_pre_finite5 (hMixIdeal := hMixIdeal) (hMixRefIdeal := hMixRefIdeal) (hPre_finite5 := hPre_finite5)
-- ==== Pre_finite.lean ====
abbrev S4x8x4096x256 : Shape := ⟨4, ![4, 8, 4096, 256]⟩
abbrev S4x8x4096x128 : Shape := ⟨4, ![4, 8, 4096, 128]⟩
abbrev S2048x11264 : Shape := ⟨2, ![2048, 11264]⟩
abbrev S2048x4096 : Shape := ⟨2, ![2048, 4096]⟩
abbrev S_ : Shape := ⟨0, ![]⟩

class Facts : Prop where
  bcast_S_S4x8x4096x256 : S_.BroadcastsInDim S4x8x4096x256 (![] : Fin 0 → Fin S4x8x4096x256.rank)

variable [Facts]

def fn {F : FTy → Type} [FloatOps F] (main_arg0 : FVec F S4x8x4096x256 .bf16) (main_arg1 : FVec F S4x8x4096x256 .bf16) (main_arg2 : FVec F S4x8x4096x128 .bf16) (main_arg3 : FVec F S2048x11264 .f32) (main_arg4 : FVec F S2048x4096 .f32) : IVec S4x8x4096x256 1 × IVec S4x8x4096x256 1 :=
  let main_cst : FVec F S_ .bf16 := constant S_ .bf16 0xFF80#16
  let main_v0 : FVec F S4x8x4096x256 .bf16 := broadcastInDim S4x8x4096x256 ![] bcast_S_S4x8x4096x256 main_cst
  let main_v1 : IVec S4x8x4096x256 1 := cmpf .ogt main_arg0 main_v0
  let main_cst_0 : FVec F S_ .bf16 := constant S_ .bf16 0x7F80#16
  let main_v2 : FVec F S4x8x4096x256 .bf16 := broadcastInDim S4x8x4096x256 ![] bcast_S_S4x8x4096x256 main_cst_0
  let main_v3 : IVec S4x8x4096x256 1 := cmpf .olt main_arg0 main_v2
  let main_v4 : IVec S4x8x4096x256 1 := andi main_v1 main_v3
  let main_cst_1 : FVec F S_ .bf16 := constant S_ .bf16 0xFF80#16
  let main_v5 : FVec F S4x8x4096x256 .bf16 := broadcastInDim S4x8x4096x256 ![] bcast_S_S4x8x4096x256 main_cst_1
  let main_v6 : IVec S4x8x4096x256 1 := cmpf .ogt main_arg1 main_v5
  let main_cst_2 : FVec F S_ .bf16 := constant S_ .bf16 0x7F80#16
  let main_v7 : FVec F S4x8x4096x256 .bf16 := broadcastInDim S4x8x4096x256 ![] bcast_S_S4x8x4096x256 main_cst_2
  let main_v8 : IVec S4x8x4096x256 1 := cmpf .olt main_arg1 main_v7
  let main_v9 : IVec S4x8x4096x256 1 := andi main_v6 main_v8
  (main_v4, main_v9)
-- ==== Pre_finite3.lean ====
abbrev S4x8x4096x128 : Shape := ⟨4, ![4, 8, 4096, 128]⟩
abbrev S4x2x4096x128 : Shape := ⟨4, ![4, 2, 4096, 128]⟩
abbrev S5632x2048 : Shape := ⟨2, ![5632, 2048]⟩
abbrev S2048x2048 : Shape := ⟨2, ![2048, 2048]⟩
abbrev S1024x2048 : Shape := ⟨2, ![1024, 2048]⟩
abbrev S2048x512 : Shape := ⟨2, ![2048, 512]⟩
abbrev S512x2048 : Shape := ⟨2, ![512, 2048]⟩
abbrev S_ : Shape := ⟨0, ![]⟩

class Facts : Prop where
  bcast_S_S4x8x4096x128 : S_.BroadcastsInDim S4x8x4096x128 (![] : Fin 0 → Fin S4x8x4096x128.rank)
  bcast_S_S4x2x4096x128 : S_.BroadcastsInDim S4x2x4096x128 (![] : Fin 0 → Fin S4x2x4096x128.rank)

variable [Facts]

def fn {F : FTy → Type} [FloatOps F] (main_arg0 : FVec F S4x8x4096x128 .bf16) (main_arg1 : FVec F S4x2x4096x128 .bf16) (main_arg2 : FVec F S4x2x4096x128 .bf16) (main_arg3 : FVec F S5632x2048 .f32) (main_arg4 : FVec F S2048x2048 .f32) (main_arg5 : FVec F S1024x2048 .f32) (main_arg6 : FVec F S1024x2048 .f32) (main_arg7 : FVec F S2048x512 .f32) (main_arg8 : FVec F S512x2048 .f32) : IVec S4x8x4096x128 1 × IVec S4x2x4096x128 1 :=
  let main_cst : FVec F S_ .bf16 := constant S_ .bf16 0xFF80#16
  let main_v0 : FVec F S4x8x4096x128 .bf16 := broadcastInDim S4x8x4096x128 ![] bcast_S_S4x8x4096x128 main_cst
  let main_v1 : IVec S4x8x4096x128 1 := cmpf .ogt main_arg0 main_v0
  let main_cst_0 : FVec F S_ .bf16 := constant S_ .bf16 0x7F80#16
  let main_v2 : FVec F S4x8x4096x128 .bf16 := broadcastInDim S4x8x4096x128 ![] bcast_S_S4x8x4096x128 main_cst_0
  let main_v3 : IVec S4x8x4096x128 1 := cmpf .olt main_arg0 main_v2
  let main_v4 : IVec S4x8x4096x128 1 := andi main_v1 main_v3
  let main_cst_1 : FVec F S_ .bf16 := constant S_ .bf16 0xFF80#16
  let main_v5 : FVec F S4x2x4096x128 .bf16 := broadcastInDim S4x2x4096x128 ![] bcast_S_S4x2x4096x128 main_cst_1
  let main_v6 : IVec S4x2x4096x128 1 := cmpf .ogt main_arg1 main_v5
  let main_cst_2 : FVec F S_ .bf16 := constant S_ .bf16 0x7F80#16
  let main_v7 : FVec F S4x2x4096x128 .bf16 := broadcastInDim S4x2x4096x128 ![] bcast_S_S4x2x4096x128 main_cst_2
  let main_v8 : IVec S4x2x4096x128 1 := cmpf .olt main_arg1 main_v7
  let main_v9 : IVec S4x2x4096x128 1 := andi main_v6 main_v8
  (main_v4, main_v9)
-- ==== Pre_finite5.lean ====
abbrev S4x4096x2048 : Shape := ⟨3, ![4, 4096, 2048]⟩
abbrev S16384x4096 : Shape := ⟨2, ![16384, 4096]⟩
abbrev S4x4096x1024 : Shape := ⟨3, ![4, 4096, 1024]⟩
abbrev S1024x2048 : Shape := ⟨2, ![1024, 2048]⟩
abbrev S2048x2048 : Shape := ⟨2, ![2048, 2048]⟩
abbrev S1x2048 : Shape := ⟨2, ![1, 2048]⟩
abbrev S2048x512 : Shape := ⟨2, ![2048, 512]⟩
abbrev S4x256x1024 : Shape := ⟨3, ![4, 256, 1024]⟩
abbrev S512x2048 : Shape := ⟨2, ![512, 2048]⟩
abbrev S4x256x512 : Shape := ⟨3, ![4, 256, 512]⟩
abbrev S_ : Shape := ⟨0, ![]⟩

class Facts : Prop where
  slices_S4x256x1024_S4x256x512_0_0_0 : S4x256x1024.Slices ![0, 0, 0] S4x256x512
  bcast_S_S1x2048 : S_.BroadcastsInDim S1x2048 (![] : Fin 0 → Fin S1x2048.rank)
  bcast_S_S2048x512 : S_.BroadcastsInDim S2048x512 (![] : Fin 0 → Fin S2048x512.rank)
  bcast_S_S4x256x512 : S_.BroadcastsInDim S4x256x512 (![] : Fin 0 → Fin S4x256x512.rank)

variable [Facts]

def fn {F : FTy → Type} [FloatOps F] (main_arg0 : FVec F S4x4096x2048 .f32) (main_arg1 : FVec F S16384x4096 .bf16) (main_arg2 : FVec F S4x4096x1024 .bf16) (main_arg3 : FVec F S4x4096x1024 .bf16) (main_arg4 : FVec F S1024x2048 .bf16) (main_arg5 : FVec F S1024x2048 .bf16) (main_arg6 : FVec F S2048x2048 .bf16) (main_arg7 : FVec F S1x2048 .f32) (main_arg8 : FVec F S2048x512 .bf16) (main_arg9 : FVec F S4x256x1024 .bf16) (main_arg10 : FVec F S512x2048 .bf16) (main_arg11 : FVec F S1x2048 .f32) : IVec S1x2048 1 × IVec S2048x512 1 × IVec S4x256x512 1 :=
  let main_v0 : FVec F S4x256x512 .bf16 := (extractStridedSlice S4x256x512 ![0, 0, 0] · slices_S4x256x1024_S4x256x512_0_0_0) main_arg9
  let main_cst : FVec F S_ .f32 := constant S_ .f32 0xFF800000#32
  let main_v1 : FVec F S1x2048 .f32 := broadcastInDim S1x2048 ![] bcast_S_S1x2048 main_cst
  let main_v2 : IVec S1x2048 1 := cmpf .ogt main_arg7 main_v1
  let main_cst_0 : FVec F S_ .f32 := constant S_ .f32 0x7F800000#32
  let main_v3 : FVec F S1x2048 .f32 := broadcastInDim S1x2048 ![] bcast_S_S1x2048 main_cst_0
  let main_v4 : IVec S1x2048 1 := cmpf .olt main_arg7 main_v3
  let main_v5 : IVec S1x2048 1 := andi main_v2 main_v4
  let main_cst_1 : FVec F S_ .bf16 := constant S_ .bf16 0xFF80#16
  let main_v6 : FVec F S2048x512 .bf16 := broadcastInDim S2048x512 ![] bcast_S_S2048x512 main_cst_1
  let main_v7 : IVec S2048x512 1 := cmpf .ogt main_arg8 main_v6
  let main_cst_2 : FVec F S_ .bf16 := constant S_ .bf16 0x7F80#16
  let main_v8 : FVec F S2048x512 .bf16 := broadcastInDim S2048x512 ![] bcast_S_S2048x512 main_cst_2
  let main_v9 : IVec S2048x512 1 := cmpf .olt main_arg8 main_v8
  let main_v10 : IVec S2048x512 1 := andi main_v7 main_v9
  let main_cst_3 : FVec F S_ .bf16 := constant S_ .bf16 0xFF80#16
  let main_v11 : FVec F S4x256x512 .bf16 := broadcastInDim S4x256x512 ![] bcast_S_S4x256x512 main_cst_3
  let main_v12 : IVec S4x256x512 1 := cmpf .ogt main_v0 main_v11
  let main_cst_4 : FVec F S_ .bf16 := constant S_ .bf16 0x7F80#16
  let main_v13 : FVec F S4x256x512 .bf16 := broadcastInDim S4x256x512 ![] bcast_S_S4x256x512 main_cst_4
  let main_v14 : IVec S4x256x512 1 := cmpf .olt main_v0 main_v13
  let main_v15 : IVec S4x256x512 1 := andi main_v12 main_v14
  (main_v5, main_v10, main_v15)
-- ==== Attn.lean ====
abbrev S4x8x4096x256 : Shape := ⟨4, ![4, 8, 4096, 256]⟩
abbrev S4x8x4096x128 : Shape := ⟨4, ![4, 8, 4096, 128]⟩
abbrev S2048x11264 : Shape := ⟨2, ![2048, 11264]⟩
abbrev S2048x4096 : Shape := ⟨2, ![2048, 4096]⟩
abbrev S4x4096x1024 : Shape := ⟨3, ![4, 4096, 1024]⟩
abbrev S1x1x2048x256 : Shape := ⟨4, ![1, 1, 2048, 256]⟩
abbrev S1x1x4096x256 : Shape := ⟨4, ![1, 1, 4096, 256]⟩
abbrev S1x1x4096x128 : Shape := ⟨4, ![1, 1, 4096, 128]⟩
abbrev S32x11264 : Shape := ⟨2, ![32, 11264]⟩
abbrev S32x4096 : Shape := ⟨2, ![32, 4096]⟩
abbrev S1x2048x128 : Shape := ⟨3, ![1, 2048, 128]⟩
abbrev S4096x256 : Shape := ⟨2, ![4096, 256]⟩
abbrev S4x512x512 : Shape := ⟨3, ![4, 512, 512]⟩
abbrev S4x512x128 : Shape := ⟨3, ![4, 512, 128]⟩
abbrev S4x512x256 : Shape := ⟨3, ![4, 512, 256]⟩
abbrev S4096x128 : Shape := ⟨2, ![4096, 128]⟩
abbrev S1x1x512x256 : Shape := ⟨4, ![1, 1, 512, 256]⟩
abbrev S1x512x256 : Shape := ⟨3, ![1, 512, 256]⟩
abbrev S512x256 : Shape := ⟨2, ![512, 256]⟩
abbrev S512x128 : Shape := ⟨2, ![512, 128]⟩
abbrev S1x512x128 : Shape := ⟨3, ![1, 512, 128]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩

abbrev nBuf : Space → Nat
  | .hbm => 8
  | .vmem => 21
  | .smem => 0
  | _ => 0

abbrev bufTy : (tb : Table) → Fin (tcTables nBuf tb) → BufTy
  | .hbm, ⟨0, _⟩ => ⟨S4x8x4096x256, .bf16⟩
  | .hbm, ⟨1, _⟩ => ⟨S4x8x4096x256, .bf16⟩
  | .hbm, ⟨2, _⟩ => ⟨S4x8x4096x128, .bf16⟩
  | .hbm, ⟨3, _⟩ => ⟨S2048x11264, .f32⟩
  | .hbm, ⟨4, _⟩ => ⟨S2048x4096, .f32⟩
  | .hbm, ⟨5, _⟩ => ⟨S4x4096x1024, .bf16⟩
  | .hbm, ⟨6, _⟩ => ⟨S2048x11264, .bf16⟩
  | .hbm, ⟨7, _⟩ => ⟨S2048x4096, .bf16⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S32x11264, .f32⟩
  | .local _ .vmem, ⟨7, _⟩ => ⟨S32x11264, .f32⟩
  | .local _ .vmem, ⟨8, _⟩ => ⟨S32x4096, .f32⟩
  | .local _ .vmem, ⟨9, _⟩ => ⟨S32x4096, .f32⟩
  | .local _ .vmem, ⟨10, _⟩ => ⟨S1x2048x128, .bf16⟩
  | .local _ .vmem, ⟨11, _⟩ => ⟨S1x2048x128, .bf16⟩
  | .local _ .vmem, ⟨12, _⟩ => ⟨S32x11264, .bf16⟩
  | .local _ .vmem, ⟨13, _⟩ => ⟨S32x11264, .bf16⟩
  | .local _ .vmem, ⟨14, _⟩ => ⟨S32x4096, .bf16⟩
  | .local _ .vmem, ⟨15, _⟩ => ⟨S32x4096, .bf16⟩
  | .local _ .vmem, ⟨16, _⟩ => ⟨S4096x256, .bf16⟩
  | .local _ .vmem, ⟨17, _⟩ => ⟨S4x512x512, .f32⟩
  | .local _ .vmem, ⟨18, _⟩ => ⟨S4x512x512, .f32⟩
  | .local _ .vmem, ⟨19, _⟩ => ⟨S4x512x128, .f32⟩
  | .local _ .vmem, ⟨20, _⟩ => ⟨S4x512x256, .f32⟩
  | _, _ => ⟨S4x8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x11264 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x11264 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnRefIdeal.lean ====
abbrev S4x8x4096x256 : Shape := ⟨4, ![4, 8, 4096, 256]⟩
abbrev S4x8x4096x128 : Shape := ⟨4, ![4, 8, 4096, 128]⟩
abbrev S2048x11264 : Shape := ⟨2, ![2048, 11264]⟩
abbrev S2048x4096 : Shape := ⟨2, ![2048, 4096]⟩
abbrev S4x8x4096x4096 : Shape := ⟨4, ![4, 8, 4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x8x128 : Shape := ⟨4, ![4, 4096, 8, 128]⟩
abbrev S4x4096x1024 : Shape := ⟨3, ![4, 4096, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x8x4096x256, .bf16⟩
  | .hbm, ⟨1, _⟩ => ⟨S4x8x4096x256, .bf16⟩
  | .hbm, ⟨2, _⟩ => ⟨S4x8x4096x128, .bf16⟩
  | .hbm, ⟨3, _⟩ => ⟨S2048x11264, .f32⟩
  | .hbm, ⟨4, _⟩ => ⟨S2048x4096, .f32⟩
  | .hbm, ⟨5, _⟩ => ⟨S4x8x4096x256, .f32⟩
  | .hbm, ⟨6, _⟩ => ⟨S4x8x4096x256, .f32⟩
  | .hbm, ⟨7, _⟩ => ⟨S4x8x4096x128, .f32⟩
  | .hbm, ⟨8, _⟩ => ⟨S4x8x4096x4096, .f32⟩
  | .hbm, ⟨9, _⟩ => ⟨S_, .f32⟩
  | .hbm, ⟨10, _⟩ => ⟨S_, .f32⟩
  | .hbm, ⟨11, _⟩ => ⟨S4x8x4096x4096, .f32⟩
  | .hbm, ⟨12, _⟩ => ⟨S4x8x4096x4096, .f32⟩
  | .hbm, ⟨13, _⟩ => ⟨S_, .f32⟩
  | .hbm, ⟨14, _⟩ => ⟨S4x8x4096, .f32⟩
  | .hbm, ⟨15, _⟩ => ⟨S_, .f32⟩
  | .hbm, ⟨16, _⟩ => ⟨S4x8x4096, .f32⟩
  | .hbm, ⟨17, _⟩ => ⟨S4x8x4096, .f32⟩
  | .hbm, ⟨18, _⟩ => ⟨S4x8x4096x1, .f32⟩
  | .hbm, ⟨19, _⟩ => ⟨S4x8x4096x4096, .f32⟩
  | .hbm, ⟨20, _⟩ => ⟨S4x8x4096x4096, .f32⟩
  | .hbm, ⟨21, _⟩ => ⟨S4x8x4096x4096, .f32⟩
  | .hbm, ⟨22, _⟩ => ⟨S_, .f32⟩
  | .hbm, ⟨23, _⟩ => ⟨S4x8x4096, .f32⟩
  | .hbm, ⟨24, _⟩ => ⟨S4x8x4096x1, .f32⟩
  | .hbm, ⟨25, _⟩ => ⟨S4x8x4096x4096, .f32⟩
  | .hbm, ⟨26, _⟩ => ⟨S4x8x4096x4096, .f32⟩
  | .hbm, ⟨27, _⟩ => ⟨S4x8x128x4096, .f32⟩
  | .hbm, ⟨28, _⟩ => ⟨S4x4096x8x128, .f32⟩
  | .hbm, ⟨29, _⟩ => ⟨S4x4096x1024, .f32⟩
  | .hbm, ⟨30, _⟩ => ⟨S4x4096x1024, .bf16⟩
  | .hbm, ⟨31, _⟩ => ⟨S2048x11264, .bf16⟩
  | .hbm, ⟨32, _⟩ => ⟨S2048x4096, .bf16⟩
  | _, _ => ⟨S4x8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Ffn.lean ====
abbrev S4x4096x2048 : Shape := ⟨3, ![4, 4096, 2048]⟩
abbrev S2048x11264 : Shape := ⟨2, ![2048, 11264]⟩
abbrev S8x11264 : Shape := ⟨2, ![8, 11264]⟩
abbrev S5632x2048 : Shape := ⟨2, ![5632, 2048]⟩
abbrev S1x2048 : Shape := ⟨2, ![1, 2048]⟩
abbrev S1x512x2048 : Shape := ⟨3, ![1, 512, 2048]⟩
abbrev S1x16x2048 : Shape := ⟨3, ![1, 16, 2048]⟩
abbrev S2048x512 : Shape := ⟨2, ![2048, 512]⟩
abbrev S8x512 : Shape := ⟨2, ![8, 512]⟩
abbrev S512x2048 : Shape := ⟨2, ![512, 2048]⟩
abbrev S544x2048 : Shape := ⟨2, ![544, 2048]⟩
abbrev S544x512 : Shape := ⟨2, ![544, 512]⟩
abbrev S16x2048 : Shape := ⟨2, ![16, 2048]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 7
  | .vmem => 24
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .f32⟩
  | .hbm, ⟨2, _⟩ => ⟨S2048x11264, .bf16⟩
  | .hbm, ⟨3, _⟩ => ⟨S8x11264, .f32⟩
  | .hbm, ⟨4, _⟩ => ⟨S5632x2048, .bf16⟩
  | .hbm, ⟨5, _⟩ => ⟨S1x2048, .f32⟩
  | .hbm, ⟨6, _⟩ => ⟨S4x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S1x512x2048, .f32⟩
  | .local _ .vmem, ⟨7, _⟩ => ⟨S1x512x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S512x2048, .bf16⟩
  | .local _ .vmem, ⟨17, _⟩ => ⟨S512x2048, .bf16⟩
  | .local _ .vmem, ⟨18, _⟩ => ⟨S1x2048, .f32⟩
  | .local _ .vmem, ⟨19, _⟩ => ⟨S1x512x2048, .f32⟩
  | .local _ .vmem, ⟨20, _⟩ => ⟨S1x512x2048, .f32⟩
  | .local _ .vmem, ⟨21, _⟩ => ⟨S544x2048, .bf16⟩
  | .local _ .vmem, ⟨22, _⟩ => ⟨S544x512, .f32⟩
  | .local _ .vmem, ⟨23, _⟩ => ⟨S544x512, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![4, 8, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== FfnRefIdeal.lean ====
abbrev S4x4096x2048 : Shape := ⟨3, ![4, 4096, 2048]⟩
abbrev S2048x11264 : Shape := ⟨2, ![2048, 11264]⟩
abbrev S8x11264 : Shape := ⟨2, ![8, 11264]⟩
abbrev S5632x2048 : Shape := ⟨2, ![5632, 2048]⟩
abbrev S1x2048 : Shape := ⟨2, ![1, 2048]⟩
abbrev S4x4096x11264 : Shape := ⟨3, ![4, 4096, 11264]⟩
abbrev S_ : Shape := ⟨0, ![]⟩
abbrev S4x4098x11264 : Shape := ⟨3, ![4, 4098, 11264]⟩
abbrev S1x11264 : Shape := ⟨2, ![1, 11264]⟩
abbrev S11264 : Shape := ⟨1, ![11264]⟩
abbrev S1x1x11264 : Shape := ⟨3, ![1, 1, 11264]⟩
abbrev S4x4096x5632 : Shape := ⟨3, ![4, 4096, 5632]⟩
abbrev S4x4096 : Shape := ⟨2, ![4, 4096]⟩
abbrev S4x4096x1 : Shape := ⟨3, ![4, 4096, 1]⟩
abbrev S2048 : Shape := ⟨1, ![2048]⟩
abbrev S1x1x2048 : Shape := ⟨3, ![1, 1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .f32⟩
  | .hbm, ⟨2, _⟩ => ⟨S2048x11264, .bf16⟩
  | .hbm, ⟨3, _⟩ => ⟨S8x11264, .f32⟩
  | .hbm, ⟨4, _⟩ => ⟨S5632x2048, .bf16⟩
  | .hbm, ⟨5, _⟩ => ⟨S1x2048, .f32⟩
  | .hbm, ⟨6, _⟩ => ⟨S4x4096x2048, .f32⟩
  | .hbm, ⟨7, _⟩ => ⟨S2048x11264, .f32⟩
  | .hbm, ⟨8, _⟩ => ⟨S4x4096x11264, .f32⟩
  | .hbm, ⟨9, _⟩ => ⟨S_, .i32⟩
  | .hbm, ⟨10, _⟩ => ⟨S_, .f32⟩
  | .hbm, ⟨11, _⟩ => ⟨S4x4098x11264, .f32⟩
  | .hbm, ⟨12, _⟩ => ⟨S4x4096x11264, .f32⟩
  | .hbm, ⟨13, _⟩ => ⟨S1x11264, .f32⟩
  | .hbm, ⟨14, _⟩ => ⟨S11264, .f32⟩
  | .hbm, ⟨15, _⟩ => ⟨S1x1x11264, .f32⟩
  | .hbm, ⟨16, _⟩ => ⟨S4x4096x11264, .f32⟩
  | .hbm, ⟨17, _⟩ => ⟨S4x4096x11264, .f32⟩
  | .hbm, ⟨18, _⟩ => ⟨S4x4096x11264, .f32⟩
  | .hbm, ⟨19, _⟩ => ⟨S1x11264, .f32⟩
  | .hbm, ⟨20, _⟩ => ⟨S11264, .f32⟩
  | .hbm, ⟨21, _⟩ => ⟨S1x1x11264, .f32⟩
  | .hbm, ⟨22, _⟩ => ⟨S4x4096x11264, .f32⟩
  | .hbm, ⟨23, _⟩ => ⟨S4x4096x11264, .f32⟩
  | .hbm, ⟨24, _⟩ => ⟨S4x4096x11264, .f32⟩
  | .hbm, ⟨25, _⟩ => ⟨S4x4096x11264, .f32⟩
  | .hbm, ⟨26, _⟩ => ⟨S1x11264, .f32⟩
  | .hbm, ⟨27, _⟩ => ⟨S11264, .f32⟩
  | .hbm, ⟨28, _⟩ => ⟨S1x1x11264, .f32⟩
  | .hbm, ⟨29, _⟩ => ⟨S4x4096x11264, .f32⟩
  | .hbm, ⟨30, _⟩ => ⟨S4x4096x11264, .f32⟩
  | .hbm, ⟨31, _⟩ => ⟨S4x4096x11264, .f32⟩
  | .hbm, ⟨32, _⟩ => ⟨S1x11264, .f32⟩
  | .hbm, ⟨33, _⟩ => ⟨S11264, .f32⟩
  | .hbm, ⟨34, _⟩ => ⟨S1x1x11264, .f32⟩
  | .hbm, ⟨35, _⟩ => ⟨S4x4096x11264, .f32⟩
  | .hbm, ⟨36, _⟩ => ⟨S4x4096x11264, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S_, .f32⟩
  | .hbm, ⟨42, _⟩ => ⟨S4x4096x5632, .f32⟩
  | .hbm, ⟨43, _⟩ => ⟨S4x4096x5632, .f32⟩
  | .hbm, ⟨44, _⟩ => ⟨S_, .f32⟩
  | .hbm, ⟨45, _⟩ => ⟨S4x4096x5632, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S5632x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x2048, .f32⟩
  | .hbm, ⟨64, _⟩ => ⟨S4x4096x2048, .f32⟩
  | .hbm, ⟨65, _⟩ => ⟨S2048, .f32⟩
  | .hbm, ⟨66, _⟩ => ⟨S1x1x2048, .f32⟩
  | .hbm, ⟨67, _⟩ => ⟨S4x4096x2048, .f32⟩
  | .hbm, ⟨68, _⟩ => ⟨S4x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_cst_0 : Ref sig .tc := ⟨.hbm, 56, rfl⟩
abbrev main_v39 : Ref sig .tc := ⟨.hbm, 57, rfl⟩
abbrev main_v40 : Ref sig .tc := ⟨.hbm, 58, rfl⟩
abbrev main_cst_1 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Gate.lean ====
abbrev S16384x2048 : Shape := ⟨2, ![16384, 2048]⟩
abbrev S2048x4096 : Shape := ⟨2, ![2048, 4096]⟩
abbrev S1x4096 : Shape := ⟨2, ![1, 4096]⟩
abbrev S16384x4096 : Shape := ⟨2, ![16384, 4096]⟩
abbrev S1024x2048 : Shape := ⟨2, ![1024, 2048]⟩
abbrev S1024x4096 : Shape := ⟨2, ![1024, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S1x4096, .f32⟩
  | .hbm, ⟨3, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x4096, .bf16⟩
  | .local _ .vmem, ⟨3, _⟩ => ⟨S1x4096, .f32⟩
  | .local _ .vmem, ⟨4, _⟩ => ⟨S1024x4096, .bf16⟩
  | .local _ .vmem, ⟨5, _⟩ => ⟨S1024x4096, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateRefIdeal.lean ====
abbrev S16384x2048 : Shape := ⟨2, ![16384, 2048]⟩
abbrev S2048x4096 : Shape := ⟨2, ![2048, 4096]⟩
abbrev S1x4096 : Shape := ⟨2, ![1, 4096]⟩
abbrev S16384x4096 : Shape := ⟨2, ![16384, 4096]⟩
abbrev S4096 : Shape := ⟨1, ![4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S1x4096, .f32⟩
  | .hbm, ⟨3, _⟩ => ⟨S16384x2048, .f32⟩
  | .hbm, ⟨4, _⟩ => ⟨S2048x4096, .f32⟩
  | .hbm, ⟨5, _⟩ => ⟨S16384x4096, .f32⟩
  | .hbm, ⟨6, _⟩ => ⟨S4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Gqa.lean ====
abbrev S4x8x4096x128 : Shape := ⟨4, ![4, 8, 4096, 128]⟩
abbrev S4x2x4096x128 : Shape := ⟨4, ![4, 2, 4096, 128]⟩
abbrev S5632x2048 : Shape := ⟨2, ![5632, 2048]⟩
abbrev S2048x2048 : Shape := ⟨2, ![2048, 2048]⟩
abbrev S1024x2048 : Shape := ⟨2, ![1024, 2048]⟩
abbrev S2048x512 : Shape := ⟨2, ![2048, 512]⟩
abbrev S512x2048 : Shape := ⟨2, ![512, 2048]⟩
abbrev S4x4096x1024 : Shape := ⟨3, ![4, 4096, 1024]⟩
abbrev S1x4x1024x128 : Shape := ⟨4, ![1, 4, 1024, 128]⟩
abbrev S1x1x4096x128 : Shape := ⟨4, ![1, 1, 4096, 128]⟩
abbrev S176x2048 : Shape := ⟨2, ![176, 2048]⟩
abbrev S64x2048 : Shape := ⟨2, ![64, 2048]⟩
abbrev S32x2048 : Shape := ⟨2, ![32, 2048]⟩
abbrev S64x512 : Shape := ⟨2, ![64, 512]⟩
abbrev S16x2048 : Shape := ⟨2, ![16, 2048]⟩
abbrev S1x1024x512 : Shape := ⟨3, ![1, 1024, 512]⟩
abbrev S4096x256 : Shape := ⟨2, ![4096, 256]⟩
abbrev S8x512x512 : Shape := ⟨3, ![8, 512, 512]⟩
abbrev S8x512x128 : Shape := ⟨3, ![8, 512, 128]⟩
abbrev S8x512x256 : Shape := ⟨3, ![8, 512, 256]⟩
abbrev S4096x128 : Shape := ⟨2, ![4096, 128]⟩
abbrev S1x4x128x128 : Shape := ⟨4, ![1, 4, 128, 128]⟩
abbrev S4x128x128 : Shape := ⟨3, ![4, 128, 128]⟩
abbrev S512x128 : Shape := ⟨2, ![512, 128]⟩
abbrev S1x512x128 : Shape := ⟨3, ![1, 512, 128]⟩
abbrev S512x256 : Shape := ⟨2, ![512, 256]⟩
abbrev S1x512x256 : Shape := ⟨3, ![1, 512, 256]⟩
abbrev S1x1x512x128 : Shape := ⟨4, ![1, 1, 512, 128]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 16
  | .vmem => 37
  | .smem => 0
  | _ => 0

abbrev bufTy : (tb : Table) → Fin (tcTables nBuf tb) → BufTy
  | .hbm, ⟨0, _⟩ => ⟨S4x8x4096x128, .bf16⟩
  | .hbm, ⟨1, _⟩ => ⟨S4x2x4096x128, .bf16⟩
  | .hbm, ⟨2, _⟩ => ⟨S4x2x4096x128, .bf16⟩
  | .hbm, ⟨3, _⟩ => ⟨S5632x2048, .f32⟩
  | .hbm, ⟨4, _⟩ => ⟨S2048x2048, .f32⟩
  | .hbm, ⟨5, _⟩ => ⟨S1024x2048, .f32⟩
  | .hbm, ⟨6, _⟩ => ⟨S1024x2048, .f32⟩
  | .hbm, ⟨7, _⟩ => ⟨S2048x512, .f32⟩
  | .hbm, ⟨8, _⟩ => ⟨S512x2048, .f32⟩
  | .hbm, ⟨9, _⟩ => ⟨S4x4096x1024, .bf16⟩
  | .hbm, ⟨10, _⟩ => ⟨S5632x2048, .bf16⟩
  | .hbm, ⟨11, _⟩ => ⟨S2048x2048, .bf16⟩
  | .hbm, ⟨12, _⟩ => ⟨S1024x2048, .bf16⟩
  | .hbm, ⟨13, _⟩ => ⟨S1024x2048, .bf16⟩
  | .hbm, ⟨14, _⟩ => ⟨S2048x512, .bf16⟩
  | .hbm, ⟨15, _⟩ => ⟨S512x2048, .bf16⟩
  | .local _ .vmem, ⟨0, _⟩ => ⟨S1x4x1024x128, .bf16⟩
  | .local _ .vmem, ⟨1, _⟩ => ⟨S1x4x1024x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S176x2048, .f32⟩
  | .local _ .vmem, ⟨7, _⟩ => ⟨S176x2048, .f32⟩
  | .local _ .vmem, ⟨8, _⟩ => ⟨S64x2048, .f32⟩
  | .local _ .vmem, ⟨9, _⟩ => ⟨S64x2048, .f32⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | .local _ .vmem, ⟨13, _⟩ => ⟨S32x2048, .f32⟩
  | .local _ .vmem, ⟨14, _⟩ => ⟨S64x512, .f32⟩
  | .local _ .vmem, ⟨15, _⟩ => ⟨S64x512, .f32⟩
  | .local _ .vmem, ⟨16, _⟩ => ⟨S16x2048, .f32⟩
  | .local _ .vmem, ⟨17, _⟩ => ⟨S16x2048, .f32⟩
  | .local _ .vmem, ⟨18, _⟩ => ⟨S1x1024x512, .bf16⟩
  | .local _ .vmem, ⟨19, _⟩ => ⟨S1x1024x512, .bf16⟩
  | .local _ .vmem, ⟨20, _⟩ => ⟨S176x2048, .bf16⟩
  | .local _ .vmem, ⟨21, _⟩ => ⟨S176x2048, .bf16⟩
  | .local _ .vmem, ⟨22, _⟩ => ⟨S64x2048, .bf16⟩
  | .local _ .vmem, ⟨23, _⟩ => ⟨S64x2048, .bf16⟩
  | .local _ .vmem, ⟨24, _⟩ => ⟨S32x2048, .bf16⟩
  | .local _ .vmem, ⟨25, _⟩ => ⟨S32x2048, .bf16⟩
  | .local _ .vmem, ⟨26, _⟩ => ⟨S32x2048, .bf16⟩
  | .local _ .vmem, ⟨27, _⟩ => ⟨S32x2048, .bf16⟩
  | .local _ .vmem, ⟨28, _⟩ => ⟨S64x512, .bf16⟩
  | .local _ .vmem, ⟨29, _⟩ => ⟨S64x512, .bf16⟩
  | .local _ .vmem, ⟨30, _⟩ => ⟨S16x2048, .bf16⟩
  | .local _ .vmem, ⟨31, _⟩ => ⟨S16x2048, .bf16⟩
  | .local _ .vmem, ⟨32, _⟩ => ⟨S4096x256, .bf16⟩
  | .local _ .vmem, ⟨33, _⟩ => ⟨S8x512x512, .f32⟩
  | .local _ .vmem, ⟨34, _⟩ => ⟨S8x512x512, .f32⟩
  | .local _ .vmem, ⟨35, _⟩ => ⟨S8x512x128, .f32⟩
  | .local _ .vmem, ⟨36, _⟩ => ⟨S8x512x256, .f32⟩
  | _, _ => ⟨S4x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S176x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== GqaRefIdeal.lean ====
abbrev S4x8x4096x128 : Shape := ⟨4, ![4, 8, 4096, 128]⟩
abbrev S4x2x4096x128 : Shape := ⟨4, ![4, 2, 4096, 128]⟩
abbrev S5632x2048 : Shape := ⟨2, ![5632, 2048]⟩
abbrev S2048x2048 : Shape := ⟨2, ![2048, 2048]⟩
abbrev S1024x2048 : Shape := ⟨2, ![1024, 2048]⟩
abbrev S2048x512 : Shape := ⟨2, ![2048, 512]⟩
abbrev S512x2048 : Shape := ⟨2, ![512, 2048]⟩
abbrev S4x2x4x4096x128 : Shape := ⟨5, ![4, 2, 4, 4096, 128]⟩
abbrev S4x2x4x4096x4096 : Shape := ⟨5, ![4, 2, 4, 4096, 4096]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S4x4096x2x4x128 : Shape := ⟨5, ![4, 4096, 2, 4, 128]⟩
abbrev S4x4096x1024 : Shape := ⟨3, ![4, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x8x4096x128, .bf16⟩
  | .hbm, ⟨1, _⟩ => ⟨S4x2x4096x128, .bf16⟩
  | .hbm, ⟨2, _⟩ => ⟨S4x2x4096x128, .bf16⟩
  | .hbm, ⟨3, _⟩ => ⟨S5632x2048, .f32⟩
  | .hbm, ⟨4, _⟩ => ⟨S2048x2048, .f32⟩
  | .hbm, ⟨5, _⟩ => ⟨S1024x2048, .f32⟩
  | .hbm, ⟨6, _⟩ => ⟨S1024x2048, .f32⟩
  | .hbm, ⟨7, _⟩ => ⟨S2048x512, .f32⟩
  | .hbm, ⟨8, _⟩ => ⟨S512x2048, .f32⟩
  | .hbm, ⟨9, _⟩ => ⟨S4x8x4096x128, .f32⟩
  | .hbm, ⟨10, _⟩ => ⟨S4x2x4x4096x128, .f32⟩
  | .hbm, ⟨11, _⟩ => ⟨S4x2x4096x128, .f32⟩
  | .hbm, ⟨12, _⟩ => ⟨S4x2x4096x128, .f32⟩
  | .hbm, ⟨13, _⟩ => ⟨S4x2x4x4096x4096, .f32⟩
  | .hbm, ⟨14, _⟩ => ⟨S_, .f32⟩
  | .hbm, ⟨15, _⟩ => ⟨S_, .f32⟩
  | .hbm, ⟨16, _⟩ => ⟨S4x2x4x4096x4096, .f32⟩
  | .hbm, ⟨17, _⟩ => ⟨S4x2x4x4096x4096, .f32⟩
  | .hbm, ⟨18, _⟩ => ⟨S_, .f32⟩
  | .hbm, ⟨19, _⟩ => ⟨S4x2x4x4096, .f32⟩
  | .hbm, ⟨20, _⟩ => ⟨S_, .f32⟩
  | .hbm, ⟨21, _⟩ => ⟨S4x2x4x4096, .f32⟩
  | .hbm, ⟨22, _⟩ => ⟨S4x2x4x4096, .f32⟩
  | .hbm, ⟨23, _⟩ => ⟨S4x2x4x4096x1, .f32⟩
  | .hbm, ⟨24, _⟩ => ⟨S4x2x4x4096x4096, .f32⟩
  | .hbm, ⟨25, _⟩ => ⟨S4x2x4x4096x4096, .f32⟩
  | .hbm, ⟨26, _⟩ => ⟨S4x2x4x4096x4096, .f32⟩
  | .hbm, ⟨27, _⟩ => ⟨S_, .f32⟩
  | .hbm, ⟨28, _⟩ => ⟨S4x2x4x4096, .f32⟩
  | .hbm, ⟨29, _⟩ => ⟨S4x2x4x4096x1, .f32⟩
  | .hbm, ⟨30, _⟩ => ⟨S4x2x4x4096x4096, .f32⟩
  | .hbm, ⟨31, _⟩ => ⟨S4x2x4x4096x4096, .f32⟩
  | .hbm, ⟨32, _⟩ => ⟨S4x2x128x4x4096, .f32⟩
  | .hbm, ⟨33, _⟩ => ⟨S4x4096x2x4x128, .f32⟩
  | .hbm, ⟨34, _⟩ => ⟨S4x4096x1024, .f32⟩
  | .hbm, ⟨35, _⟩ => ⟨S4x4096x1024, .bf16⟩
  | .hbm, ⟨36, _⟩ => ⟨S5632x2048, .bf16⟩
  | .hbm, ⟨37, _⟩ => ⟨S2048x2048, .bf16⟩
  | .hbm, ⟨38, _⟩ => ⟨S1024x2048, .bf16⟩
  | .hbm, ⟨39, _⟩ => ⟨S1024x2048, .bf16⟩
  | .hbm, ⟨40, _⟩ => ⟨S2048x512, .bf16⟩
  | .hbm, ⟨41, _⟩ => ⟨S512x2048, .bf16⟩
  | _, _ => ⟨S4x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Mix.lean ====
abbrev S4x4096x2048 : Shape := ⟨3, ![4, 4096, 2048]⟩
abbrev S16384x4096 : Shape := ⟨2, ![16384, 4096]⟩
abbrev S4x4096x1024 : Shape := ⟨3, ![4, 4096, 1024]⟩
abbrev S1024x2048 : Shape := ⟨2, ![1024, 2048]⟩
abbrev S2048x2048 : Shape := ⟨2, ![2048, 2048]⟩
abbrev S1x2048 : Shape := ⟨2, ![1, 2048]⟩
abbrev S2048x512 : Shape := ⟨2, ![2048, 512]⟩
abbrev S4x256x1024 : Shape := ⟨3, ![4, 256, 1024]⟩
abbrev S512x2048 : Shape := ⟨2, ![512, 2048]⟩
abbrev S1x256x2048 : Shape := ⟨3, ![1, 256, 2048]⟩
abbrev S256x4096 : Shape := ⟨2, ![256, 4096]⟩
abbrev S1x256x1024 : Shape := ⟨3, ![1, 256, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩

abbrev nBuf : Space → Nat
  | .hbm => 14
  | .vmem => 23
  | .smem => 0
  | _ => 0

abbrev bufTy : (tb : Table) → Fin (tcTables nBuf tb) → BufTy
  | .hbm, ⟨0, _⟩ => ⟨S4x4096x2048, .f32⟩
  | .hbm, ⟨1, _⟩ => ⟨S16384x4096, .bf16⟩
  | .hbm, ⟨2, _⟩ => ⟨S4x4096x1024, .bf16⟩
  | .hbm, ⟨3, _⟩ => ⟨S4x4096x1024, .bf16⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S2048x512, .bf16⟩
  | .hbm, ⟨9, _⟩ => ⟨S4x256x1024, .bf16⟩
  | .hbm, ⟨10, _⟩ => ⟨S512x2048, .bf16⟩
  | .hbm, ⟨11, _⟩ => ⟨S1x2048, .f32⟩
  | .hbm, ⟨12, _⟩ => ⟨S4x4096x2048, .f32⟩
  | .hbm, ⟨13, _⟩ => ⟨S4x4096x2048, .bf16⟩
  | .local _ .vmem, ⟨0, _⟩ => ⟨S1x256x2048, .f32⟩
  | .local _ .vmem, ⟨1, _⟩ => ⟨S1x256x2048, .f32⟩
  | .local _ .vmem, ⟨2, _⟩ => ⟨S256x4096, .bf16⟩
  | .local _ .vmem, ⟨3, _⟩ => ⟨S256x4096, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S2048x512, .bf16⟩
  | .local _ .vmem, ⟨13, _⟩ => ⟨S1x256x1024, .bf16⟩
  | .local _ .vmem, ⟨14, _⟩ => ⟨S1x256x1024, .bf16⟩
  | .local _ .vmem, ⟨15, _⟩ => ⟨S512x2048, .bf16⟩
  | .local _ .vmem, ⟨16, _⟩ => ⟨S1x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .bf16⟩
  | .local _ .vmem, ⟨20, _⟩ => ⟨S1x256x2048, .bf16⟩
  | .local _ .vmem, ⟨21, _⟩ => ⟨S256x2048, .f32⟩
  | .local _ .vmem, ⟨22, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, c0_i32_12.toNat, c0_i32_13.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixRefIdeal.lean ====
abbrev S4x4096x2048 : Shape := ⟨3, ![4, 4096, 2048]⟩
abbrev S16384x4096 : Shape := ⟨2, ![16384, 4096]⟩
abbrev S4x4096x1024 : Shape := ⟨3, ![4, 4096, 1024]⟩
abbrev S1024x2048 : Shape := ⟨2, ![1024, 2048]⟩
abbrev S2048x2048 : Shape := ⟨2, ![2048, 2048]⟩
abbrev S1x2048 : Shape := ⟨2, ![1, 2048]⟩
abbrev S2048x512 : Shape := ⟨2, ![2048, 512]⟩
abbrev S4x256x1024 : Shape := ⟨3, ![4, 256, 1024]⟩
abbrev S512x2048 : Shape := ⟨2, ![512, 2048]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S2048 : Shape := ⟨1, ![2048]⟩
abbrev S1x1x2048 : Shape := ⟨3, ![1, 1, 2048]⟩
abbrev S4x4096x512 : Shape := ⟨3, ![4, 4096, 512]⟩
abbrev S4x4096x4x128 : Shape := ⟨4, ![4, 4096, 4, 128]⟩
abbrev S4x256x512 : Shape := ⟨3, ![4, 256, 512]⟩
abbrev S4x256x4x128 : Shape := ⟨4, ![4, 256, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 95
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16384x4096, .bf16⟩
  | .hbm, ⟨2, _⟩ => ⟨S4x4096x1024, .bf16⟩
  | .hbm, ⟨3, _⟩ => ⟨S4x4096x1024, .bf16⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S2048x512, .bf16⟩
  | .hbm, ⟨9, _⟩ => ⟨S4x256x1024, .bf16⟩
  | .hbm, ⟨10, _⟩ => ⟨S512x2048, .bf16⟩
  | .hbm, ⟨11, _⟩ => ⟨S1x2048, .f32⟩
  | .hbm, ⟨12, _⟩ => ⟨S4x4096x1024, .f32⟩
  | .hbm, ⟨13, _⟩ => ⟨S4x4096x1024, .f32⟩
  | .hbm, ⟨14, _⟩ => ⟨S1024x2048, .f32⟩
  | .hbm, ⟨15, _⟩ => ⟨S1024x2048, .f32⟩
  | .hbm, ⟨16, _⟩ => ⟨S2048x2048, .f32⟩
  | .hbm, ⟨17, _⟩ => ⟨S2048x512, .f32⟩
  | .hbm, ⟨18, _⟩ => ⟨S4x256x1024, .f32⟩
  | .hbm, ⟨19, _⟩ => ⟨S512x2048, .f32⟩
  | .hbm, ⟨20, _⟩ => ⟨S16384x4096, .f32⟩
  | .hbm, ⟨21, _⟩ => ⟨S4x4096x4096, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x2048, .f32⟩
  | .hbm, ⟨43, _⟩ => ⟨S4x4096x2048, .f32⟩
  | .hbm, ⟨44, _⟩ => ⟨S2048, .f32⟩
  | .hbm, ⟨45, _⟩ => ⟨S1x1x2048, .f32⟩
  | .hbm, ⟨46, _⟩ => ⟨S4x4096x2048, .f32⟩
  | .hbm, ⟨47, _⟩ => ⟨S4x4096x2048, .f32⟩
  | .hbm, ⟨48, _⟩ => ⟨S4x4096x512, .f32⟩
  | .hbm, ⟨49, _⟩ => ⟨S4x4096x4x128, .f32⟩
  | .hbm, ⟨50, _⟩ => ⟨S4x256x512, .f32⟩
  | .hbm, ⟨51, _⟩ => ⟨S4x256x4x128, .f32⟩
  | .hbm, ⟨52, _⟩ => ⟨S4x256x512, .f32⟩
  | .hbm, ⟨53, _⟩ => ⟨S4x256x4x128, .f32⟩
  | .hbm, ⟨54, _⟩ => ⟨S4x4x4096x256, .f32⟩
  | .hbm, ⟨55, _⟩ => ⟨S_, .f32⟩
  | .hbm, ⟨56, _⟩ => ⟨S4x4x4096x256, .f32⟩
  | .hbm, ⟨57, _⟩ => ⟨S4x4x4096x256, .f32⟩
  | .hbm, ⟨58, _⟩ => ⟨S_, .f32⟩
  | .hbm, ⟨59, _⟩ => ⟨S4x4x4096, .f32⟩
  | .hbm, ⟨60, _⟩ => ⟨S_, .f32⟩
  | .hbm, ⟨61, _⟩ => ⟨S4x4x4096, .f32⟩
  | .hbm, ⟨62, _⟩ => ⟨S4x4x4096, .f32⟩
  | .hbm, ⟨63, _⟩ => ⟨S4x4x4096x1, .f32⟩
  | .hbm, ⟨64, _⟩ => ⟨S4x4x4096x256, .f32⟩
  | .hbm, ⟨65, _⟩ => ⟨S4x4x4096x256, .f32⟩
  | .hbm, ⟨66, _⟩ => ⟨S4x4x4096x256, .f32⟩
  | .hbm, ⟨67, _⟩ => ⟨S_, .f32⟩
  | .hbm, ⟨68, _⟩ => ⟨S4x4x4096, .f32⟩
  | .hbm, ⟨69, _⟩ => ⟨S4x4x4096x1, .f32⟩
  | .hbm, ⟨70, _⟩ => ⟨S4x4x4096x256, .f32⟩
  | .hbm, ⟨71, _⟩ => ⟨S4x4x4096x256, .f32⟩
  | .hbm, ⟨72, _⟩ => ⟨S4x4x128x4096, .f32⟩
  | .hbm, ⟨73, _⟩ => ⟨S4x4096x4x128, .f32⟩
  | .hbm, ⟨74, _⟩ => ⟨S4x4096x512, .f32⟩
  | .hbm, ⟨75, _⟩ => ⟨S4x4096x2048, .f32⟩
  | .hbm, ⟨76, _⟩ => ⟨S4x4096x2048, .f32⟩
  | .hbm, ⟨77, _⟩ => ⟨S4x4096x2048, .f32⟩
  | .hbm, ⟨78, _⟩ => ⟨S_, .f32⟩
  | .hbm, ⟨79, _⟩ => ⟨S4x4096, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S_, .f32⟩
  | .hbm, ⟨85, _⟩ => ⟨S4x4096x1, .f32⟩
  | .hbm, ⟨86, _⟩ => ⟨S4x4096x1, .f32⟩
  | .hbm, ⟨87, _⟩ => ⟨S4x4096x1, .f32⟩
  | .hbm, ⟨88, _⟩ => ⟨S4x4096x2048, .f32⟩
  | .hbm, ⟨89, _⟩ => ⟨S4x4096x2048, .f32⟩
  | .hbm, ⟨90, _⟩ => ⟨S2048, .f32⟩
  | .hbm, ⟨91, _⟩ => ⟨S1x1x2048, .f32⟩
  | .hbm, ⟨92, _⟩ => ⟨S4x4096x2048, .f32⟩
  | .hbm, ⟨93, _⟩ => ⟨S4x4096x2048, .f32⟩
  | .hbm, ⟨94, _⟩ => ⟨S4x4096x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Proof.AttnStep.lean ====
/-
  One step of the running softmax of the attention kernel, as functions of the vectors it reads: the row maximum
  after a chunk of 512 keys, and the weighted sums after it. The kernel's printed text cuts these operations into
  many pieces; here they are put together once, and `Proof/AttnBlock.lean` finds them in every one of its steps.
-/
module

public import proofs.«01_k».proof.Proof.Gen.AttnIdeal.Skeleton
public import Idealize.ShloMosaic.Lib.Pipeline.Value

@[expose] public section

noncomputable section

namespace Cert.AttnStep

open Idealize.ShloMosaic Idealize.ShloMosaic.TcCoe Cert.AttnIdeal Cert.AttnIdeal.Gen

variable {F : FTy → Type} [FloatOps F]

/-- Four columns of 128 scores of a chunk of 512: the scores' columns from `o` on. -/
abbrev cols (s : FVec F S512x512 .f32) (o : Nat) (h : ∀ a, (![0, o] : Fin 2 → Nat) a + S512x128.size a ≤ S512x512.size a) :
    FVec F S512x128 .f32 := View.ld (Val := Elt F) (e' := .f32) s (Rect.unit (s := S512x512) ![0, o] S512x128.size h)

/-- The row maximum after a chunk: the greater of the one before and the greatest score of the chunk's row. -/
def newM (c0 c1 c2 c3 m : FVec F S512x128 .f32) : FVec F S512x128 .f32 :=
  maximumf m (broadcastTo S512x128 (shapeCast S512x1 (multiReduction .maximumf [1] S512 (maximumf (maximumf (maximumf c0 c1) c2) c3)
    0xFF800000#32 reduces_S512x128_S512 (.inl rfl) rfl) shapeCasts_S512_S512x1) broadcasts_S512x1_S512x128)

/-- Two vectors of 128 columns side by side. -/
def cat2 (x y : FVec F S512x128 .f32) : FVec F S512x256 .f32 :=
  concatenate S512x256 1 [⟨S512x128, x⟩, ⟨S512x128, y⟩] concatenates_S512x128_S512x128_S512x256_d1

/-- The printed joining of two vectors is `cat2`. -/
theorem cat2_fold (x y : FVec F S512x128 .f32) :
    concatenate S512x256 1 [⟨S512x128, x⟩, ⟨S512x128, y⟩] concatenates_S512x128_S512x128_S512x256_d1 = cat2 x y := rfl

/-- Four vectors of 128 columns side by side. -/
def cat4 (x y z w : FVec F S512x128 .bf16) : FVec F S512x512 .bf16 :=
  concatenate S512x512 1 [⟨S512x128, x⟩, ⟨S512x128, y⟩, ⟨S512x128, z⟩, ⟨S512x128, w⟩]
    concatenates_S512x128_S512x128_S512x128_S512x128_S512x512_d1

/-- The printed joining of four vectors is `cat4`. -/
theorem cat4_fold (x y z w : FVec F S512x128 .bf16) :
    concatenate S512x512 1 [⟨S512x128, x⟩, ⟨S512x128, y⟩, ⟨S512x128, z⟩, ⟨S512x128, w⟩]
      concatenates_S512x128_S512x128_S512x128_S512x128_S512x512_d1 = cat4 x y z w := rfl

/-- The weighted sums after a chunk: those before, brought to the new maximum, plus the chunk's weights times its values. -/
def newA (c0 c1 c2 c3 m : FVec F S512x128 .f32) (a : FVec F S512x256 .f32) (vx : FVec F S512x256 .bf16) : FVec F S512x256 .f32 :=
  addf (mulf (cat2 (exp2 (subf m (newM c0 c1 c2 c3 m))) (exp2 (subf m (newM c0 c1 c2 c3 m)))) a)
    (matmul dot_S512x512_S512x256_S512x256_1_0_0_1_n_n none
      (cat4 (exp2 (truncf .bf16 (subf c0 (newM c0 c1 c2 c3 m)) bitsLt_bf16_f32)) (exp2 (truncf .bf16 (subf c1 (newM c0 c1 c2 c3 m)) bitsLt_bf16_f32))
        (exp2 (truncf .bf16 (subf c2 (newM c0 c1 c2 c3 m)) bitsLt_bf16_f32)) (exp2 (truncf .bf16 (subf c3 (newM c0 c1 c2 c3 m)) bitsLt_bf16_f32)))
      vx (constant S512x256 .f32 0x00000000#32))

/-- The scores of 512 queries against a chunk of 512 keys. -/
def scores (q k : FVec F S1x1x512x256 .bf16) : FVec F S512x512 .f32 :=
  matmul dot_S512x256_S512x256_S512x512_1_1_0_0_n_n none
    (shapeCast S512x256 (shapeCast S1x512x256 q shapeCasts_S1x1x512x256_S1x512x256) shapeCasts_S1x512x256_S512x256)
    (shapeCast S512x256 k shapeCasts_S1x1x512x256_S512x256) (constant S512x512 .f32 0x00000000#32)

/-- Block `u` of 512 queries out of the 2048 of a point. -/
abbrev qAt (x : FVec F S1x1x2048x256 .bf16) (u : Nat) : FVec F S1x1x512x256 .bf16 :=
  View.ld (Val := Elt F) (e' := .bf16) x (Rect.unit (s := S1x1x2048x256) ![0, 0, 512 * (u % 4), 0] S1x1x512x256.size (by
    intro a; fin_cases a <;> simp <;> omega))

/-- Chunk `n` of 512 keys out of 4096. -/
abbrev kAt (x : FVec F S1x1x4096x256 .bf16) (n : Nat) : FVec F S1x1x512x256 .bf16 :=
  View.ld (Val := Elt F) (e' := .bf16) x (Rect.unit (s := S1x1x4096x256) ![0, 0, 512 * (n % 8), 0] S1x1x512x256.size (by
    intro a; fin_cases a <;> simp <;> omega))

/-- Chunk `n` of 512 rows of the 4096 rows of values and ones. -/
abbrev vAt (x : FVec F S4096x256 .bf16) (n : Nat) : FVec F S512x256 .bf16 :=
  View.ld (Val := Elt F) (e' := .bf16) x (Rect.unit (s := S4096x256) ![512 * (n % 8), 0] S512x256.size (by
    intro a; fin_cases a <;> simp <;> omega))

/-- The four columns' loads of 128 fit in 512. -/
theorem cols_fit (o : Nat) (h : o + 128 ≤ 512) (a : Fin 2) : (![0, o] : Fin 2 → Nat) a + S512x128.size a ≤ S512x512.size a := by
  fin_cases a <;> simp <;> omega

/-- The running row maximum and weighted sums after the first `n` chunks of scores `S` and values `V`. -/
def run (S : Nat → FVec F S512x512 .f32) (V : Nat → FVec F S512x256 .bf16) : Nat → FVec F S512x128 .f32 × FVec F S512x256 .f32
  | 0 => (broadcast S512x128 (FloatOps.ofBits .f32 0xF149F2CA#32), broadcast S512x256 (FloatOps.ofBits .f32 0x00000000#32))
  | n + 1 =>
    (newM (cols (S n) 0 (cols_fit 0 (by decide))) (cols (S n) 128 (cols_fit 128 (by decide)))
        (cols (S n) 256 (cols_fit 256 (by decide))) (cols (S n) 384 (cols_fit 384 (by decide))) (run S V n).1,
      newA (cols (S n) 0 (cols_fit 0 (by decide))) (cols (S n) 128 (cols_fit 128 (by decide)))
        (cols (S n) 256 (cols_fit 256 (by decide))) (cols (S n) 384 (cols_fit 384 (by decide))) (run S V n).1 (run S V n).2 (V n))

/-- The running row maximum and weighted sums after the first `n` chunks, for queries `q`, keys `k` and values `vx`. -/
abbrev state (q : FVec F S1x1x512x256 .bf16) (k : FVec F S1x1x4096x256 .bf16) (vx : FVec F S4096x256 .bf16) :
    Nat → FVec F S512x128 .f32 × FVec F S512x256 .f32 := run (fun n => scores q (kAt k n)) (fun n => vAt vx n)

/-- A half of the 256 columns of sums: 128 columns from `o` on. -/
abbrev half (a : FVec F S512x256 .f32) (o : Nat) (h : ∀ i, (![0, o] : Fin 2 → Nat) i + S512x128.size i ≤ S512x256.size i) :
    FVec F S512x128 .f32 := View.ld (Val := Elt F) (e' := .f32) a (Rect.unit (s := S512x256) ![0, o] S512x128.size h)

/-- The two halves' loads of 128 fit in 256. -/
theorem half_fit (o : Nat) (h : o + 128 ≤ 256) (a : Fin 2) : (![0, o] : Fin 2 → Nat) a + S512x128.size a ≤ S512x256.size a := by
  fin_cases a <;> simp <;> omega

/-- What one block of 512 queries ends with: the weighted sums over the sums of weights. -/
def blockOut (q : FVec F S1x1x512x256 .bf16) (k : FVec F S1x1x4096x256 .bf16) (vx : FVec F S4096x256 .bf16) : FVec F S512x128 .bf16 :=
  truncf .bf16 (divf (half (state q k vx 8).2 0 (half_fit 0 (by decide))) (half (state q k vx 8).2 128 (half_fit 128 (by decide))))
    bitsLt_bf16_f32

/-- The store of query block `u`'s result. -/
def piece (x0 : FVec F S1x1x2048x256 .bf16) (k : FVec F S1x1x4096x256 .bf16) (vx : FVec F S4096x256 .bf16) (u : Nat) :
    View.Piece (Elt F) S1x2048x128 .bf16 :=
  ⟨Rect.unit (s := S1x2048x128) ![0, 512 * (u % 4), 0] S1x512x128.size (by intro a; fin_cases a <;> simp <;> omega),
    shapeCast S1x512x128 (blockOut (qAt x0 u) k vx) shapeCasts_S512x128_S1x512x128⟩

/-- The scratch's two stores: the ones to the right, the values `x2` to the left. -/
def scrPieces (x2 : FVec F S1x1x4096x128 .bf16) : List (View.Piece (Elt F) S4096x256 .bf16) :=
  [⟨Rect.unit (s := S4096x256) ![0, 128] S4096x128.size inb_S4096x256_S4096x128_0_128, broadcast S4096x128 (Scalar.ofBits .bf16 0x3F80#16)⟩,
    ⟨Rect.unit (s := S4096x256) ![0, 0] S4096x128.size inb_S4096x256_S4096x128_0_0, shapeCast S4096x128 x2 shapeCasts_S1x1x4096x128_S4096x128⟩]

/-- The operations of a chunk's scores, put together. -/
theorem scores_fold (q k : FVec F S1x1x512x256 .bf16) :
    matmul dot_S512x256_S512x256_S512x512_1_1_0_0_n_n none
      (shapeCast S512x256 (shapeCast S1x512x256 q shapeCasts_S1x1x512x256_S1x512x256) shapeCasts_S1x512x256_S512x256)
      (shapeCast S512x256 k shapeCasts_S1x1x512x256_S512x256) (constant S512x512 .f32 0x00000000#32) = scores q k := rfl

/-- The operations of a step's row maximum, put together. -/
theorem newM_fold (c0 c1 c2 c3 m : FVec F S512x128 .f32) :
    maximumf m (broadcastTo S512x128 (shapeCast S512x1 (multiReduction .maximumf [1] S512 (maximumf (maximumf (maximumf c0 c1) c2) c3)
      0xFF800000#32 reduces_S512x128_S512 (.inl rfl) rfl) shapeCasts_S512_S512x1) broadcasts_S512x1_S512x128) = newM c0 c1 c2 c3 m := rfl

/-- The operations of a step's weighted sums, put together. -/
theorem newA_fold (c0 c1 c2 c3 m : FVec F S512x128 .f32) (a : FVec F S512x256 .f32) (vx : FVec F S512x256 .bf16) :
    addf (mulf (cat2 (exp2 (subf m (newM c0 c1 c2 c3 m))) (exp2 (subf m (newM c0 c1 c2 c3 m)))) a)
    (matmul dot_S512x512_S512x256_S512x256_1_0_0_1_n_n none
      (cat4 (exp2 (truncf .bf16 (subf c0 (newM c0 c1 c2 c3 m)) bitsLt_bf16_f32)) (exp2 (truncf .bf16 (subf c1 (newM c0 c1 c2 c3 m)) bitsLt_bf16_f32))
        (exp2 (truncf .bf16 (subf c2 (newM c0 c1 c2 c3 m)) bitsLt_bf16_f32)) (exp2 (truncf .bf16 (subf c3 (newM c0 c1 c2 c3 m)) bitsLt_bf16_f32)))
      vx (constant S512x256 .f32 0x00000000#32)) = newA c0 c1 c2 c3 m a vx := rfl

/-- A load inside the rectangle that was stored last reads the stored vector. -/
theorem readCov_within {Val : EltTy → Type} [∀ e, Nonempty (Val e)] {sig : RefSig} {κ : Kind} {sp : Space} {s : Shape} {e : EltTy}
    (v : View sig κ sp s e) (r : Rect s) (w : r.shape.Idx → Val e) (L : List (View.Piece Val s e)) (B : LoadRect r.shape)
    (h : ∀ a, r.stride a = 1) : v.readCov (⟨r, w⟩ :: L) (r.withinL B h) = fun j => w (B.idx j) := by
  rw [View.readCov_eq_canon']
  funext j
  exact (congrArg (View.canon (⟨r, w⟩ :: L)) (Rect.idx_withinL r B h j)).trans (View.canon_cons_emb r w L (B.idx j))

/-- Putting a leading axis of length one in front and loading under it is loading. -/
theorem reshape_consLift {n : Nat} {d : Fin n → Nat} (lr : LoadRect ⟨n, d⟩) (sz : Fin (n + 1) → Nat) (h0 : sz 0 = 1)
    (hs : ∀ i, sz i.succ = d i) (hn : (⟨n, d⟩ : Shape).numel = (⟨n + 1, sz⟩ : Shape).numel)
    (hR : lr.shape.numel = (lr.consLift sz h0 hs).shape.numel) (x : lr.shape.Idx) :
    Shape.reshapeEquiv hn.symm ((lr.consLift sz h0 hs).idx (Shape.reshapeEquiv hR x)) = lr.idx x := by
  rw [← LoadRect.liftsTo_consLift lr sz h0 hs x, Shape.reshapeEquiv_reshapeEquiv]
  exact Shape.reshapeEquiv_self _ _

/-- A load of the rectangle that was stored last, of a plane of a three-axis array. -/
theorem readCov_plane {Val : EltTy → Type} [∀ e, Nonempty (Val e)] {sig : RefSig} {κ : Kind} {sp : Space} {d : Fin 3 → Nat} {e : EltTy}
    (v : View sig κ sp ⟨3, d⟩ e) (off sz : Fin 3 → Nat) (inb : ∀ a, off a + sz a ≤ (⟨3, d⟩ : Shape).size a)
    (w : (⟨3, sz⟩ : Shape).Idx → Val e) (L : List (View.Piece Val ⟨3, d⟩ e)) :
    v.readCov (⟨Rect.unit off sz inb, w⟩ :: L) (Rect.unit off sz inb).toLoadRect = w :=
  View.readCov_cons_toLoadRect v (Rect.unit off sz inb) w L

/-- A load out of a two-axis array of several stores reads what the stores left. -/
theorem readCov_scratch {Val : EltTy → Type} [∀ e, Nonempty (Val e)] {sig : RefSig} {κ : Kind} {sp : Space} {d : Fin 2 → Nat} {e : EltTy}
    (v : View sig κ sp ⟨2, d⟩ e) (off sz : Fin 2 → Nat) (inb : ∀ a, off a + sz a ≤ (⟨2, d⟩ : Shape).size a)
    (L : List (View.Piece Val ⟨2, d⟩ e)) :
    v.readCov L (Rect.unit off sz inb).toLoadRect = View.ld (View.canon L) (Rect.unit off sz inb) := by
  rw [View.readCov_eq_canon']

/-- Loading the whole of a two-axis array is the array. -/
theorem ld_whole2 {Val : EltTy → Type} {e : EltTy} {a b : Nat} (x : (⟨2, ![a, b]⟩ : Shape).Idx → Val e)
    (inb : ∀ i, (![0, 0] : Fin 2 → Nat) i + (![a, b] : Fin 2 → Nat) i ≤ (⟨2, ![a, b]⟩ : Shape).size i) :
    View.ld x (Rect.unit (s := ⟨2, ![a, b]⟩) ![0, 0] ![a, b] inb) = x := by
  funext j
  refine congrArg x (funext fun i => Fin.ext ?_)
  fin_cases i <;> simp [Rect.unit]

/-- Loading the whole of a four-axis array is the array. -/
theorem ld_whole4 {Val : EltTy → Type} {e : EltTy} {a b c d : Nat} (x : (⟨4, ![a, b, c, d]⟩ : Shape).Idx → Val e)
    (inb : ∀ i, (![0, 0, 0, 0] : Fin 4 → Nat) i + (![a, b, c, d] : Fin 4 → Nat) i ≤ (⟨4, ![a, b, c, d]⟩ : Shape).size i) :
    View.ld x (Rect.unit (s := ⟨4, ![a, b, c, d]⟩) ![0, 0, 0, 0] ![a, b, c, d] inb) = x := by
  funext j
  refine congrArg x (funext fun i => Fin.ext ?_)
  fin_cases i <;> simp [Rect.unit]

/-- A load of some columns of a plane that was stored last, the plane's leading axis of length one left out. -/
theorem readCov_cols {Val : EltTy → Type} [∀ e, Nonempty (Val e)] {sig : RefSig} {κ : Kind} {sp : Space} {d : Fin 3 → Nat} {e : EltTy}
    {t : Fin 2 → Nat} (v : View sig κ sp ⟨3, d⟩ e) (off sz : Fin 3 → Nat) (inb : ∀ a, off a + sz a ≤ (⟨3, d⟩ : Shape).size a)
    (w : (⟨2, t⟩ : Shape).Idx → Val e) (hw : (⟨2, t⟩ : Shape).ShapeCasts ⟨3, sz⟩) (L : List (View.Piece Val ⟨3, d⟩ e))
    (off' sz' : Fin 2 → Nat) (inb' : ∀ a, off' a + sz' a ≤ (⟨2, t⟩ : Shape).size a) (h0 : sz 0 = 1) (hs : ∀ i, sz i.succ = t i)
    (hst : ∀ a, (Rect.unit (s := ⟨3, d⟩) off sz inb).stride a = 1)
    (hR : (Rect.unit (s := ⟨2, t⟩) off' sz' inb').toLoadRect.shape.numel
      = ((Rect.unit (s := ⟨2, t⟩) off' sz' inb').toLoadRect.consLift sz h0 hs).shape.numel) :
    LoadRect.valAlong hR (v.readCov (⟨Rect.unit off sz inb, shapeCast ⟨3, sz⟩ w hw⟩ :: L)
      ((Rect.unit (s := ⟨3, d⟩) off sz inb).withinL ((Rect.unit (s := ⟨2, t⟩) off' sz' inb').toLoadRect.consLift sz h0 hs) hst))
      = View.ld w (Rect.unit (s := ⟨2, t⟩) off' sz' inb') := by
  funext x
  refine (congrFun (readCov_within v (Rect.unit off sz inb) _ L (LoadRect.consLift _ sz h0 hs) hst) _).trans ?_
  exact congrArg w (reshape_consLift _ sz h0 hs (Eq.symm hw) hR x)

end Cert.AttnStep
-- ==== Proof.AttnBlockA.lean ====
/-
  What the attention kernel leaves at a point that stores the values and the ones first (case A): the scratch's two
  stores, the four stores of `Proof/AttnStep.lean`'s closed form over what those left, and the two rounded weight blocks.
-/
module

public import proofs.«01_k».proof.Proof.Gen.AttnIdeal.Frame.RunA
public import proofs.«01_k».proof.Proof.AttnStep

@[expose] public section

set_option maxRecDepth 16384

noncomputable section

namespace Cert.AttnBlock

open Idealize.ShloMosaic Idealize.ShloMosaic.TcCoe Idealize.ShloMosaic.Tactic Idealize.ShloMosaic.Rounds
open Cert.AttnIdeal Cert.AttnIdeal.Gen Cert.AttnStep

variable {F : FTy → Type} [FloatOps F]
variable (c : Dev nD)
  (i : grid0.Coords)
  (arg3 : Memref sig .tc .vmem S1x1x2048x256 .bf16)
  (harg3 : arg3.IsWhole)
  (arg4 : Memref sig .tc .vmem S1x1x4096x256 .bf16)
  (harg4 : arg4.IsWhole)
  (arg5 : Memref sig .tc .vmem S1x1x4096x128 .bf16)
  (harg5 : arg5.IsWhole)
  (arg6 : Memref sig .tc .vmem S32x11264 .f32)
  (harg6 : arg6.IsWhole)
  (arg7 : Memref sig .tc .vmem S32x4096 .f32)
  (harg7 : arg7.IsWhole)
  (arg8 : Memref sig .tc .vmem S1x2048x128 .bf16)
  (harg8 : arg8.IsWhole)
  (arg9 : Memref sig .tc .vmem S32x11264 .bf16)
  (harg9 : arg9.IsWhole)
  (arg10 : Memref sig .tc .vmem S32x4096 .bf16)
  (harg10 : arg10.IsWhole)
  (arg11 : Memref sig .tc .vmem S4096x256 .bf16)
  (harg11 : arg11.IsWhole)
  (arg12 : Memref sig .tc .vmem S4x512x512 .f32)
  (harg12 : arg12.IsWhole)
  (arg13 : Memref sig .tc .vmem S4x512x512 .f32)
  (harg13 : arg13.IsWhole)
  (arg14 : Memref sig .tc .vmem S4x512x128 .f32)
  (harg14 : arg14.IsWhole)
  (arg15 : Memref sig .tc .vmem S4x512x256 .f32)
  (harg15 : arg15.IsWhole)
variable (x0 : Vec F S1x1x2048x256 .bf16) (x1 : Vec F S1x1x4096x256 .bf16) (x2 : Vec F S1x1x4096x128 .bf16) (x3 : Vec F S32x11264 .f32) (x4 : Vec F S32x4096 .f32)

/-- CASE A, the scratch: the ones and the values. -/
theorem scratch_A (hc0 : cond0_0 i) : (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.2.1 = scrPieces x2 := by
  unfold kernelRun0_A
  dsimp only
  sl_unfold_run_names
  simp only [k0_pay4, k0_pay5, shapeCast_self, View.readAt_eq_ld, Memref.IsWhole.read_unread, ld_whole2, ld_whole4]
  rfl

/-- CASE A, the first weight block: rounded. -/
theorem cast1_A (hc0 : cond0_0 i) : (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.1 = [⟨Rect.unit (s := S32x11264) ![0, 0] S32x11264.size inb_S32x11264_S32x11264_0_0, truncf .bf16 x3 bitsLt_bf16_f32⟩] := by
  unfold kernelRun0_A
  dsimp only
  sl_unfold_run_names
  simp only [k0_pay2, View.readAt_eq_ld, Memref.IsWhole.read_unread, ld_whole2]

/-- CASE A, the second weight block: rounded. -/
theorem cast2_A (hc0 : cond0_0 i) : (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.1 = [⟨Rect.unit (s := S32x4096) ![0, 0] S32x4096.size inb_S32x4096_S32x4096_0_0, truncf .bf16 x4 bitsLt_bf16_f32⟩] := by
  unfold kernelRun0_A
  dsimp only
  sl_unfold_run_names
  simp only [k0_pay3, View.readAt_eq_ld, Memref.IsWhole.read_unread, ld_whole2]

set_option maxHeartbeats 4000000 in
/-- CASE A, the result: the scratch holds the values and the ones. -/
theorem pieces_A (hc0 : cond0_0 i) :
    (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4).1
      = [piece x0 x1 (View.canon (scrPieces x2)) 3, piece x0 x1 (View.canon (scrPieces x2)) 2, piece x0 x1 (View.canon (scrPieces x2)) 1,
        piece x0 x1 (View.canon (scrPieces x2)) 0] := by
  unfold kernelRun0_A
  dsimp only
  sl_unfold_run_names
  dsimp -proj only [k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131, k0_pay132, k0_pay133, k0_pay134,
    k0_pay135, k0_pay136, k0_pay137, k0_pay138, k0_pay139, k0_pay140, k0_pay141, k0_pay142, k0_pay143, k0_pay144, k0_pay145, k0_pay146,
    k0_pay147, k0_pay148, k0_pay149, k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194,
    k0_pay195, k0_pay196, k0_pay197, k0_pay198, k0_pay199, k0_pay200, k0_pay201, k0_pay202, k0_pay203, k0_pay204, k0_pay205, k0_pay206,
    k0_pay207, k0_pay208, k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227, k0_pay228, k0_pay229, k0_pay230,
    k0_pay231, k0_pay232, k0_pay233, k0_pay234, k0_pay235, k0_pay236, k0_pay237, cat2_fold, cat4_fold, newM_fold, newA_fold, scores_fold]
  simp only [readCov_plane, readCov_cols, readCov_scratch, shapeCast_shapeCast, shapeCast_self, View.readAt_eq_ld, Memref.IsWhole.read_unread, ld_whole2, ld_whole4]
  rfl

end Cert.AttnBlock
-- ==== Proof.AttnBlockB.lean ====
/-
  What the attention kernel leaves at a point that finds the values and the ones stored (case B): the four stores of
  `Proof/AttnStep.lean`'s closed form over what the scratch holds, and the two rounded weight blocks.
-/
module

public import proofs.«01_k».proof.Proof.Gen.AttnIdeal.Frame.RunB
public import proofs.«01_k».proof.Proof.AttnStep

@[expose] public section

set_option maxRecDepth 16384

noncomputable section

namespace Cert.AttnBlock

open Idealize.ShloMosaic Idealize.ShloMosaic.TcCoe Idealize.ShloMosaic.Tactic Idealize.ShloMosaic.Rounds
open Cert.AttnIdeal Cert.AttnIdeal.Gen Cert.AttnStep

variable {F : FTy → Type} [FloatOps F]
variable (c : Dev nD)
  (i : grid0.Coords)
  (arg3 : Memref sig .tc .vmem S1x1x2048x256 .bf16)
  (harg3 : arg3.IsWhole)
  (arg4 : Memref sig .tc .vmem S1x1x4096x256 .bf16)
  (harg4 : arg4.IsWhole)
  (arg5 : Memref sig .tc .vmem S1x1x4096x128 .bf16)
  (harg5 : arg5.IsWhole)
  (arg6 : Memref sig .tc .vmem S32x11264 .f32)
  (harg6 : arg6.IsWhole)
  (arg7 : Memref sig .tc .vmem S32x4096 .f32)
  (harg7 : arg7.IsWhole)
  (arg8 : Memref sig .tc .vmem S1x2048x128 .bf16)
  (harg8 : arg8.IsWhole)
  (arg9 : Memref sig .tc .vmem S32x11264 .bf16)
  (harg9 : arg9.IsWhole)
  (arg10 : Memref sig .tc .vmem S32x4096 .bf16)
  (harg10 : arg10.IsWhole)
  (arg11 : Memref sig .tc .vmem S4096x256 .bf16)
  (harg11 : arg11.IsWhole)
  (arg12 : Memref sig .tc .vmem S4x512x512 .f32)
  (harg12 : arg12.IsWhole)
  (arg13 : Memref sig .tc .vmem S4x512x512 .f32)
  (harg13 : arg13.IsWhole)
  (arg14 : Memref sig .tc .vmem S4x512x128 .f32)
  (harg14 : arg14.IsWhole)
  (arg15 : Memref sig .tc .vmem S4x512x256 .f32)
  (harg15 : arg15.IsWhole)
variable (x0 : Vec F S1x1x2048x256 .bf16) (x1 : Vec F S1x1x4096x256 .bf16) (x2 : Vec F S1x1x4096x128 .bf16) (x3 : Vec F S32x11264 .f32) (x4 : Vec F S32x4096 .f32)

/-- Case B, the first weight block: rounded. -/
theorem cast1_B (hc0 : ¬cond0_0 i) (xs0 : Vec F S4096x256 .bf16) : (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0).2.1 = [⟨Rect.unit (s := S32x11264) ![0, 0] S32x11264.size inb_S32x11264_S32x11264_0_0, truncf .bf16 x3 bitsLt_bf16_f32⟩] := by
  unfold kernelRun0_B
  dsimp only
  sl_unfold_run_names
  simp only [k0_pay2, View.readAt_eq_ld, Memref.IsWhole.read_unread, ld_whole2]

/-- Case B, the second weight block: rounded. -/
theorem cast2_B (hc0 : ¬cond0_0 i) (xs0 : Vec F S4096x256 .bf16) : (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0).2.2.1 = [⟨Rect.unit (s := S32x4096) ![0, 0] S32x4096.size inb_S32x4096_S32x4096_0_0, truncf .bf16 x4 bitsLt_bf16_f32⟩] := by
  unfold kernelRun0_B
  dsimp only
  sl_unfold_run_names
  simp only [k0_pay3, View.readAt_eq_ld, Memref.IsWhole.read_unread, ld_whole2]

set_option maxHeartbeats 4000000 in
/-- Case B: the scratch holds `xs0`. -/
theorem pieces_B (hc0 : ¬cond0_0 i) (xs0 : Vec F S4096x256 .bf16) :
    (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0).1
      = [piece x0 x1 xs0 3, piece x0 x1 xs0 2, piece x0 x1 xs0 1, piece x0 x1 xs0 0] := by
  unfold kernelRun0_B
  dsimp only
  sl_unfold_run_names
  dsimp -proj only [k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131, k0_pay132, k0_pay133, k0_pay134,
    k0_pay135, k0_pay136, k0_pay137, k0_pay138, k0_pay139, k0_pay140, k0_pay141, k0_pay142, k0_pay143, k0_pay144, k0_pay145, k0_pay146,
    k0_pay147, k0_pay148, k0_pay149, k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194,
    k0_pay195, k0_pay196, k0_pay197, k0_pay198, k0_pay199, k0_pay200, k0_pay201, k0_pay202, k0_pay203, k0_pay204, k0_pay205, k0_pay206,
    k0_pay207, k0_pay208, k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227, k0_pay228, k0_pay229, k0_pay230,
    k0_pay231, k0_pay232, k0_pay233, k0_pay234, k0_pay235, k0_pay236, k0_pay237, cat2_fold, cat4_fold, newM_fold, newA_fold, scores_fold]
  simp only [readCov_plane, readCov_cols, shapeCast_shapeCast, View.readAt_eq_ld, Memref.IsWhole.read_unread]
  rfl

end Cert.AttnBlock
-- ==== Proof.Soft.lean ====
/- The mathematics of a softmax taken chunk by chunk, over the extended reals: sums of real weights times extended-real
   values, the rescaling of such a sum when the running maximum moves, and the quotient at the end, which does not
   depend on the maximum. -/
module

public import Idealize.ShloMosaic.PureOps.Ideal

@[expose] public section

noncomputable section

namespace Cert.Soft

open Idealize.ShloMosaic

/-- An extended real that is a real number. -/
def IsReal (x : EReal) : Prop := ∃ r : ℝ, x = (r : EReal)

/-- A real number is one. -/
theorem isReal_coe (r : ℝ) : IsReal (r : EReal) := ⟨r, rfl⟩

/-- What is neither infinity is a real. -/
theorem isReal_of_ne {x : EReal} (h1 : x ≠ ⊥) (h2 : x ≠ ⊤) : IsReal x :=
  ⟨x.toReal, (EReal.coe_toReal h2 h1).symm⟩

/-- A real is its own real part. -/
theorem IsReal.eq {x : EReal} (h : IsReal x) : x = (x.toReal : EReal) := by
  obtain ⟨r, rfl⟩ := h; rfl

/-- A real is not `⊤`. -/
theorem IsReal.ne_top {x : EReal} (h : IsReal x) : x ≠ ⊤ := by
  obtain ⟨r, rfl⟩ := h; exact EReal.coe_ne_top r

/-- A real is not `⊥`. -/
theorem IsReal.ne_bot {x : EReal} (h : IsReal x) : x ≠ ⊥ := by
  obtain ⟨r, rfl⟩ := h; exact EReal.coe_ne_bot r

/-- Products of reals are real. -/
theorem IsReal.mul {x y : EReal} (hx : IsReal x) (hy : IsReal y) : IsReal (x * y) := by
  obtain ⟨a, rfl⟩ := hx; obtain ⟨b, rfl⟩ := hy; exact ⟨a * b, by norm_cast⟩

/-- Sums of two reals are real. -/
theorem IsReal.add {x y : EReal} (hx : IsReal x) (hy : IsReal y) : IsReal (x + y) := by
  obtain ⟨a, rfl⟩ := hx; obtain ⟨b, rfl⟩ := hy; exact ⟨a + b, by norm_cast⟩

/-- Finite sums of reals are real. -/
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

/-- The greater of a real and anything but `⊤` is real. -/
theorem IsReal.max {x y : EReal} (hx : IsReal x) (hy : y ≠ ⊤) : IsReal (max x y) := by
  refine isReal_of_ne (fun h => hx.ne_bot (le_bot_iff.mp (h ▸ le_max_left x y))) (fun h => ?_)
  rcases max_choice x y with e | e
  · exact hx.ne_top (e ▸ h)
  · exact hy (e ▸ h)

/-- A coerced sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes inside a sum of extended reals. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- The weight of score `s j` against the running maximum `μ`: two to the difference. -/
def pw (x : ℝ) : ℝ := Real.rpow 2 x

/-- A power of two is positive. -/
theorem pw_pos (x : ℝ) : 0 < pw x := Real.rpow_pos_of_pos (by norm_num) x

/-- A power of two of a sum is the product of the powers. -/
theorem pw_add (x y : ℝ) : pw (x + y) = pw x * pw y := Real.rpow_add (by norm_num) x y

/-- Two to a real power is `e` to the power times `log 2`. -/
theorem pw_eq_exp (x : ℝ) : pw x = Real.exp (x * Real.log 2) := by
  unfold pw; rw [Real.rpow_eq_pow, Real.rpow_def_of_pos (by norm_num), mul_comm]

/-- The sum of the first `n` values `w j`, each times two to the power `s j - μ`. -/
def wsum (s : ℕ → ℝ) (μ : ℝ) (w : ℕ → EReal) (n : ℕ) : EReal :=
  ∑ j ∈ Finset.range n, ((pw (s j - μ) : ℝ) : EReal) * w j

/-- ONE CHUNK: rescaling the sum from `μ` to `μ'` and adding `k` more terms against `μ'` is the longer sum against `μ'`. -/
theorem wsum_step (s : ℕ → ℝ) (μ μ' : ℝ) (w : ℕ → EReal) (n k : ℕ) :
    ((pw (μ - μ') : ℝ) : EReal) * wsum s μ w n + ∑ j : Fin k, ((pw (s (n + j) - μ') : ℝ) : EReal) * w (n + j)
      = wsum s μ' w (n + k) := by
  unfold wsum
  rw [Finset.sum_range_add, coe_mul_sum _ _ (pw_pos _).le,
    Finset.sum_range (fun x => ((pw (s (n + x) - μ') : ℝ) : EReal) * w (n + x))]
  congr 1
  refine Finset.sum_congr rfl fun j _ => ?_
  rw [← mul_assoc, ← EReal.coe_mul, ← pw_add]
  congr 3; ring

/-- Nothing summed is zero, whatever the maximum. -/
theorem wsum_zero (s : ℕ → ℝ) (μ : ℝ) (w : ℕ → EReal) : wsum s μ w 0 = 0 := by simp [wsum]

/-- The share of score `s j` among the first `n`. -/
def share (s : ℕ → ℝ) (n j : ℕ) : ℝ := pw (s j) / ∑ i ∈ Finset.range n, pw (s i)

/-- A sum of at least one power of two is positive. -/
theorem sum_pw_pos (s : ℕ → ℝ) (n : ℕ) (hn : 0 < n) : 0 < ∑ i ∈ Finset.range n, pw (s i) :=
  Finset.sum_pos (fun i _ => pw_pos _) ⟨0, Finset.mem_range.mpr hn⟩

/-- THE QUOTIENT: the weighted sum over the sum of the weights is the sum of the shares times the values; the
    maximum they are taken against is gone. -/
theorem wsum_div (s : ℕ → ℝ) (μ : ℝ) (w : ℕ → EReal) (n : ℕ) (hn : 0 < n) :
    Ideal.div (wsum s μ w n) (wsum s μ (fun _ => 1) n) = ∑ j ∈ Finset.range n, ((share s n j : ℝ) : EReal) * w j := by
  have hl : wsum s μ (fun _ => 1) n = ((pw (-μ) * ∑ i ∈ Finset.range n, pw (s i) : ℝ) : EReal) := by
    unfold wsum
    rw [Finset.mul_sum, coe_sum]
    refine Finset.sum_congr rfl fun j _ => ?_
    rw [mul_one, ← pw_add]; congr 2; ring
  have h0 : pw (-μ) * ∑ i ∈ Finset.range n, pw (s i) ≠ 0 := (mul_pos (pw_pos _) (sum_pw_pos s n hn)).ne'
  rw [hl, Ideal.div_coe h0, mul_comm, wsum, coe_mul_sum _ _ (by have := mul_pos (pw_pos (-μ)) (sum_pw_pos s n hn); positivity)]
  refine Finset.sum_congr rfl fun j _ => ?_
  rw [← mul_assoc, ← EReal.coe_mul]
  congr 2
  unfold share
  rw [sub_eq_add_neg, pw_add]
  have h1 := (pw_pos (-μ)).ne'
  have h2 := (sum_pw_pos s n hn).ne'
  field_simp

/-- THE REFERENCE'S WEIGHT: `e` to the score times `log 2` less any real, over the sum of the same, is the share. -/
theorem exp_div (s : ℕ → ℝ) (M : ℝ) (n j : ℕ) (hn : 0 < n) :
    Ideal.div (Ideal.exp ((s j : EReal) * (Real.log 2 : ℝ) - (M : ℝ)))
      (∑ i ∈ Finset.range n, Ideal.exp ((s i : EReal) * (Real.log 2 : ℝ) - (M : ℝ))) = ((share s n j : ℝ) : EReal) := by
  have he : ∀ i, Ideal.exp ((s i : EReal) * (Real.log 2 : ℝ) - (M : ℝ)) = ((pw (s i) * Real.exp (-M) : ℝ) : EReal) := fun i => by
    rw [← EReal.coe_mul, ← EReal.coe_sub, Ideal.exp_coe, sub_eq_add_neg, Real.exp_add, pw_eq_exp]
  have hs : (∑ i ∈ Finset.range n, Ideal.exp ((s i : EReal) * (Real.log 2 : ℝ) - (M : ℝ)))
      = (((∑ i ∈ Finset.range n, pw (s i)) * Real.exp (-M) : ℝ) : EReal) := by
    rw [Finset.sum_mul, coe_sum]; exact Finset.sum_congr rfl fun i _ => he i
  have h2 := (sum_pw_pos s n hn).ne'
  have h3 := (Real.exp_pos (-M)).ne'
  rw [hs, he, Ideal.div_coe (mul_ne_zero h2 h3), ← EReal.coe_mul]
  congr 1
  unfold share
  field_simp

end Cert.Soft

end
-- ==== Proof.RunRead.lean ====
/-
  The running softmax over the extended reals, read at an index: after the chunks so far, row `r`'s running maximum is a
  real `μ r` and column `l` of its weighted sums is the sum of the values so far, each times two to the power of its
  score less `μ r`. So the quotient of two columns is the sum of the shares times the values.
-/
module

public import proofs.«01_k».proof.Proof.AttnStep
public import proofs.«01_k».proof.Proof.Soft
public import Idealize.ShloMosaic.Lib.Pointwise

@[expose] public section

noncomputable section

namespace Cert.RunRead

open Idealize.ShloMosaic Idealize.ShloMosaic.TcCoe Cert.AttnIdeal Cert.AttnIdeal.Gen Cert.AttnStep Cert.Soft

/-- Columns of the scores at an index. -/
theorem cols_apply (S : FVec Ideal S512x512 .f32) (o : Nat) (ho : o + 128 ≤ 512)
    (h : ∀ a, (![0, o] : Fin 2 → Nat) a + S512x128.size a ≤ S512x512.size a) (r : Fin 512) (l : Fin 128) :
    cols S o h (ix2 r l) = S (ix2 r ⟨o + l.val, by omega⟩) := by
  pointwise [cols]

/-- Two vectors side by side at an index. -/
theorem cat2_apply (x y : FVec Ideal S512x128 .f32) (r : Fin 512) (l : Fin 256) :
    cat2 x y (ix2 r l) = if h : l.val < 128 then x (ix2 r ⟨l.val, h⟩) else y (ix2 r ⟨l.val - 128, by omega⟩) := by
  pointwise [cat2]

/-- The row maximum at an index: the greater of the one before and a greatest over the chunk that is the same in every lane. -/
theorem newM_apply (c0 c1 c2 c3 m : FVec Ideal S512x128 .f32) (r : Fin 512) (l : Fin 128) :
    newM c0 c1 c2 c3 m (ix2 r l) = max (m (ix2 r l)) (Finset.fold max (Ideal.ofBits FTy.f32 0xFF800000#32)
        (fun x : Fin 128 => max (max (max (c0 (ix2 r x)) (c1 (ix2 r x))) (c2 (ix2 r x))) (c3 (ix2 r x))) Finset.univ) := by
  pointwise [newM]

/-- The weighted sums at an index. -/
theorem newA_apply (c0 c1 c2 c3 m : FVec Ideal S512x128 .f32) (a : FVec Ideal S512x256 .f32) (vx : FVec Ideal S512x256 .bf16)
    (r : Fin 512) (l : Fin 256) :
    newA c0 c1 c2 c3 m a vx (ix2 r l)
      = cat2 (exp2 (subf m (newM c0 c1 c2 c3 m))) (exp2 (subf m (newM c0 c1 c2 c3 m))) (ix2 r l) * a (ix2 r l)
        + ∑ x : Fin 512, cat4 (exp2 (truncf FTy.bf16 (subf c0 (newM c0 c1 c2 c3 m)) bitsLt_bf16_f32))
            (exp2 (truncf FTy.bf16 (subf c1 (newM c0 c1 c2 c3 m)) bitsLt_bf16_f32))
            (exp2 (truncf FTy.bf16 (subf c2 (newM c0 c1 c2 c3 m)) bitsLt_bf16_f32))
            (exp2 (truncf FTy.bf16 (subf c3 (newM c0 c1 c2 c3 m)) bitsLt_bf16_f32)) (ix2 r x) * vx (ix2 x l) := by
  pointwise [newA]

/-- A chunk's weights at an index, the row's maximum being the same `μ` in every lane: two to the score less `μ`. -/
theorem cat4_apply (S : FVec Ideal S512x512 .f32) (M : FVec Ideal S512x128 .f32) (r : Fin 512) (μ : EReal) (hM : ∀ l, M (ix2 r l) = μ)
    (x : Fin 512) :
    cat4 (exp2 (truncf FTy.bf16 (subf (cols S 0 (cols_fit 0 (by decide))) M) bitsLt_bf16_f32))
        (exp2 (truncf FTy.bf16 (subf (cols S 128 (cols_fit 128 (by decide))) M) bitsLt_bf16_f32))
        (exp2 (truncf FTy.bf16 (subf (cols S 256 (cols_fit 256 (by decide))) M) bitsLt_bf16_f32))
        (exp2 (truncf FTy.bf16 (subf (cols S 384 (cols_fit 384 (by decide))) M) bitsLt_bf16_f32)) (ix2 r x)
      = Ideal.exp2 (S (ix2 r x) - μ) := by
  pointwise [cat4]
  have hc : ∀ (o : Nat) (ho : o + 128 ≤ 512) (l : Fin 128), o + l.val = x.val →
      FloatOps.exp2 (F := Ideal) (φ := .bf16) (cols S o (cols_fit o ho) (ix2 r l) - M (ix2 r l)) = Ideal.exp2 (S (ix2 r x) - μ) := fun o ho l h => by
    rw [cols_apply S o ho, hM, show (⟨o + l.val, by omega⟩ : Fin 512) = x from Fin.ext h]; rfl
  split
  · next h => exact hc 0 (by decide) ⟨x.val, h⟩ (Nat.zero_add _)
  · split
    · next h => exact hc 128 (by decide) ⟨x.val - 128, h⟩ (by show 128 + (x.val - 128) = x.val; omega)
    · split
      · next h => exact hc 256 (by decide) ⟨x.val - 128 - 128, h⟩ (by show 256 + (x.val - 128 - 128) = x.val; omega)
      · next h => exact hc 384 (by decide) ⟨x.val - 128 - 128 - 128, by omega⟩ (by show 384 + (x.val - 128 - 128 - 128) = x.val; omega)

/-- A greatest over finitely many that are not `⊤`, started at something that is not `⊤`, is not `⊤`. -/
theorem fold_max_ne_top {ι : Type*} (t : Finset ι) (b : EReal) (hb : b ≠ ⊤) (f : ι → EReal) (hf : ∀ i, f i ≠ ⊤) :
    Finset.fold max b f t ≠ ⊤ := by
  have h : Finset.fold max b f t < ⊤ := by
    rw [Finset.fold_max_lt]; exact ⟨lt_top_iff_ne_top.mpr hb, fun i _ => lt_top_iff_ne_top.mpr (hf i)⟩
  exact h.ne

/-- The word of minus infinity is `⊥`. -/
theorem ofBits_negInf : Ideal.ofBits FTy.f32 0xFF800000#32 = ⊥ := by
  simp [Ideal.ofBits, Ideal.ieee]

/-- The word the running maximum starts at is a real number. -/
theorem ofBits_start : IsReal (Ideal.ofBits FTy.f32 0xF149F2CA#32) := by
  simp only [Ideal.ofBits, Ideal.ieee]
  norm_num
  exact isReal_coe _

/-- THE INVARIANT: after `n` chunks, the running maximum and the weighted sums. -/
theorem run_inv (S : Nat → FVec Ideal S512x512 .f32) (V : Nat → FVec Ideal S512x256 .bf16) (s : Fin 512 → Nat → ℝ)
    (w : Fin 256 → Nat → EReal) (N : Nat) (hS : ∀ n < N, ∀ r x : Fin 512, S n (ix2 r x) = ((s r (512 * n + x.val) : ℝ) : EReal))
    (hV : ∀ n < N, ∀ (x : Fin 512) (l : Fin 256), V n (ix2 x l) = w l (512 * n + x.val)) (r : Fin 512) :
    ∀ n ≤ N, ∃ μ : ℝ, (∀ l, (run S V n).1 (ix2 r l) = (μ : EReal)) ∧ ∀ l, (run S V n).2 (ix2 r l) = wsum (s r) μ (w l) (512 * n) := by
  intro n
  induction n with
  | zero =>
    intro _
    obtain ⟨μ, hμ⟩ := ofBits_start
    refine ⟨μ, fun l => hμ, fun l => ?_⟩
    rw [Nat.mul_zero, wsum_zero]
    show Ideal.ofBits FTy.f32 0x00000000#32 = 0
    simp [Ideal.ofBits, Ideal.ieee]
  | succ n ih =>
    intro hn
    obtain ⟨μ, hm, ha⟩ := ih (by omega)
    have hSn := hS n (by omega)
    have hVn := hV n (by omega)
    have hM : ∃ μ' : ℝ, ∀ l, (run S V (n + 1)).1 (ix2 r l) = (μ' : EReal) := by
      have hr : IsReal (max (μ : EReal) (Finset.fold max (Ideal.ofBits FTy.f32 0xFF800000#32)
        (fun x : Fin 128 => max (max (max (cols (S n) 0 (cols_fit 0 (by decide)) (ix2 r x)) (cols (S n) 128 (cols_fit 128 (by decide)) (ix2 r x)))
          (cols (S n) 256 (cols_fit 256 (by decide)) (ix2 r x))) (cols (S n) 384 (cols_fit 384 (by decide)) (ix2 r x))) Finset.univ)) := by
        refine (isReal_coe μ).max (fold_max_ne_top _ _ (by rw [ofBits_negInf]; exact bot_ne_top) _ fun x => ?_)
        rw [cols_apply (S n) 0 (by decide), cols_apply (S n) 128 (by decide), cols_apply (S n) 256 (by decide), cols_apply (S n) 384 (by decide),
          hSn, hSn, hSn, hSn]
        exact ((((isReal_coe _).max (EReal.coe_ne_top _)).max (EReal.coe_ne_top _)).max (EReal.coe_ne_top _)).ne_top
      obtain ⟨μ', hμ'⟩ := hr
      refine ⟨μ', fun l => ?_⟩
      rw [← hμ', ← hm l]
      exact newM_apply _ _ _ _ _ r l
    obtain ⟨μ', hμ'⟩ := hM
    refine ⟨μ', hμ', fun l => ?_⟩
    refine (newA_apply _ _ _ _ _ _ _ r l).trans ?_
    rw [cat2_apply, ha l, Nat.mul_succ, ← wsum_step (s r) μ μ' (w l) (512 * n) 512]
    have hα : ∀ l', exp2 (subf (run S V n).1 (run S V (n + 1)).1) (ix2 r l') = ((pw (μ - μ') : ℝ) : EReal) := fun l' => by
      show Ideal.exp2 ((run S V n).1 (ix2 r l') - (run S V (n + 1)).1 (ix2 r l')) = _
      rw [hm l', hμ' l', ← EReal.coe_sub, Ideal.exp2_coe]; rfl
    refine congrArg₂ (· + ·) (congrArg (· * _) ?_) (Finset.sum_congr rfl fun x _ => ?_)
    · split_ifs <;> exact hα _
    · refine congrArg₂ (· * ·) ((cat4_apply (S n) _ r μ' hμ' x).trans ?_) (hVn x l)
      rw [hSn, ← EReal.coe_sub, Ideal.exp2_coe]; rfl

/-- THE QUOTIENT of two columns, the second of which sums the weights alone. -/
theorem run_quotient (S : Nat → FVec Ideal S512x512 .f32) (V : Nat → FVec Ideal S512x256 .bf16) (s : Fin 512 → Nat → ℝ)
    (w : Fin 256 → Nat → EReal) (N : Nat) (hN : 0 < N) (hS : ∀ n < N, ∀ r x : Fin 512, S n (ix2 r x) = ((s r (512 * n + x.val) : ℝ) : EReal))
    (hV : ∀ n < N, ∀ (x : Fin 512) (l : Fin 256), V n (ix2 x l) = w l (512 * n + x.val)) (r : Fin 512) (l l' : Fin 256)
    (hl' : ∀ j < 512 * N, w l' j = 1) :
    Ideal.div ((run S V N).2 (ix2 r l)) ((run S V N).2 (ix2 r l'))
      = ∑ j ∈ Finset.range (512 * N), ((share (s r) (512 * N) j : ℝ) : EReal) * w l j := by
  obtain ⟨μ, -, ha⟩ := run_inv S V s w N hS hV r N le_rfl
  rw [ha l, ha l', ← wsum_div (s r) μ (w l) (512 * N) (by omega)]
  refine congrArg (Ideal.div _) (Finset.sum_congr rfl fun j hj => ?_)
  rw [hl' j (Finset.mem_range.mp hj)]

end Cert.RunRead
-- ==== Proof.AttnPoint.lean ====
/-
  What a point of the attention kernel computes, read at an index over the extended reals: the scratch's columns are the
  values and ones; row `i`, column `d` of the result is the sum over all keys of the row's shares times the values.
-/
module

public import proofs.«01_k».proof.Proof.RunRead

@[expose] public section

noncomputable section

namespace Cert.AttnPoint

open Idealize.ShloMosaic Idealize.ShloMosaic.TcCoe Cert.AttnIdeal Cert.AttnIdeal.Gen Cert.AttnStep Cert.Soft Cert.RunRead

/-- A chunk's scores at an index: the dot product of a query and a key. -/
theorem scores_apply (x0 : FVec Ideal S1x1x2048x256 .bf16) (k : FVec Ideal S1x1x4096x256 .bf16) (u n : Nat) (r c : Fin 512) :
    scores (qAt x0 u) (kAt k n) (ix2 r c) = ∑ x : Fin 256, x0 (ix4 0 0 ⟨512 * (u % 4) + r.val, by omega⟩ x) * k (ix4 0 0 ⟨512 * (n % 8) + c.val, by omega⟩ x) := by
  pointwise [scores, qAt, kAt]

/-- A chunk of values and ones at an index. -/
theorem vAt_apply (vx : FVec Ideal S4096x256 .bf16) (n : Nat) (x : Fin 512) (l : Fin 256) :
    vAt vx n (ix2 x l) = vx (ix2 ⟨512 * (n % 8) + x.val, by omega⟩ l) := by
  pointwise [vAt]

/-- A block's quotient at an index. -/
theorem blockOut_div (q : FVec Ideal S1x1x512x256 .bf16) (k : FVec Ideal S1x1x4096x256 .bf16) (vx : FVec Ideal S4096x256 .bf16)
    (r : Fin 512) (d : Fin 128) :
    blockOut q k vx (ix2 r d) = Ideal.div ((state q k vx 8).2 (ix2 r ⟨d.val, by omega⟩)) ((state q k vx 8).2 (ix2 r ⟨128 + d.val, by omega⟩)) := by
  pointwise [blockOut, half]

/-- A block's result at an index: the sum of the shares times the values. -/
theorem blockOut_apply (x0 : FVec Ideal S1x1x2048x256 .bf16) (k : FVec Ideal S1x1x4096x256 .bf16) (vx : FVec Ideal S4096x256 .bf16)
    (s : Fin 2048 → Nat → ℝ) (hs : ∀ (i : Fin 2048) (j : Fin 4096), ∑ x : Fin 256, x0 (ix4 0 0 i x) * k (ix4 0 0 j x) = ((s i j.val : ℝ) : EReal))
    (h1 : ∀ (j : Fin 4096) (l : Fin 256), 128 ≤ l.val → vx (ix2 j l) = 1) (u : Nat) (hu : u < 4) (r : Fin 512) (d : Fin 128) :
    blockOut (qAt x0 u) k vx (ix2 r d)
      = ∑ j : Fin 4096, ((share (s ⟨512 * u + r.val, by omega⟩) 4096 j.val : ℝ) : EReal) * vx (ix2 j ⟨d.val, by omega⟩) := by
  rw [blockOut_div, run_quotient (fun n => scores (qAt x0 u) (kAt k n)) (fun n => vAt vx n)
    (fun r => s ⟨512 * u + r.val, by omega⟩) (fun l j => if h : j < 4096 then vx (ix2 ⟨j, h⟩ l) else 0) 8 (by decide)]
  · rw [Finset.sum_range]
    exact Finset.sum_congr rfl fun j _ => by rw [dif_pos j.isLt]
  · intro n hn r c
    refine (scores_apply x0 k u n r c).trans ?_
    have e1 : (⟨512 * (u % 4) + r.val, by omega⟩ : Fin 2048) = ⟨512 * u + r.val, by omega⟩ := Fin.ext (show 512 * (u % 4) + r.val = 512 * u + r.val by omega)
    have e2 : 512 * (n % 8) + c.val = 512 * n + c.val := by omega
    exact (hs _ _).trans (congrArg₂ (fun a b => ((s a b : ℝ) : EReal)) e1 e2)
  · intro n hn x l
    refine (vAt_apply vx n x l).trans ?_
    have e2 : (⟨512 * (n % 8) + x.val, by omega⟩ : Fin 4096) = ⟨512 * n + x.val, by omega⟩ := Fin.ext (show 512 * (n % 8) + x.val = 512 * n + x.val by omega)
    rw [dif_pos (show 512 * n + x.val < 4096 by omega), e2]
  · intro j hj
    rw [dif_pos (show j < 4096 by omega)]
    exact h1 _ _ (Nat.le_add_right _ _)

/-- The result's block as one function: row `i` is row `i % 512` of query block `i / 512`. -/
def blockAt {F : FTy → Type} [FloatOps F] (x0 : FVec F S1x1x2048x256 .bf16) (k : FVec F S1x1x4096x256 .bf16) (vx : FVec F S4096x256 .bf16) :
    FVec F S1x2048x128 .bf16 := fun j =>
  blockOut (qAt x0 ((j 1 : Fin 2048).val / 512)) k vx (ix2 (n0 := 512) (n1 := 128) ⟨(j 1 : Fin 2048).val % 512, Nat.mod_lt _ (by decide)⟩ (j 2))

/-- A piece is its part of that function. -/
theorem piece_eq {F : FTy → Type} [FloatOps F] (x0 : FVec F S1x1x2048x256 .bf16) (k : FVec F S1x1x4096x256 .bf16) (vx : FVec F S4096x256 .bf16)
    (u : Nat) (hu : u < 4) (x : (piece x0 k vx u).1.shape.Idx) : (piece x0 k vx u).2 x = blockAt x0 k vx ((piece x0 k vx u).1.emb x) := by
  have hx : (x 1 : Fin 512).val < 512 := (x 1 : Fin 512).isLt
  have e : (((piece x0 k vx u).1.emb x) 1 : Fin 2048).val = 512 * (u % 4) + 1 * (x 1 : Fin 512).val := rfl
  have e1 : (((piece x0 k vx u).1.emb x) 1 : Fin 2048).val / 512 = u := by omega
  have e2 : (((piece x0 k vx u).1.emb x) 1 : Fin 2048).val % 512 = (x 1 : Fin 512).val := by omega
  unfold blockAt
  rw [e1]
  have e3 : ix2 (n0 := 512) (n1 := 128) ⟨(((piece x0 k vx u).1.emb x) 1 : Fin 2048).val % 512, Nat.mod_lt _ (by decide)⟩ (((piece x0 k vx u).1.emb x) 2)
      = ix2 (n0 := 512) (n1 := 128) (x 1) (x 2) := congrArg₂ (ix2 (n0 := 512) (n1 := 128)) (Fin.ext e2)
        (Fin.ext (show 0 + 1 * (x 2 : Fin 128).val = (x 2 : Fin 128).val by omega))
  rw [e3]
  show shapeCast S1x512x128 (blockOut (qAt x0 u) k vx) shapeCasts_S512x128_S1x512x128 x = _
  pointwise

/-- The four stores leave that function. -/
theorem canon_pieces {F : FTy → Type} [FloatOps F] (x0 : FVec F S1x1x2048x256 .bf16) (k : FVec F S1x1x4096x256 .bf16) (vx : FVec F S4096x256 .bf16) :
    View.canon [piece x0 k vx 3, piece x0 k vx 2, piece x0 k vx 1, piece x0 k vx 0] = blockAt x0 k vx := by
  funext y
  refine View.canon_apply_of_pieces (Val := Elt F) (e := .bf16) (blockAt x0 k vx) _ (fun p hp x => ?_) y ?_
  · simp only [List.mem_cons, List.not_mem_nil, or_false] at hp
    rcases hp with rfl | rfl | rfl | rfl <;> exact piece_eq x0 k vx _ (by decide) x
  · have h1 : (y 1 : Fin 2048).val < 2048 := (y 1 : Fin 2048).isLt
    have hm : ∀ u, u < 4 → (y 1 : Fin 2048).val / 512 = u → y ∈ (piece x0 k vx u).1.set := fun u hu h => by
      rw [AttnStep.piece, Rect.mem_set_unit]
      intro a
      have h0 : (y 0 : Fin 1).val < 1 := (y 0 : Fin 1).isLt
      have h2 : (y 2 : Fin 128).val < 128 := (y 2 : Fin 128).isLt
      match a with
      | ⟨0, _⟩ => exact ⟨Nat.zero_le _, by show (y 0 : Fin 1).val < 0 + 1; omega⟩
      | ⟨1, _⟩ => show 512 * (u % 4) ≤ (y 1 : Fin 2048).val ∧ (y 1 : Fin 2048).val < 512 * (u % 4) + 512; omega
      | ⟨2, _⟩ => exact ⟨Nat.zero_le _, by show (y 2 : Fin 128).val < 0 + 128; omega⟩
    have hc : (y 1 : Fin 2048).val / 512 = 0 ∨ (y 1 : Fin 2048).val / 512 = 1 ∨ (y 1 : Fin 2048).val / 512 = 2 ∨ (y 1 : Fin 2048).val / 512 = 3 := by omega
    rcases hc with h | h | h | h
    · exact ⟨_, by simp, hm 0 (by decide) h⟩
    · exact ⟨_, by simp, hm 1 (by decide) h⟩
    · exact ⟨_, by simp, hm 2 (by decide) h⟩
    · exact ⟨_, by simp, hm 3 (by decide) h⟩

/-- The scratch, read: the values to the left, ones to the right. -/
theorem scratch_apply (x2 : FVec Ideal S1x1x4096x128 .bf16) (j : Fin 4096) (l : Fin 256) :
    View.canon (Val := Elt Ideal) (scrPieces x2) (ix2 j l) = if h : l.val < 128 then x2 (ix4 0 0 j ⟨l.val, h⟩) else 1 := by
  split
  · next h =>
    refine (View.canon_cons_of_not_mem _ _ ?_).trans ?_
    · rw [Rect.mem_set_unit]
      intro hh
      have := (hh 1).1
      have h128 : 128 ≤ l.val := this
      omega
    · have e : ix2 j l = (Rect.unit (s := S4096x256) ![0, 0] S4096x128.size inb_S4096x256_S4096x128_0_0).emb (ix2 j (⟨l.val, h⟩ : Fin 128)) := by
        funext a
        apply Fin.ext
        match a with
        | ⟨0, _⟩ => show j.val = 0 + 1 * j.val; omega
        | ⟨1, _⟩ => show l.val = 0 + 1 * l.val; omega
      rw [e]
      refine (View.canon_cons_emb _ _ _ _).trans ?_
      pointwise
  · next h =>
    have e : ix2 j l = (Rect.unit (s := S4096x256) ![0, 128] S4096x128.size inb_S4096x256_S4096x128_0_128).emb (ix2 j (⟨l.val - 128, by omega⟩ : Fin 128)) := by
      funext a
      apply Fin.ext
      match a with
      | ⟨0, _⟩ => show j.val = 0 + 1 * j.val; omega
      | ⟨1, _⟩ => show l.val = 128 + 1 * (l.val - 128); omega
    rw [e]
    refine (View.canon_cons_emb _ _ _ _).trans ?_
    show Ideal.ofBits FTy.bf16 0x3F80#16 = 1
    simp [Ideal.ofBits, Ideal.ieee]
    rw [← EReal.coe_mul]; norm_num

end Cert.AttnPoint
-- ==== Proof.AttnRow.lean ====
/-
  Attention, written once more without tiles: a row's scores, and the row's result as the shares' sum of the values.
-/
module

public import proofs.«01_k».proof.Proof.Soft

@[expose] public section

noncomputable section

namespace Cert.AttnRow

open Idealize.ShloMosaic Cert.Soft

/-- Query `i`'s scores in batch `b`, head `g`, as real numbers, by the key's number. -/
def rowS (Q K : Fin 4 → Fin 8 → Fin 4096 → Fin 256 → EReal) (b : Fin 4) (g : Fin 8) (i : Fin 4096) : ℕ → ℝ := fun j =>
  if h : j < 4096 then (∑ x : Fin 256, Q b g i x * K b g ⟨j, h⟩ x).toReal else 0

/-- Query `i`'s result: the shares' sum of the values. -/
def rowOut (Q K : Fin 4 → Fin 8 → Fin 4096 → Fin 256 → EReal) (V : Fin 4 → Fin 8 → Fin 4096 → Fin 128 → EReal)
    (b : Fin 4) (g : Fin 8) (i : Fin 4096) (d : Fin 128) : EReal :=
  ∑ j : Fin 4096, ((share (rowS Q K b g i) 4096 j.val : ℝ) : EReal) * V b g j d

/-- If queries and keys are real, a score is the row's real score. -/
theorem rowS_eq (Q K : Fin 4 → Fin 8 → Fin 4096 → Fin 256 → EReal) (hQ : ∀ b g i x, IsReal (Q b g i x)) (hK : ∀ b g i x, IsReal (K b g i x))
    (b : Fin 4) (g : Fin 8) (i j : Fin 4096) : ∑ x : Fin 256, Q b g i x * K b g j x = ((rowS Q K b g i j.val : ℝ) : EReal) := by
  have h : IsReal (∑ x : Fin 256, Q b g i x * K b g j x) := IsReal.sum _ _ fun x _ => (hQ b g i x).mul (hK b g j x)
  rw [rowS, dif_pos j.isLt]
  exact h.eq

end Cert.AttnRow
-- ==== Proof.AttnArray.lean ====
/-
  What the attention kernel's three result arrays hold: each grid point's blocks, then the whole arrays.
-/
module

public import proofs.«01_k».proof.Proof.Gen.AttnIdeal.Value
public import proofs.«01_k».proof.Proof.AttnBlockA
public import proofs.«01_k».proof.Proof.AttnBlockB
public import proofs.«01_k».proof.Proof.AttnPoint
public import proofs.«01_k».proof.Proof.AttnRow
public import Idealize.ShloMosaic.Lib.Pipeline.ValueKit
public import Idealize.ShloMosaic.Lib.Pipeline.ReadBack

@[expose] public section

noncomputable section

namespace Cert.AttnArray

open Idealize.ShloMosaic Idealize.ShloMosaic.TcCoe Idealize.SL.Sem Cert.AttnIdeal Cert.AttnIdeal.Gen Cert.AttnIdeal.Value
open Cert.AttnStep Cert.AttnRow Cert.Soft Cert.AttnPoint Cert.AttnBlock

variable {F : FTy → Type} [FloatOps F]
variable (m : (ℓ : Loc nD τ sig) → Buf (Elt F) ℓ) (c : Dev nD)

/-- The queries' block of a point. -/
theorem index0 : ∀ t : Fin cfg0.N, win0_0.index t = ![t.val / 16, t.val / 2 % 8, t.val % 2, 0] :=
  (by decide +kernel : ∀ t : Fin grid0.N, win0_0.index t = ![t.val / 16, t.val / 2 % 8, t.val % 2, 0])
/-- The keys' block of a point. -/
theorem index1 : ∀ t : Fin cfg0.N, win0_1.index t = ![t.val / 16, t.val / 2 % 8, 0, 0] :=
  (by decide +kernel : ∀ t : Fin grid0.N, win0_1.index t = ![t.val / 16, t.val / 2 % 8, 0, 0])
/-- The values' block of a point. -/
theorem index2 : ∀ t : Fin cfg0.N, win0_2.index t = ![t.val / 16, t.val / 2 % 8, 0, 0] :=
  (by decide +kernel : ∀ t : Fin grid0.N, win0_2.index t = ![t.val / 16, t.val / 2 % 8, 0, 0])
/-- The first weight's block of a point. -/
theorem index3 : ∀ t : Fin cfg0.N, win0_3.index t = ![t.val, 0] :=
  (by decide +kernel : ∀ t : Fin grid0.N, win0_3.index t = ![t.val, 0])
/-- The second weight's block of a point. -/
theorem index4 : ∀ t : Fin cfg0.N, win0_4.index t = ![t.val, 0] :=
  (by decide +kernel : ∀ t : Fin grid0.N, win0_4.index t = ![t.val, 0])
/-- The result's block of a point. -/
theorem index5 : ∀ t : Fin cfg0.N, win0_5.index t = ![t.val / 16, t.val % 2, t.val / 2 % 8] :=
  (by decide +kernel : ∀ t : Fin grid0.N, win0_5.index t = ![t.val / 16, t.val % 2, t.val / 2 % 8])
/-- The first rounded weight's block of a point. -/
theorem index6 : ∀ t : Fin cfg0.N, win0_6.index t = ![t.val, 0] :=
  (by decide +kernel : ∀ t : Fin grid0.N, win0_6.index t = ![t.val, 0])
/-- The second rounded weight's block of a point. -/
theorem index7 : ∀ t : Fin cfg0.N, win0_7.index t = ![t.val, 0] :=
  (by decide +kernel : ∀ t : Fin grid0.N, win0_7.index t = ![t.val, 0])

/-- Zero offsets. -/
theorem hz2 : (![0, 0] : Fin 2 → Nat) = fun _ => 0 := funext fun a => by fin_cases a <;> rfl

/-- There are 64 points. -/
theorem lt64 (t : Fin cfg0.N) : t.val < 64 := lt_of_lt_of_eq t.isLt N_0

/-- A point's queries. -/
theorem iblk0 (t : Fin cfg0.N) (r : Fin 2048) (x : Fin 256) :
    (iblk m c 0 t : Vec F S1x1x2048x256 .bf16) (ix4 0 0 r x)
      = (m ((c : Thread nD τ).loc main_arg0) : Vec F S4x8x4096x256 .bf16) (ix4 ⟨t.val / 16, by have := lt64 t; omega⟩ ⟨t.val / 2 % 8, by omega⟩ ⟨2048 * (t.val % 2) + r.val, by omega⟩ x) := by
  unfold iblk
  rw [View.read_apply]
  show (V m c main_arg0 : Vec F S4x8x4096x256 .bf16) _ = _
  rw [V_main_arg0]
  refine congrArg _ (funext fun a => Fin.ext ?_)
  match a with
  | ⟨0, _⟩ => show win0_0.index t 0 * 1 + 1 * 0 = t.val / 16; rw [index0]; show t.val / 16 * 1 + 1 * 0 = _; omega
  | ⟨1, _⟩ => show win0_0.index t 1 * 1 + 1 * 0 = t.val / 2 % 8; rw [index0]; show t.val / 2 % 8 * 1 + 1 * 0 = _; omega
  | ⟨2, _⟩ => show win0_0.index t 2 * 2048 + 1 * r.val = 2048 * (t.val % 2) + r.val; rw [index0]; show t.val % 2 * 2048 + 1 * r.val = _; omega
  | ⟨3, _⟩ => show win0_0.index t 3 * 256 + 1 * x.val = x.val; rw [index0]; show 0 * 256 + 1 * x.val = _; omega

/-- A point's keys. -/
theorem iblk1 (t : Fin cfg0.N) (j : Fin 4096) (x : Fin 256) :
    (iblk m c 1 t : Vec F S1x1x4096x256 .bf16) (ix4 0 0 j x)
      = (m ((c : Thread nD τ).loc main_arg1) : Vec F S4x8x4096x256 .bf16) (ix4 ⟨t.val / 16, by have := lt64 t; omega⟩ ⟨t.val / 2 % 8, by omega⟩ j x) := by
  unfold iblk
  rw [View.read_apply]
  show (V m c main_arg1 : Vec F S4x8x4096x256 .bf16) _ = _
  rw [V_main_arg1]
  refine congrArg _ (funext fun a => Fin.ext ?_)
  match a with
  | ⟨0, _⟩ => show win0_1.index t 0 * 1 + 1 * 0 = t.val / 16; rw [index1]; show t.val / 16 * 1 + 1 * 0 = _; omega
  | ⟨1, _⟩ => show win0_1.index t 1 * 1 + 1 * 0 = t.val / 2 % 8; rw [index1]; show t.val / 2 % 8 * 1 + 1 * 0 = _; omega
  | ⟨2, _⟩ => show win0_1.index t 2 * 4096 + 1 * j.val = j.val; rw [index1]; show 0 * 4096 + 1 * j.val = _; omega
  | ⟨3, _⟩ => show win0_1.index t 3 * 256 + 1 * x.val = x.val; rw [index1]; show 0 * 256 + 1 * x.val = _; omega

/-- A point's values. -/
theorem iblk2 (t : Fin cfg0.N) (j : Fin 4096) (d : Fin 128) :
    (iblk m c 2 t : Vec F S1x1x4096x128 .bf16) (ix4 0 0 j d)
      = (m ((c : Thread nD τ).loc main_arg2) : Vec F S4x8x4096x128 .bf16) (ix4 ⟨t.val / 16, by have := lt64 t; omega⟩ ⟨t.val / 2 % 8, by omega⟩ j d) := by
  unfold iblk
  rw [View.read_apply]
  show (V m c main_arg2 : Vec F S4x8x4096x128 .bf16) _ = _
  rw [V_main_arg2]
  refine congrArg _ (funext fun a => Fin.ext ?_)
  match a with
  | ⟨0, _⟩ => show win0_2.index t 0 * 1 + 1 * 0 = t.val / 16; rw [index2]; show t.val / 16 * 1 + 1 * 0 = _; omega
  | ⟨1, _⟩ => show win0_2.index t 1 * 1 + 1 * 0 = t.val / 2 % 8; rw [index2]; show t.val / 2 % 8 * 1 + 1 * 0 = _; omega
  | ⟨2, _⟩ => show win0_2.index t 2 * 4096 + 1 * j.val = j.val; rw [index2]; show 0 * 4096 + 1 * j.val = _; omega
  | ⟨3, _⟩ => show win0_2.index t 3 * 128 + 1 * d.val = d.val; rw [index2]; show 0 * 128 + 1 * d.val = _; omega

/-- Two points of one head have the same values. -/
theorem iblk2_congr (t t' : Fin cfg0.N) (h : t.val / 2 = t'.val / 2) : (iblk m c 2 t : Vec F S1x1x4096x128 .bf16) = iblk m c 2 t' := by
  funext y
  have e : y = ix4 (n0 := 1) (n1 := 1) (n2 := 4096) (n3 := 128) 0 0 (y 2) (y 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  rw [e]
  refine (iblk2 m c t (y 2) (y 3)).trans (Eq.trans ?_ (iblk2 m c t' (y 2) (y 3)).symm)
  have e1 : t.val / 16 = t'.val / 16 := by omega
  have e2 : t.val / 2 % 8 = t'.val / 2 % 8 := by omega
  exact congrArg₂ (fun (a : Fin 4) (b : Fin 8) => (m ((c : Thread nD τ).loc main_arg2) : Vec F S4x8x4096x128 .bf16) (ix4 a b (y 2) (y 3))) (Fin.ext e1) (Fin.ext e2)

/-- The scratch after a point that fills it. -/
theorem scratch_even (t : Fin cfg0.N) (h : t.val % 2 = 0) : (outsAt0 m c t.val t.isLt).2.2.2 = View.canon (scrPieces (iblk m c 2 t)) := by
  rw [outsAt0_A m c t h]
  dsimp only
  unfold sout0_A_0
  rw [View.read_writes_junk_eq_canon]
  exact congrArg View.canon (scratch_A ..)

/-- The result's block after a point. -/
theorem block_eq (t : Fin cfg0.N) : (outsAt0 m c t.val t.isLt).1 = blockAt (iblk m c 0 t) (iblk m c 1 t) (View.canon (scrPieces (iblk m c 2 t))) := by
  by_cases h : t.val % 2 = 0
  · rw [outsAt0_A m c t h]
    dsimp only
    unfold out0_A_5
    rw [View.read_writes_junk_eq_canon]
    exact (congrArg View.canon (pieces_A ..)).trans (canon_pieces ..)
  · rw [outsAt0_B m c t h]
    dsimp only
    unfold out0_B_5
    rw [View.read_writes_junk_eq_canon]
    have hs := scratch_even m c ⟨t.val - 1, Nat.lt_of_le_of_lt (Nat.sub_le _ _) t.isLt⟩ (show (t.val - 1) % 2 = 0 by omega)
    rw [iblk2_congr m c _ t (show (t.val - 1) / 2 = t.val / 2 by omega)] at hs
    rw [← hs]
    exact (congrArg View.canon (pieces_B ..)).trans (canon_pieces ..)

/-- The first rounded weight's block after a point. -/
theorem cast1_eq (t : Fin cfg0.N) : (outsAt0 m c t.val t.isLt).2.1 = truncf .bf16 (iblk m c 3 t : Vec F S32x11264 .f32) bitsLt_bf16_f32 := by
  by_cases h : t.val % 2 = 0
  · rw [outsAt0_A m c t h]
    dsimp only
    unfold out0_A_6
    rw [View.read_writes_junk_eq_canon]
    exact (congrArg View.canon (cast1_A ..)).trans (View.canon_unit_zero (S := S32x11264) hz2 _ _)
  · rw [outsAt0_B m c t h]
    dsimp only
    unfold out0_B_6
    rw [View.read_writes_junk_eq_canon]
    exact (congrArg View.canon (cast1_B ..)).trans (View.canon_unit_zero (S := S32x11264) hz2 _ _)

/-- The second rounded weight's block after a point. -/
theorem cast2_eq (t : Fin cfg0.N) : (outsAt0 m c t.val t.isLt).2.2.1 = truncf .bf16 (iblk m c 4 t : Vec F S32x4096 .f32) bitsLt_bf16_f32 := by
  by_cases h : t.val % 2 = 0
  · rw [outsAt0_A m c t h]
    dsimp only
    unfold out0_A_7
    rw [View.read_writes_junk_eq_canon]
    exact (congrArg View.canon (cast2_A ..)).trans (View.canon_unit_zero (S := S32x4096) hz2 _ _)
  · rw [outsAt0_B m c t h]
    dsimp only
    unfold out0_B_7
    rw [View.read_writes_junk_eq_canon]
    exact (congrArg View.canon (cast2_B ..)).trans (View.canon_unit_zero (S := S32x4096) hz2 _ _)

/-- The first rounded weight. -/
theorem arr6 : (dats m 0 c).arrAt 6 cfg0.N = truncf .bf16 (m ((c : Thread nD τ).loc main_arg3) : Vec F S2048x11264 .f32) bitsLt_bf16_f32 :=
  (dats m 0 c).arrAt_eq_of_cover 6 (truncf .bf16 (m ((c : Thread nD τ).loc main_arg3) : Vec F S2048x11264 .f32) bitsLt_bf16_f32)
    (fun t _ => by
      rw [flushed6, cast1_eq]
      rfl)
    (fun i => ⟨⟨(i 0 : Fin 2048).val / 32, lt_of_lt_of_eq (show (i 0 : Fin 2048).val / 32 < 64 by have : (i 0 : Fin 2048).val < 2048 := (i 0 : Fin 2048).isLt; omega) N_0.symm⟩, flush0_6 _, by
      have h0 : (i 0 : Nat) < 2048 := (i 0).isLt
      have h1 : (i 1 : Nat) < 11264 := (i 1).isLt
      mem_blk [index6]
      refine ⟨?_, ?_⟩ <;> dsimp <;> omega⟩)

/-- The second rounded weight. -/
theorem arr7 : (dats m 0 c).arrAt 7 cfg0.N = truncf .bf16 (m ((c : Thread nD τ).loc main_arg4) : Vec F S2048x4096 .f32) bitsLt_bf16_f32 :=
  (dats m 0 c).arrAt_eq_of_cover 7 (truncf .bf16 (m ((c : Thread nD τ).loc main_arg4) : Vec F S2048x4096 .f32) bitsLt_bf16_f32)
    (fun t _ => by
      rw [flushed7, cast2_eq]
      rfl)
    (fun i => ⟨⟨(i 0 : Fin 2048).val / 32, lt_of_lt_of_eq (show (i 0 : Fin 2048).val / 32 < 64 by have : (i 0 : Fin 2048).val < 2048 := (i 0 : Fin 2048).isLt; omega) N_0.symm⟩, flush0_7 _, by
      have h0 : (i 0 : Nat) < 2048 := (i 0).isLt
      have h1 : (i 1 : Nat) < 4096 := (i 1).isLt
      mem_blk [index7]
      refine ⟨?_, ?_⟩ <;> dsimp <;> omega⟩)

variable (mi : (ℓ : Loc nD τ sig) → Buf (Elt Ideal) ℓ)

/-- The queries by their four coordinates. -/
def Q : Fin 4 → Fin 8 → Fin 4096 → Fin 256 → EReal := fun b g i x => (mi ((c : Thread nD τ).loc main_arg0) : Vec Ideal S4x8x4096x256 .bf16) (ix4 b g i x)
/-- The keys by their four coordinates. -/
def K : Fin 4 → Fin 8 → Fin 4096 → Fin 256 → EReal := fun b g i x => (mi ((c : Thread nD τ).loc main_arg1) : Vec Ideal S4x8x4096x256 .bf16) (ix4 b g i x)
/-- The values by their four coordinates. -/
def W : Fin 4 → Fin 8 → Fin 4096 → Fin 128 → EReal := fun b g i x => (mi ((c : Thread nD τ).loc main_arg2) : Vec Ideal S4x8x4096x128 .bf16) (ix4 b g i x)

/-- The whole result: row `i`, column `128 g + d` is head `g`'s result. -/
def whole : Vec Ideal S4x4096x1024 .bf16 := fun y =>
  rowOut (Q c mi) (K c mi) (W c mi) (y 0) ⟨(y 2 : Fin 1024).val / 128, by have : (y 2 : Fin 1024).val < 1024 := (y 2 : Fin 1024).isLt; omega⟩ (y 1) ⟨(y 2 : Fin 1024).val % 128, by omega⟩

/-- A point's block at an index. -/
theorem block_apply (hq : ∀ b g i x, IsReal (Q c mi b g i x)) (hk : ∀ b g i x, IsReal (K c mi b g i x)) (t : Fin cfg0.N) (y : S1x2048x128.Idx) :
    blockAt (F := Ideal) (iblk mi c 0 t) (iblk mi c 1 t) (View.canon (Val := Elt Ideal) (scrPieces (iblk mi c 2 t))) y
      = rowOut (Q c mi) (K c mi) (W c mi) ⟨t.val / 16, by have := lt64 t; omega⟩ ⟨t.val / 2 % 8, by omega⟩ ⟨2048 * (t.val % 2) + (y 1 : Fin 2048).val, by have : (y 1 : Fin 2048).val < 2048 := (y 1 : Fin 2048).isLt; omega⟩ (y 2) := by
  have h1 : (y 1 : Fin 2048).val < 2048 := (y 1 : Fin 2048).isLt
  unfold blockAt
  refine (blockOut_apply (iblk mi c 0 t) (iblk mi c 1 t) (View.canon (Val := Elt Ideal) (scrPieces (iblk mi c 2 t)))
    (fun i => rowS (Q c mi) (K c mi) ⟨t.val / 16, by have := lt64 t; omega⟩ ⟨t.val / 2 % 8, by omega⟩ ⟨2048 * (t.val % 2) + i.val, by omega⟩) ?_ ?_ ((y 1 : Fin 2048).val / 512) (by omega)
    ⟨(y 1 : Fin 2048).val % 512, Nat.mod_lt _ (by decide)⟩ (y 2)).trans ?_
  · intro i j
    rw [← rowS_eq _ _ hq hk]
    exact Finset.sum_congr rfl fun x _ => congrArg₂ (· * ·) (iblk0 mi c t i x) (iblk1 mi c t j x)
  · intro j l hl
    exact (scratch_apply _ _ _).trans (dif_neg (by omega))
  · unfold rowOut
    refine Finset.sum_congr rfl fun j _ => ?_
    have e1 : (⟨512 * ((y 1 : Fin 2048).val / 512) + (y 1 : Fin 2048).val % 512, by omega⟩ : Fin 2048) = y 1 := Fin.ext (Nat.div_add_mod _ _)
    refine congrArg₂ (· * ·) ?_ ?_
    · exact congrArg (fun r : Fin 2048 => ((share (rowS (Q c mi) (K c mi) ⟨t.val / 16, by have := lt64 t; omega⟩ ⟨t.val / 2 % 8, by omega⟩ ⟨2048 * (t.val % 2) + r.val, by omega⟩) 4096 j.val : ℝ) : EReal)) e1
    · exact (scratch_apply _ _ _).trans ((dif_pos (show (y 2 : Fin 128).val < 128 from (y 2 : Fin 128).isLt)).trans (iblk2 mi c t j (y 2)))

/-- The result array. -/
theorem arr5 (hq : ∀ b g i x, IsReal (Q c mi b g i x)) (hk : ∀ b g i x, IsReal (K c mi b g i x)) :
    (dats mi 0 c).arrAt 5 cfg0.N = whole c mi :=
  (dats mi 0 c).arrAt_eq_of_cover 5 (whole c mi)
    (fun t _ => by
      rw [flushed5, block_eq]
      funext y
      rw [View.read_apply]
      refine (block_apply c mi hq hk t y).trans ?_
      have h64 := lt64 t
      have y0 : (y 0 : Fin 1).val < 1 := (y 0 : Fin 1).isLt
      have y2 : (y 2 : Fin 128).val < 128 := (y 2 : Fin 128).isLt
      have e : ((cfg0.win 5).blk t).view.emb y = ix3 (n0 := 4) (n1 := 4096) (n2 := 1024) ⟨t.val / 16, by omega⟩
          ⟨2048 * (t.val % 2) + (y 1 : Fin 2048).val, by have : (y 1 : Fin 2048).val < 2048 := (y 1 : Fin 2048).isLt; omega⟩
          ⟨128 * (t.val / 2 % 8) + (y 2 : Fin 128).val, by omega⟩ := by
        funext a
        apply Fin.ext
        match a with
        | ⟨0, _⟩ => show win0_5.index t 0 * 1 + 1 * (y 0 : Fin 1).val = t.val / 16; rw [index5]; show t.val / 16 * 1 + 1 * (y 0 : Fin 1).val = _; omega
        | ⟨1, _⟩ => show win0_5.index t 1 * 2048 + 1 * (y 1 : Fin 2048).val = _; rw [index5]; show t.val % 2 * 2048 + 1 * (y 1 : Fin 2048).val = 2048 * (t.val % 2) + (y 1 : Fin 2048).val; omega
        | ⟨2, _⟩ => show win0_5.index t 2 * 128 + 1 * (y 2 : Fin 128).val = _; rw [index5]; show t.val / 2 % 8 * 128 + 1 * (y 2 : Fin 128).val = 128 * (t.val / 2 % 8) + (y 2 : Fin 128).val; omega
      refine Eq.trans ?_ (congrArg (whole c mi) e).symm
      show _ = rowOut (Q c mi) (K c mi) (W c mi) _ ⟨(128 * (t.val / 2 % 8) + (y 2 : Fin 128).val) / 128, _⟩ _ ⟨(128 * (t.val / 2 % 8) + (y 2 : Fin 128).val) % 128, _⟩
      exact congrArg₂ (fun (g : Fin 8) (d : Fin 128) => rowOut (Q c mi) (K c mi) (W c mi) _ g _ d) (Fin.ext (by show t.val / 2 % 8 = _ / 128; omega)) (Fin.ext (by show (y 2 : Fin 128).val = _ % 128; omega)))
    (fun i => by
      have h0 : (i 0 : Nat) < 4 := (i 0).isLt
      have h1 : (i 1 : Nat) < 4096 := (i 1).isLt
      have h2 : (i 2 : Nat) < 1024 := (i 2).isLt
      refine ⟨⟨16 * (i 0 : Nat) + 2 * ((i 2 : Nat) / 128) + (i 1 : Nat) / 2048, lt_of_lt_of_eq (by omega) N_0.symm⟩, flush0_5 _, ?_⟩
      mem_blk [index5]
      dsimp
      omega)

/-- THE RUN: from real queries and keys, the kernel's results are the whole result and the two rounded weights. -/
theorem run (ρ : Dev nD → PrngReg) (hq : ∀ c b g i x, IsReal (Q c mi b g i x)) (hk : ∀ c b g i x, IsReal (K c mi b g i x)) :
    θ_run defs (onTc (τ := τ) (main (F := Ideal))) ⟨mi, fun _ => 0, ρ⟩ fun r => ∀ c : Dev nD,
      r.2.mem ((c : Thread nD τ).loc main_v0_0) = whole c mi
      ∧ r.2.mem ((c : Thread nD τ).loc main_v0_1) = truncf (F := Ideal) .bf16 (mi ((c : Thread nD τ).loc main_arg3) : Vec Ideal S2048x11264 .f32) bitsLt_bf16_f32
      ∧ r.2.mem ((c : Thread nD τ).loc main_v0_2) = truncf (F := Ideal) .bf16 (mi ((c : Thread nD τ).loc main_arg4) : Vec Ideal S2048x4096 .f32) bitsLt_bf16_f32
      ∧ r.2.mem ((c : Thread nD τ).loc main_arg0) = mi ((c : Thread nD τ).loc main_arg0)
      ∧ r.2.mem ((c : Thread nD τ).loc main_arg1) = mi ((c : Thread nD τ).loc main_arg1)
      ∧ r.2.mem ((c : Thread nD τ).loc main_arg2) = mi ((c : Thread nD τ).loc main_arg2)
      ∧ r.2.mem ((c : Thread nD τ).loc main_arg3) = mi ((c : Thread nD τ).loc main_arg3)
      ∧ r.2.mem ((c : Thread nD τ).loc main_arg4) = mi ((c : Thread nD τ).loc main_arg4) :=
  (θ_run defs _ _).mono (fun _ h c => ⟨(h c).1.trans (arr5 c mi (hq c) (hk c)), (h c).2.1.trans (arr6 mi c), (h c).2.2.1.trans (arr7 mi c), (h c).2.2.2⟩)
    (run_blocks mi ρ)

end Cert.AttnArray
-- ==== Proof.AttnRef.lean ====
/-
  What the attention's reference computes, read at an index: the same shares' sum of the values.
-/
module

public import proofs.«01_k».proof.Proof.Gen.AttnRefIdeal.Read
public import proofs.«01_k».proof.Proof.AttnRow
public import proofs.«01_k».proof.Proof.RunRead
public import Idealize.ShloMosaic.Lib.Pointwise

@[expose] public section

noncomputable section

namespace Cert.AttnRef

open Idealize.ShloMosaic Cert.AttnRefIdeal Cert.AttnRefIdeal.Gen Cert.AttnRefIdeal.Read Cert.Soft Cert.AttnRow Cert.RunRead

variable (q k : FVec Ideal S4x8x4096x256 .bf16) (v : FVec Ideal S4x8x4096x128 .bf16)

/-- An array of queries or keys as a function of its four coordinates. -/
abbrev at4 (a : FVec Ideal S4x8x4096x256 .bf16) : Fin 4 → Fin 8 → Fin 4096 → Fin 256 → EReal := fun b g i x => a (ix4 b g i x)
/-- An array of values as a function of its four coordinates. -/
abbrev vat4 (a : FVec Ideal S4x8x4096x128 .bf16) : Fin 4 → Fin 8 → Fin 4096 → Fin 128 → EReal := fun b g i x => a (ix4 b g i x)

/-- The constant two's logarithm. -/
theorem log_two (i : S_.Idx) : val_main_v4 (F := Ideal) i = ((Real.log 2 : ℝ) : EReal) := by
  rw [val_main_v4_apply, val_main_cst_apply]
  show Ideal.log (Ideal.ofBits .f32 0x40000000#32) = _
  have h : Ideal.ofBits .f32 0x40000000#32 = ((2 : ℝ) : EReal) := by
    simp [Ideal.ofBits, Ideal.ieee]
    rw [← EReal.coe_mul]
    norm_num
  rw [h, Ideal.log_coe, if_neg (by norm_num)]

/-- A scaled score. -/
theorem score_apply (hq : ∀ i, IsReal (q i)) (hk : ∀ i, IsReal (k i)) (b : Fin 4) (g : Fin 8) (i j : Fin 4096) :
    val_main_v6 (F := Ideal) q k (ix4 b g i j) = ((rowS (at4 q) (at4 k) b g i j.val : ℝ) : EReal) * ((Real.log 2 : ℝ) : EReal) := by
  rw [val_main_v6_apply, val_main_v5_apply, log_two, val_main_v3_apply]
  refine congrArg (· * ((Real.log 2 : ℝ) : EReal)) (Eq.trans ?_ (rowS_eq (at4 q) (at4 k) (fun _ _ _ _ => hq _) (fun _ _ _ _ => hk _) b g i j))
  refine Finset.sum_congr rfl fun x _ => congrArg₂ (· * ·) (congrArg q ?_) (congrArg k ?_) <;>
    · funext a
      match a with
      | ⟨0, _⟩ => rfl
      | ⟨1, _⟩ => rfl
      | ⟨2, _⟩ => rfl
      | ⟨3, _⟩ => rfl

/-- The row's largest scaled score is real. -/
theorem max_real (hq : ∀ i, IsReal (q i)) (hk : ∀ i, IsReal (k i)) (b : Fin 4) (g : Fin 8) (i : Fin 4096) :
    IsReal (val_main_v9 (F := Ideal) q k (ix3 b g i)) := by
  have hs : ∀ j : Fin 4096, IsReal (val_main_v6 (F := Ideal) q k (ix4 b g i j)) := fun j => by
    rw [score_apply q k hq hk]
    exact (isReal_coe _).mul (isReal_coe _)
  have h7 : val_main_v7 (F := Ideal) q k (ix3 b g i)
      = Finset.fold max (Ideal.ofBits FTy.f32 4286578688#32) (fun j : Fin 4096 => val_main_v6 (F := Ideal) q k (ix4 b g i j)) Finset.univ := by
    unfold val_main_v7
    generalize val_main_v6 (F := Ideal) q k = y
    pointwise [val_main_cst_0]
  have h9 : val_main_v9 (F := Ideal) q k (ix3 b g i) = max (Ideal.ofBits FTy.f32 4286578688#32) (val_main_v7 (F := Ideal) q k (ix3 b g i)) := by
    rw [val_main_v9_apply, val_main_v8_apply]
    rfl
  rw [h9, h7, ofBits_negInf]
  refine isReal_of_ne ?_ ?_
  · intro h
    have h0 : val_main_v6 (F := Ideal) q k (ix4 b g i 0) ≤ Finset.fold max ⊥ (fun j : Fin 4096 => val_main_v6 (F := Ideal) q k (ix4 b g i j)) Finset.univ :=
      (Finset.le_fold_max _).mpr (Or.inr ⟨0, Finset.mem_univ _, le_refl _⟩)
    have h1 : val_main_v6 (F := Ideal) q k (ix4 b g i 0) ≤ ⊥ := (h0.trans (le_max_right _ _)).trans (le_of_eq h)
    exact (hs 0).ne_bot (le_bot_iff.mp h1)
  · have h1 := fold_max_ne_top Finset.univ ⊥ (by simp) (fun j : Fin 4096 => val_main_v6 (F := Ideal) q k (ix4 b g i j)) (fun j => (hs j).ne_top)
    intro h
    rcases max_choice (⊥ : EReal) (Finset.fold max ⊥ (fun j : Fin 4096 => val_main_v6 (F := Ideal) q k (ix4 b g i j)) Finset.univ) with e | e <;> rw [e] at h
    · exact absurd h (by simp)
    · exact h1 h

/-- A softmax's exponential, over the row's largest score. -/
theorem exp_apply (hq : ∀ i, IsReal (q i)) (hk : ∀ i, IsReal (k i)) (b : Fin 4) (g : Fin 8) (i j : Fin 4096) :
    val_main_v13 (F := Ideal) q k (ix4 b g i j)
      = Ideal.exp (((rowS (at4 q) (at4 k) b g i j.val : ℝ) : EReal) * ((Real.log 2 : ℝ) : EReal) - (((val_main_v9 (F := Ideal) q k (ix3 b g i)).toReal : ℝ) : EReal)) := by
  rw [val_main_v13_apply, val_main_v12_apply, score_apply q k hq hk, val_main_v11_apply, val_main_v10_apply, ← (max_real q k hq hk b g i).eq]
  have e : idx_main_v10 (idx_main_v11 (ix4 b g i j)) = ix3 b g i := by
    funext a
    match a with
    | ⟨0, _⟩ => rfl
    | ⟨1, _⟩ => rfl
    | ⟨2, _⟩ => rfl
  rw [Ideal.hostUnary_exp_def, Ideal.subf_def]
  generalize ((rowS (at4 q) (at4 k) b g i j.val : ℝ) : EReal) * ((Real.log 2 : ℝ) : EReal) = y
  exact congrArg (fun z => Ideal.exp (y - val_main_v9 (F := Ideal) q k z)) e

/-- A softmax's weight. -/
theorem weight_apply (hq : ∀ i, IsReal (q i)) (hk : ∀ i, IsReal (k i)) (b : Fin 4) (g : Fin 8) (i j : Fin 4096) :
    val_main_v17 (F := Ideal) q k (ix4 b g i j) = ((share (rowS (at4 q) (at4 k) b g i) 4096 j.val : ℝ) : EReal) := by
  rw [val_main_v17_apply, val_main_v16_apply, val_main_v15_apply, val_main_v14_apply, exp_apply q k hq hk]
  refine Eq.trans ?_ (exp_div (rowS (at4 q) (at4 k) b g i) ((val_main_v9 (F := Ideal) q k (ix3 b g i)).toReal) 4096 j.val (by norm_num))
  rw [Ideal.hostDivf_def]
  refine congrArg (Ideal.div _) ?_
  have h0 : val_main_cst_2 (F := Ideal) (Shape.Idx.first h_S_) = 0 := by
    rw [val_main_cst_2_apply]
    show Ideal.ofBits .f32 0#32 = 0
    simp [Ideal.ofBits, Ideal.ieee]
  rw [h0, zero_add, Finset.sum_range]
  refine Finset.sum_congr rfl fun x _ => ?_
  rw [← exp_apply q k hq hk]
  refine congrArg _ ?_
  funext a
  match a with
  | ⟨0, _⟩ => rfl
  | ⟨1, _⟩ => rfl
  | ⟨2, _⟩ => rfl
  | ⟨3, _⟩ => rfl

/-- THE REFERENCE'S VALUE: row `i`, column `128 g + d` is head `g`'s result. -/
theorem out_apply (hq : ∀ i, IsReal (q i)) (hk : ∀ i, IsReal (k i)) (b : Fin 4) (i : Fin 4096) (l : Fin 1024) :
    val_main_v21 (F := Ideal) q k v (ix3 b i l) = rowOut (at4 q) (at4 k) (vat4 v) b ⟨l.val / 128, by omega⟩ i ⟨l.val % 128, by omega⟩ := by
  have e1 : val_main_v21 (F := Ideal) q k v (ix3 b i l) = val_main_v18 (F := Ideal) q k v (ix4 b ⟨l.val / 128, by omega⟩ ⟨l.val % 128, by omega⟩ i) := by
    unfold val_main_v21 val_main_v20 val_main_v19
    generalize val_main_v18 (F := Ideal) q k v = y
    pointwise
  rw [e1, val_main_v18_apply]
  refine Finset.sum_congr rfl fun j _ => ?_
  rw [mul_comm]
  refine congrArg₂ (· * ·) ?_ ?_
  · rw [← weight_apply q k hq hk]
    refine congrArg _ ?_
    funext a
    match a with
    | ⟨0, _⟩ => rfl
    | ⟨1, _⟩ => rfl
    | ⟨2, _⟩ => rfl
    | ⟨3, _⟩ => rfl
  · rw [val_main_v2_apply]
    show v _ = v _
    refine congrArg _ ?_
    funext a
    match a with
    | ⟨0, _⟩ => rfl
    | ⟨1, _⟩ => rfl
    | ⟨2, _⟩ => rfl
    | ⟨3, _⟩ => rfl

end Cert.AttnRef
-- ==== Proof.AttnClaim.lean ====
/-
  The attention's claims: the precondition read, the equation of the kernel's and the reference's results, the frames.
-/
module

public import proofs.«01_k».proof.Defs
public import proofs.«01_k».proof.Proof.AttnArray
public import proofs.«01_k».proof.Proof.AttnRef
public import proofs.«01_k».proof.Proof.Gen.Attn.Frame
public import Idealize.ShloMosaic.Lib.Quiescent

@[expose] public section

noncomputable section

namespace Cert.AttnClaim

open Idealize.ShloMosaic Idealize.ShloMosaic.TcCoe Idealize.SL.Sem Cert.Soft

/-- The precondition's one side condition. -/
instance preFacts : Cert.Pre_finite.Facts := ⟨by decide⟩

/-- The word of minus infinity. -/
theorem negInf : Ideal.ofBits .bf16 0xFF80#16 = ⊥ := by simp [Ideal.ofBits, Ideal.ieee]
/-- The word of plus infinity. -/
theorem posInf : Ideal.ofBits .bf16 0x7F80#16 = ⊤ := by simp [Ideal.ofBits, Ideal.ieee]

/-- A number between the infinities is real. -/
theorem real_of_cmp (x : EReal) (h : Ideal.cmp .ogt x (Ideal.ofBits .bf16 0xFF80#16) &&& Ideal.cmp .olt x (Ideal.ofBits .bf16 0x7F80#16) = 1#1) : IsReal x := by
  rw [negInf, posInf] at h
  have hb : ∀ p q : Bool, BitVec.ofBool p &&& BitVec.ofBool q = 1#1 → p = true ∧ q = true := by decide
  obtain ⟨h1, h2⟩ := hb _ _ h
  exact isReal_of_ne (ne_of_gt (of_decide_eq_true h1)) (ne_of_lt (of_decide_eq_true h2))

/-- The precondition, read: every query and key is real. -/
theorem pre_real (q k : FVec Ideal Cert.Pre_finite.S4x8x4096x256 .bf16) (v : FVec Ideal Cert.Pre_finite.S4x8x4096x128 .bf16)
    (w1 : FVec Ideal Cert.Pre_finite.S2048x11264 .f32) (w2 : FVec Ideal Cert.Pre_finite.S2048x4096 .f32)
    (h : (Cert.Pre_finite.fn (F := Ideal) q k v w1 w2).1 = (fun _ => 1#1) ∧ (Cert.Pre_finite.fn (F := Ideal) q k v w1 w2).2 = (fun _ => 1#1)) :
    (∀ i, IsReal (q i)) ∧ (∀ i, IsReal (k i)) :=
  ⟨fun i => real_of_cmp _ (congrFun h.1 i), fun i => real_of_cmp _ (congrFun h.2 i)⟩

/-- The reference has no semaphore. -/
theorem ref_sems (s : MemSt Cert.AttnRefIdeal.nD Cert.AttnRefIdeal.τ Cert.AttnRefIdeal.sig (Elt Ideal)) : s.sem = fun _ => 0 :=
  sem_eq_zero_of_no_sems (by decide) s

/-- The kernel's program, bit-exact: its frame. -/
theorem frame_P : Cert.quiescent_Attn := fun m g _ => Cert.Attn.Gen.frame m g
/-- The idealized kernel's frame. -/
theorem frame_PI : Cert.quiescent_AttnIdeal := fun m g _ => Cert.AttnIdeal.Gen.frame m g
/-- The idealized kernel's frame, under the precondition. -/
theorem frame_PI_pre : Cert.quiescent_AttnIdeal_pre_finite := fun m g _ => Cert.AttnIdeal.Gen.frame m g
/-- The idealized reference's frame. -/
theorem frame_RI : Cert.quiescent_AttnRefIdeal := fun m g _ =>
  (θ_run _ _ _).mono (fun r h => ⟨fun c => (h c).2.2.2, ref_sems r.2⟩) (Cert.AttnRefIdeal.Value.run (F := Ideal) m g)
/-- The idealized reference's frame, under the precondition. -/
theorem frame_RI_pre : Cert.quiescent_AttnRefIdeal_pre_finite := fun m g _ =>
  (θ_run _ _ _).mono (fun r h => ⟨fun c => (h c).2.2.2, ref_sems r.2⟩) (Cert.AttnRefIdeal.Value.run (F := Ideal) m g)

/-- THE EQUATION: from real queries and keys, the reference's result is the kernel's. -/
theorem result_eq (q k : FVec Ideal Cert.AttnRefIdeal.S4x8x4096x256 .bf16) (v : FVec Ideal Cert.AttnRefIdeal.S4x8x4096x128 .bf16)
    (hq : ∀ i, IsReal (q i)) (hk : ∀ i, IsReal (k i)) (c : Dev Cert.AttnIdeal.nD)
    (m : (ℓ : Loc Cert.AttnIdeal.nD Cert.AttnIdeal.τ Cert.AttnIdeal.sig) → Buf (Elt Ideal) ℓ)
    (h0 : q = m ((c.tc : Thread Cert.AttnIdeal.nD Cert.AttnIdeal.τ).loc Cert.AttnIdeal.main_arg0))
    (h1 : k = m ((c.tc : Thread Cert.AttnIdeal.nD Cert.AttnIdeal.τ).loc Cert.AttnIdeal.main_arg1))
    (h2 : v = m ((c.tc : Thread Cert.AttnIdeal.nD Cert.AttnIdeal.τ).loc Cert.AttnIdeal.main_arg2)) :
    Cert.AttnRefIdeal.Read.val_main_v21 (F := Ideal) q k v = AttnArray.whole c m := by
  funext y
  have e : y = ix3 (n0 := 4) (n1 := 4096) (n2 := 1024) (y 0) (y 1) (y 2) := by
    funext a
    match a with
    | ⟨0, _⟩ => rfl
    | ⟨1, _⟩ => rfl
    | ⟨2, _⟩ => rfl
  rw [e]
  refine (AttnRef.out_apply q k v hq hk (y 0) (y 1) (y 2)).trans ?_
  subst h0 h1 h2
  rfl

/-- THE VALUE CLAIM: from finite queries and keys the idealized kernel and the idealized reference end with equal results. -/
theorem value : Cert.algebraic_AttnIdeal_AttnRefIdeal_pre_finite := by
  intro m g m' g' hpre hagree
  have hr := fun c => pre_real _ _ _ _ _ (hpre c)
  refine ⟨fun c => AttnArray.whole c m, _, _, AttnArray.run m g (fun c b g i x => (hr c).1 _) (fun c b g i x => (hr c).2 _), ?_⟩
  refine (θ_run _ _ _).mono (fun r h c => ?_) (Cert.AttnRefIdeal.Value.run (F := Ideal) m' g')
  obtain ⟨h0, h1, h2, h3⟩ := h c
  obtain ⟨a0, a1, a2, a3, a4⟩ := hagree c
  refine ⟨h0.trans ?_, h1.trans ?_, h2.trans ?_, h3⟩
  · refine (Cert.AttnRefIdeal.Read.val_main_v21_eq _ _ _).trans ?_
    refine result_eq _ _ _ (fun i => ?_) (fun i => ?_) c m a0 a1 a2
    · rw [a0]; exact (hr c).1 i
    · rw [a1]; exact (hr c).2 i
  · rw [a3]
  · rw [a4]

end Cert.AttnClaim
-- ==== Proof.FfnStep.lean ====
/-
  One step of the feed-forward kernel as a function of the vectors it reads: two projections of the point's rows and their
  neighbours, the convolution over three rows of each, the gate, and the projection back, added to what was there.
-/
module

public import proofs.«01_k».proof.Proof.Gen.FfnIdeal.Skeleton
public import proofs.«01_k».proof.Proof.AttnStep

@[expose] public section

noncomputable section

namespace Cert.FfnStep

open Idealize.ShloMosaic Idealize.ShloMosaic.TcCoe Cert.FfnIdeal Cert.FfnIdeal.Gen

variable {F : FTy → Type} [FloatOps F]

/-- 512 of the 544 rows, from `o` on. -/
abbrev rows (u : FVec F S544x512 .f32) (o : Nat) (h : ∀ a, (![o, 0] : Fin 2 → Nat) a + S512x512.size a ≤ S544x512.size a) :
    FVec F S512x512 .f32 := View.ld (Val := Elt F) (e' := .f32) u (Rect.unit (s := S544x512) ![o, 0] S512x512.size h)

/-- The rows' loads fit. -/
theorem rows_fit (o : Nat) (h : o ≤ 32) (a : Fin 2) : (![o, 0] : Fin 2 → Nat) a + S512x512.size a ≤ S544x512.size a := by
  fin_cases a <;> simp <;> omega

/-- The convolution of a projection over its three rows, with its bias. -/
def conv (u : FVec F S544x512 .f32) (cw : FVec F S8x512 .f32) : FVec F S512x512 .f32 :=
  k0_pay8 cw (rows u 16 (rows_fit 16 (by decide))) (rows u 15 (rows_fit 15 (by decide))) (rows u 17 (rows_fit 17 (by decide)))

/-- What a step leaves in the result's block: `acc` and the step's share of the inner columns. -/
def step (h : FVec F S544x2048 .bf16) (wa wb : FVec F S2048x512 .bf16) (cwa cwb : FVec F S8x512 .f32) (wd : FVec F S512x2048 .bf16)
    (acc : FVec F S1x512x2048 .f32) : FVec F S1x512x2048 .f32 :=
  k0_pay9 (conv (k0_pay6 h wa) cwa) cwb (rows (k0_pay7 h wb) 16 (rows_fit 16 (by decide))) (rows (k0_pay7 h wb) 15 (rows_fit 15 (by decide)))
    (rows (k0_pay7 h wb) 17 (rows_fit 17 (by decide))) acc wd

/-- The scratch's three stores: the rows after the point's, the point's, and the rows before. -/
def scrPieces (i : grid0.Coords) (x0 : FVec F S1x512x2048 .bf16) (x1 x2 : FVec F S1x16x2048 .bf16) : List (View.Piece (Elt F) S544x2048 .bf16) :=
  [⟨Rect.unit (s := S544x2048) ![528, 0] S16x2048.size inb_S544x2048_S16x2048_528_0, k0_pay4 i x2⟩,
    ⟨Rect.unit (s := S544x2048) ![16, 0] S512x2048.size inb_S544x2048_S512x2048_16_0, k0_pay3 x0⟩,
    ⟨Rect.unit (s := S544x2048) ![0, 0] S16x2048.size inb_S544x2048_S16x2048_0_0, k0_pay2 i x1⟩]

/-- Loading the whole of a three-axis array is the array. -/
theorem ld_whole3 {Val : EltTy → Type} {e : EltTy} {a b c : Nat} (x : (⟨3, ![a, b, c]⟩ : Shape).Idx → Val e)
    (inb : ∀ i, (![0, 0, 0] : Fin 3 → Nat) i + (![a, b, c] : Fin 3 → Nat) i ≤ (⟨3, ![a, b, c]⟩ : Shape).size i) :
    View.ld x (Rect.unit (s := ⟨3, ![a, b, c]⟩) ![0, 0, 0] ![a, b, c] inb) = x := by
  funext j
  refine congrArg x (funext fun i => Fin.ext ?_)
  fin_cases i <;> simp [Rect.unit]

/-- What a last store of the whole of a two-axis array leaves. -/
theorem canon_whole2 {Val : EltTy → Type} [∀ e, Nonempty (Val e)] {e : EltTy} {a b : Nat} (inb : ∀ i, (![0, 0] : Fin 2 → Nat) i + (![a, b] : Fin 2 → Nat) i ≤ (⟨2, ![a, b]⟩ : Shape).size i)
    (w : (⟨2, ![a, b]⟩ : Shape).Idx → Val e) (L : List (View.Piece Val ⟨2, ![a, b]⟩ e)) :
    View.canon (⟨Rect.unit (s := ⟨2, ![a, b]⟩) ![0, 0] ![a, b] inb, w⟩ :: L) = w := by
  funext j
  refine Eq.trans (congrArg _ (funext fun i => Fin.ext ?_)) (View.canon_cons_emb (Rect.unit (s := ⟨2, ![a, b]⟩) ![0, 0] ![a, b] inb) w L j)
  match i with
  | ⟨0, _⟩ => show (j 0).val = 0 + 1 * (j 0).val; omega
  | ⟨1, _⟩ => show (j 1).val = 0 + 1 * (j 1).val; omega

/-- What a last store of the whole of a three-axis array leaves. -/
theorem canon_whole3 {Val : EltTy → Type} [∀ e, Nonempty (Val e)] {e : EltTy} {a b c : Nat} (inb : ∀ i, (![0, 0, 0] : Fin 3 → Nat) i + (![a, b, c] : Fin 3 → Nat) i ≤ (⟨3, ![a, b, c]⟩ : Shape).size i)
    (w : (⟨3, ![a, b, c]⟩ : Shape).Idx → Val e) (L : List (View.Piece Val ⟨3, ![a, b, c]⟩ e)) :
    View.canon (⟨Rect.unit (s := ⟨3, ![a, b, c]⟩) ![0, 0, 0] ![a, b, c] inb, w⟩ :: L) = w := by
  funext j
  refine Eq.trans (congrArg _ (funext fun i => Fin.ext ?_)) (View.canon_cons_emb (Rect.unit (s := ⟨3, ![a, b, c]⟩) ![0, 0, 0] ![a, b, c] inb) w L j)
  match i with
  | ⟨0, _⟩ => show (j 0).val = 0 + 1 * (j 0).val; omega
  | ⟨1, _⟩ => show (j 1).val = 0 + 1 * (j 1).val; omega
  | ⟨2, _⟩ => show (j 2).val = 0 + 1 * (j 2).val; omega

end Cert.FfnStep
-- ==== Proof.FfnBlock.lean ====
/-
  What the feed-forward kernel leaves at each point: the first of a block of rows fills the scratch and starts from zero, the
  others add to what is there, and the last one adds the residual and takes the norm.
-/
module

public import proofs.«01_k».proof.Proof.Gen.FfnIdeal.Frame
public import proofs.«01_k».proof.Proof.FfnStep

@[expose] public section

set_option maxRecDepth 16384

noncomputable section

namespace Cert.FfnBlock

open Idealize.ShloMosaic Idealize.ShloMosaic.TcCoe Idealize.ShloMosaic.Tactic Idealize.ShloMosaic.Rounds
open Cert.FfnIdeal Cert.FfnIdeal.Gen Cert.FfnStep
open Cert.AttnStep (ld_whole2 readCov_scratch)

variable {F : FTy → Type} [FloatOps F]
variable (c : Dev nD)
  (i : grid0.Coords)
  (arg3 : Memref sig .tc .vmem S1x512x2048 .bf16)
  (harg3 : arg3.IsWhole)
  (arg4 : Memref sig .tc .vmem S1x16x2048 .bf16)
  (harg4 : arg4.IsWhole)
  (arg5 : Memref sig .tc .vmem S1x16x2048 .bf16)
  (harg5 : arg5.IsWhole)
  (arg6 : Memref sig .tc .vmem S1x512x2048 .f32)
  (harg6 : arg6.IsWhole)
  (arg7 : Memref sig .tc .vmem S2048x512 .bf16)
  (harg7 : arg7.IsWhole)
  (arg8 : Memref sig .tc .vmem S2048x512 .bf16)
  (harg8 : arg8.IsWhole)
  (arg9 : Memref sig .tc .vmem S8x512 .f32)
  (harg9 : arg9.IsWhole)
  (arg10 : Memref sig .tc .vmem S8x512 .f32)
  (harg10 : arg10.IsWhole)
  (arg11 : Memref sig .tc .vmem S512x2048 .bf16)
  (harg11 : arg11.IsWhole)
  (arg12 : Memref sig .tc .vmem S1x2048 .f32)
  (harg12 : arg12.IsWhole)
  (arg13 : Memref sig .tc .vmem S1x512x2048 .f32)
  (harg13 : arg13.IsWhole)
  (arg14 : Memref sig .tc .vmem S544x2048 .bf16)
  (harg14 : arg14.IsWhole)
  (arg15 : Memref sig .tc .vmem S544x512 .f32)
  (harg15 : arg15.IsWhole)
  (arg16 : Memref sig .tc .vmem S544x512 .f32)
  (harg16 : arg16.IsWhole)
variable (x0 : Vec F S1x512x2048 .bf16) (x1 : Vec F S1x16x2048 .bf16) (x2 : Vec F S1x16x2048 .bf16) (x3 : Vec F S1x512x2048 .f32) (x4 : Vec F S2048x512 .bf16) (x5 : Vec F S2048x512 .bf16) (x6 : Vec F S8x512 .f32) (x7 : Vec F S8x512 .f32) (x8 : Vec F S512x2048 .bf16) (x9 : Vec F S1x2048 .f32)

/-- A load out of a three-axis array of several stores reads what the stores left. -/
theorem readCov_three {Val : EltTy → Type} [∀ e, Nonempty (Val e)] {sig : RefSig} {κ : Kind} {sp : Space} {d : Fin 3 → Nat} {e : EltTy}
    (v : View sig κ sp ⟨3, d⟩ e) (off sz : Fin 3 → Nat) (inb : ∀ a, off a + sz a ≤ (⟨3, d⟩ : Shape).size a)
    (L : List (View.Piece Val ⟨3, d⟩ e)) :
    v.readCov L (Rect.unit off sz inb).toLoadRect = View.ld (View.canon L) (Rect.unit off sz inb) := by
  rw [View.readCov_eq_canon']

/-- The first point's scratch: the three stores. -/
theorem scratch_A (hc0 : cond0_0 i) (hc1 : ¬cond0_1 i) : (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.1 = scrPieces i x0 x1 x2 := by
  unfold kernelRun0_A
  dsimp only
  sl_unfold_run_names
  simp only [readCov_scratch, View.readAt_eq_ld, Memref.IsWhole.read_unread, ld_whole2, ld_whole3, canon_whole2, readCov_three, canon_whole3]
  rfl

/-- The first point's block: a step from zero. -/
theorem block_A (hc0 : cond0_0 i) (hc1 : ¬cond0_1 i) :
    View.canon (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).1 = step (View.canon (scrPieces i x0 x1 x2)) x4 x5 x6 x7 x8 k0_pay5 := by
  unfold kernelRun0_A
  dsimp only
  sl_unfold_run_names
  simp only [readCov_scratch, View.readAt_eq_ld, Memref.IsWhole.read_unread, ld_whole2, ld_whole3, canon_whole2, readCov_three, canon_whole3]
  rfl

/-- A later point's block: a step from what is there. -/
theorem block_B (hc0 : ¬cond0_0 i) (hc1 : ¬cond0_1 i) (xo10 : Vec F S1x512x2048 .f32) (xs0 : Vec F S544x2048 .bf16) :
    View.canon (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xo10 xs0).1 = step xs0 x4 x5 x6 x7 x8 xo10 := by
  unfold kernelRun0_B
  dsimp only
  sl_unfold_run_names
  simp only [readCov_scratch, View.readAt_eq_ld, Memref.IsWhole.read_unread, ld_whole2, ld_whole3, canon_whole2, readCov_three, canon_whole3]
  rfl

/-- The last point's block: a step from what is there, the residual and the norm. -/
theorem block_C (hc0 : ¬cond0_0 i) (hc1 : cond0_1 i) (xo10 : Vec F S1x512x2048 .f32) (xs0 : Vec F S544x2048 .bf16) :
    View.canon (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xo10 xs0).1 = k0_pay1 x3 (step xs0 x4 x5 x6 x7 x8 xo10) x9 := by
  unfold kernelRun0_C
  dsimp only
  sl_unfold_run_names
  simp only [readCov_scratch, View.readAt_eq_ld, Memref.IsWhole.read_unread, ld_whole2, ld_whole3, canon_whole2, readCov_three, canon_whole3]
  rfl

end Cert.FfnBlock
-- ==== Proof.FfnRow.lean ====
/-
  The feed-forward's result as plain sums over the extended reals: a gated convolution of two projections' rows, projected
  back, added to the residual and normed.
-/
module

public import Idealize.ShloMosaic.Lib.Pointwise

@[expose] public section

noncomputable section

namespace Cert.FfnRow

open Idealize.ShloMosaic

variable (H : Fin 4 → Fin 4096 → Fin 2048 → EReal) (X : Fin 4 → Fin 4096 → Fin 2048 → EReal) (W : Fin 2048 → Fin 11264 → EReal)
  (C : Fin 8 → Fin 11264 → EReal) (D : Fin 5632 → Fin 2048 → EReal) (N : Fin 2048 → EReal)

/-- Row `n` of a batch's rows with a row of zeros before the first and after the last. -/
def padRow (b : Fin 4) (n : ℕ) (x : Fin 2048) : EReal := if h : 1 ≤ n ∧ n < 4097 then H b ⟨n - 1, by omega⟩ x else 0

/-- The projection of a padded row. -/
def up (b : Fin 4) (n : ℕ) (c : Fin 11264) : EReal := ∑ x : Fin 2048, padRow H b n x * W x c

/-- A projection's row of a row of zeros is zero; of another it is the row's projection. -/
theorem up_eq (b : Fin 4) (n : ℕ) (c : Fin 11264) :
    up H W b n c = if h : 1 ≤ n ∧ n < 4097 then ∑ x : Fin 2048, H b ⟨n - 1, by omega⟩ x * W x c else 0 := by
  unfold up padRow
  split
  · rfl
  · simp

/-- The convolution over three neighbouring rows, with its bias. -/
def pre (b : Fin 4) (l : Fin 4096) (c : Fin 11264) : EReal :=
  up H W b l.val c * C 0 c + up H W b (l.val + 1) c * C 1 c + up H W b (l.val + 2) c * C 2 c + C 3 c

/-- The gate: the first over one plus an exponential, times the second. -/
def gate (a b : EReal) : EReal := a * Ideal.div 1 (1 + Ideal.exp (0 - a)) * b

/-- The gated hidden column `c`. -/
def act (b : Fin 4) (l : Fin 4096) (c : Fin 5632) : EReal :=
  gate (pre H W C b l ⟨c.val, by omega⟩) (pre H W C b l ⟨c.val + 5632, by omega⟩)

/-- A hidden column's part in result column `d`, as a function of a natural number. -/
def part (b : Fin 4) (l : Fin 4096) (d : Fin 2048) (n : ℕ) : EReal :=
  if h : n < 5632 then act H W C b l ⟨n, h⟩ * D ⟨n, h⟩ d else 0

/-- The residual plus the hidden columns' projection. -/
def res (b : Fin 4) (l : Fin 4096) (d : Fin 2048) : EReal := X b l d + ∑ c : Fin 5632, act H W C b l c * D c d

/-- The projection back as a sum of a range. -/
theorem sum_part (b : Fin 4) (l : Fin 4096) (d : Fin 2048) :
    ∑ n ∈ Finset.range 5632, part H W C D b l d n = ∑ c : Fin 5632, act H W C b l c * D c d := by
  rw [Finset.sum_range]
  exact Finset.sum_congr rfl fun c _ => dif_pos c.isLt

/-- A row times its inverse root mean square, times a gain. -/
def rmsNorm (y : Fin 2048 → EReal) (d : Fin 2048) : EReal :=
  y d * Ideal.rsqrt (Ideal.div (∑ x : Fin 2048, y x * y x) (Ideal.ofBits .f32 0x45000000#32) + Ideal.ofBits .f32 0x358637BD#32) * N d

/-- The feed-forward's result. -/
def out (b : Fin 4) (l : Fin 4096) (d : Fin 2048) : EReal := rmsNorm N (res H X W C D b l) d

end Cert.FfnRow
-- ==== Proof.FfnPoint.lean ====
/-
  What a point of the feed-forward kernel computes, read at an index over the extended reals: the scratch's rows are the
  point's rows and their two neighbours, zero outside the batch; a step adds its hidden columns' part.
-/
module

public import proofs.«01_k».proof.Proof.FfnStep
public import proofs.«01_k».proof.Proof.FfnRow

@[expose] public section

noncomputable section

namespace Cert.FfnPoint

open Idealize.ShloMosaic Idealize.ShloMosaic.TcCoe Cert.FfnIdeal Cert.FfnIdeal.Gen Cert.FfnStep Cert.FfnRow

/-- A projection at an index. -/
theorem up_apply (h : Vec Ideal S544x2048 .bf16) (w : Vec Ideal S2048x512 .bf16) (r : Fin 544) (c : Fin 512) :
    k0_pay6 (F := Ideal) h w (ix2 r c) = ∑ x : Fin 2048, h (ix2 r x) * w (ix2 x c) := by
  pointwise [k0_pay6]

/-- The second projection is the same function. -/
theorem up_same (h : Vec Ideal S544x2048 .bf16) (w : Vec Ideal S2048x512 .bf16) : k0_pay7 (F := Ideal) h w = k0_pay6 (F := Ideal) h w := rfl

/-- A load of rows at an index. -/
theorem rows_apply (u : Vec Ideal S544x512 .f32) (o : Nat) (ho : o ≤ 32) (r : Fin 512) (c : Fin 512) :
    rows (F := Ideal) u o (rows_fit o ho) (ix2 r c) = u (ix2 ⟨o + r.val, by omega⟩ c) := by
  pointwise [rows]

/-- The convolution of column `c` at row `n` of the padded rows `P`. -/
def conv3 (P : ℕ → Fin 2048 → EReal) (w : Vec Ideal S2048x512 .bf16) (cw : Vec Ideal S8x512 .f32) (n : ℕ) (c : Fin 512) : EReal :=
  (∑ x : Fin 2048, P n x * w (ix2 x c)) * cw (ix2 0 c) + (∑ x : Fin 2048, P (n + 1) x * w (ix2 x c)) * cw (ix2 1 c)
    + (∑ x : Fin 2048, P (n + 2) x * w (ix2 x c)) * cw (ix2 2 c) + cw (ix2 3 c)

/-- The kernel's order of the convolution's terms. -/
theorem reorder (a b c d : EReal) : b + d + a + c = a + b + c + d := by ac_rfl

/-- The convolution at an index. -/
theorem conv_apply (P : ℕ → Fin 2048 → EReal) (h : Vec Ideal S544x2048 .bf16)
    (hP : ∀ (s : ℕ) (hs : s < 514) (x : Fin 2048), h (ix2 ⟨15 + s, by omega⟩ x) = P s x)
    (w : Vec Ideal S2048x512 .bf16) (cw : Vec Ideal S8x512 .f32) (r : Fin 512) (c : Fin 512) :
    conv (F := Ideal) (k0_pay6 h w) cw (ix2 r c) = conv3 P w cw r.val c := by
  have hu : ∀ (s : ℕ) (hs : s < 514), k0_pay6 (F := Ideal) h w (ix2 ⟨15 + s, by omega⟩ c) = ∑ x : Fin 2048, P s x * w (ix2 x c) := fun s hs =>
    (up_apply h w _ c).trans (Finset.sum_congr rfl fun x _ => congrArg (· * w (ix2 x c)) (hP s hs x))
  have h0 := (rows_apply (k0_pay6 (F := Ideal) h w) 15 (by decide) r c).trans (hu r.val (by omega))
  have h1 := (rows_apply (k0_pay6 (F := Ideal) h w) 16 (by decide) r c).trans
    ((congrArg (fun z : Fin 544 => k0_pay6 (F := Ideal) h w (ix2 z c)) (Fin.ext (show 16 + r.val = 15 + (r.val + 1) by omega))).trans (hu (r.val + 1) (by omega)))
  have h2 := (rows_apply (k0_pay6 (F := Ideal) h w) 17 (by decide) r c).trans
    ((congrArg (fun z : Fin 544 => k0_pay6 (F := Ideal) h w (ix2 z c)) (Fin.ext (show 17 + r.val = 15 + (r.val + 2) by omega))).trans (hu (r.val + 2) (by omega)))
  unfold conv3
  rw [← h0, ← h1, ← h2]
  generalize k0_pay6 (F := Ideal) h w = u
  pointwise [conv, k0_pay8]
  exact reorder _ _ _ _

/-- A step in terms of the two convolutions. -/
theorem step_conv (h : Vec Ideal S544x2048 .bf16) (wa wb : Vec Ideal S2048x512 .bf16) (cwa cwb : Vec Ideal S8x512 .f32) (wd : Vec Ideal S512x2048 .bf16)
    (acc : Vec Ideal S1x512x2048 .f32) (r : Fin 512) (d : Fin 2048) :
    step (F := Ideal) h wa wb cwa cwb wd acc (ix3 0 r d)
      = acc (ix3 0 r d) + ∑ c : Fin 512, gate (conv (F := Ideal) (k0_pay6 h wa) cwa (ix2 r c)) (conv (F := Ideal) (k0_pay6 h wb) cwb (ix2 r c)) * wd (ix2 c d) := by
  have e : ∀ c : Fin 512, conv (F := Ideal) (k0_pay6 h wb) cwb (ix2 r c)
      = rows (F := Ideal) (k0_pay7 h wb) 16 (rows_fit 16 (by decide)) (ix2 r c) * cwb (ix2 1 c) + cwb (ix2 3 c)
        + rows (F := Ideal) (k0_pay7 h wb) 15 (rows_fit 15 (by decide)) (ix2 r c) * cwb (ix2 0 c)
        + rows (F := Ideal) (k0_pay7 h wb) 17 (rows_fit 17 (by decide)) (ix2 r c) * cwb (ix2 2 c) := fun c => by
    rw [up_same]
    generalize k0_pay6 (F := Ideal) h wb = u
    pointwise [conv, k0_pay8]
  simp only [e]
  pointwise [step, k0_pay9]
  rfl

/-- A STEP AT AN INDEX: what was there and the step's hidden columns' part. -/
theorem step_apply (P : ℕ → Fin 2048 → EReal) (h : Vec Ideal S544x2048 .bf16)
    (hP : ∀ (s : ℕ) (hs : s < 514) (x : Fin 2048), h (ix2 ⟨15 + s, by omega⟩ x) = P s x)
    (wa wb : Vec Ideal S2048x512 .bf16) (cwa cwb : Vec Ideal S8x512 .f32) (wd : Vec Ideal S512x2048 .bf16)
    (acc : Vec Ideal S1x512x2048 .f32) (r : Fin 512) (d : Fin 2048) :
    step (F := Ideal) h wa wb cwa cwb wd acc (ix3 0 r d)
      = acc (ix3 0 r d) + ∑ c : Fin 512, gate (conv3 P wa cwa r.val c) (conv3 P wb cwb r.val c) * wd (ix2 c d) := by
  rw [step_conv]
  refine congrArg (acc (ix3 0 r d) + ·) (Finset.sum_congr rfl fun c _ => congrArg (· * wd (ix2 c d)) ?_)
  exact congrArg₂ gate (conv_apply P h hP wa cwa r c) (conv_apply P h hP wb cwb r c)

/-- The last point's norm at an index. -/
theorem norm_apply (x y : Vec Ideal S1x512x2048 .f32) (g : Vec Ideal S1x2048 .f32) (r : Fin 512) (d : Fin 2048) :
    k0_pay1 (F := Ideal) x y g (ix3 0 r d) = rmsNorm (fun d => g (ix2 0 d)) (fun d => x (ix3 0 r d) + y (ix3 0 r d)) d := by
  unfold rmsNorm
  pointwise [k0_pay1]

/-- The accumulator's start. -/
theorem zero_apply (r : Fin 512) (d : Fin 2048) : (k0_pay5 (F := Ideal)) (ix3 0 r d) = 0 := by
  pointwise [k0_pay5]

/-- A choice on whether a grid coordinate has a value. -/
theorem select_eq {α : Type} (n k : ℕ) (hn : n < 8) (hk : k < 8) (a b : α) :
    Scalar.select (Scalar.cmpi .eq (BitVec.ofNat 32 n) (BitVec.ofNat 32 k)) a b = if n = k then a else b := by
  have e : (BitVec.ofNat 32 n = BitVec.ofNat 32 k) ↔ n = k := by
    rw [← BitVec.toNat_inj, BitVec.toNat_ofNat, BitVec.toNat_ofNat, Nat.mod_eq_of_lt (by omega), Nat.mod_eq_of_lt (by omega)]
  by_cases h : n = k
  · simp [Scalar.select, Scalar.cmpi, IntOp.cmpi, h]
  · have h' : (BitVec.ofNat 32 n == BitVec.ofNat 32 k) = false := beq_eq_false_iff_ne.mpr fun q => h (e.mp q)
    simp [Scalar.select, Scalar.cmpi, IntOp.cmpi, h, h']

/-- The rows before the point's. -/
theorem before_apply (i : grid0.Coords) (x : Vec Ideal S1x16x2048 .bf16) (r : Fin 16) (d : Fin 2048) :
    k0_pay2 (F := Ideal) i x (ix2 r d) = if (i 1).val = 0 then 0 else x (ix3 0 r d) := by
  rw [← select_eq (i 1).val 0 (i 1).isLt (by decide)]
  pointwise [k0_pay2]

/-- The rows after the point's. -/
theorem after_apply (i : grid0.Coords) (x : Vec Ideal S1x16x2048 .bf16) (r : Fin 16) (d : Fin 2048) :
    k0_pay4 (F := Ideal) i x (ix2 r d) = if (i 1).val = 7 then 0 else x (ix3 0 r d) := by
  rw [← select_eq (i 1).val 7 (i 1).isLt (by decide)]
  pointwise [k0_pay4]

/-- The point's rows. -/
theorem main_apply (x : Vec Ideal S1x512x2048 .bf16) (r : Fin 512) (d : Fin 2048) : k0_pay3 (F := Ideal) x (ix2 r d) = x (ix3 0 r d) := by
  pointwise [k0_pay3]

/-- THE SCRATCH: rows 15 to 528 are the padded rows. -/
theorem scratch_apply (i : grid0.Coords) (x0 : Vec Ideal S1x512x2048 .bf16) (x1 x2 : Vec Ideal S1x16x2048 .bf16) (P : ℕ → Fin 2048 → EReal)
    (hm : ∀ (r : Fin 512) (x : Fin 2048), x0 (ix3 0 r x) = P (r.val + 1) x)
    (hb : ∀ x : Fin 2048, (if (i 1).val = 0 then 0 else x1 (ix3 0 15 x)) = P 0 x)
    (ha : ∀ x : Fin 2048, (if (i 1).val = 7 then 0 else x2 (ix3 0 0 x)) = P 513 x)
    (s : ℕ) (hs : s < 514) (x : Fin 2048) :
    View.canon (Val := Elt Ideal) (scrPieces (F := Ideal) i x0 x1 x2) (ix2 ⟨15 + s, by omega⟩ x) = P s x := by
  by_cases h3 : s = 513
  · have e : ix2 (n0 := 544) (n1 := 2048) ⟨15 + s, by omega⟩ x
        = (Rect.unit (s := S544x2048) ![528, 0] S16x2048.size inb_S544x2048_S16x2048_528_0).emb (ix2 (0 : Fin 16) x) := by
      funext a
      apply Fin.ext
      match a with
      | ⟨0, _⟩ => show 15 + s = 528 + 1 * 0; omega
      | ⟨1, _⟩ => show x.val = 0 + 1 * x.val; omega
    rw [e]
    refine (View.canon_cons_emb _ _ _ _).trans ((after_apply i x2 0 x).trans ((ha x).trans ?_))
    rw [h3]
  · refine (View.canon_cons_of_not_mem _ _ ?_).trans ?_
    · rw [Rect.mem_set_unit]
      intro hh
      have h528 : 528 ≤ 15 + s := (hh 0).1
      omega
    by_cases h0 : s = 0
    · refine (View.canon_cons_of_not_mem _ _ ?_).trans ?_
      · rw [Rect.mem_set_unit]
        intro hh
        have h16 : 16 ≤ 15 + s := (hh 0).1
        omega
      have e : ix2 (n0 := 544) (n1 := 2048) ⟨15 + s, by omega⟩ x
          = (Rect.unit (s := S544x2048) ![0, 0] S16x2048.size inb_S544x2048_S16x2048_0_0).emb (ix2 (15 : Fin 16) x) := by
        funext a
        apply Fin.ext
        match a with
        | ⟨0, _⟩ => show 15 + s = 0 + 1 * 15; omega
        | ⟨1, _⟩ => show x.val = 0 + 1 * x.val; omega
      rw [e]
      refine (View.canon_cons_emb _ _ _ _).trans ((before_apply i x1 15 x).trans ((hb x).trans ?_))
      rw [h0]
    · have e : ix2 (n0 := 544) (n1 := 2048) ⟨15 + s, by omega⟩ x
          = (Rect.unit (s := S544x2048) ![16, 0] S512x2048.size inb_S544x2048_S512x2048_16_0).emb (ix2 (⟨s - 1, by omega⟩ : Fin 512) x) := by
        funext a
        apply Fin.ext
        match a with
        | ⟨0, _⟩ => show 15 + s = 16 + 1 * (s - 1); omega
        | ⟨1, _⟩ => show x.val = 0 + 1 * x.val; omega
      rw [e]
      refine (View.canon_cons_emb _ _ _ _).trans ((main_apply x0 ⟨s - 1, by omega⟩ x).trans ((hm ⟨s - 1, by omega⟩ x).trans ?_))
      exact congrArg (fun n => P n x) (show s - 1 + 1 = s by omega)

end Cert.FfnPoint
-- ==== Proof.FfnArray.lean ====
/-
  What the feed-forward kernel's result array holds: the scratch and the block after each grid point, then the whole array.
-/
module

public import proofs.«01_k».proof.Proof.Gen.FfnIdeal.Value
public import proofs.«01_k».proof.Proof.FfnBlock
public import proofs.«01_k».proof.Proof.FfnPoint
public import Idealize.ShloMosaic.Lib.Pipeline.ValueKit
public import Idealize.ShloMosaic.Lib.Pipeline.ReadBack

@[expose] public section

noncomputable section

namespace Cert.FfnArray

open Idealize.ShloMosaic Idealize.ShloMosaic.TcCoe Idealize.SL.Sem Cert.FfnIdeal Cert.FfnIdeal.Gen Cert.FfnIdeal.Value
open Cert.FfnStep Cert.FfnRow Cert.FfnPoint Cert.FfnBlock

variable (m : (ℓ : Loc nD τ sig) → Buf (Elt Ideal) ℓ) (c : Dev nD)

/-- The rows to project, by their three coordinates. -/
def H : Fin 4 → Fin 4096 → Fin 2048 → EReal := fun b l x => (m ((c : Thread nD τ).loc main_arg0) : Vec Ideal S4x4096x2048 .bf16) (ix3 b l x)
/-- The residual. -/
def X : Fin 4 → Fin 4096 → Fin 2048 → EReal := fun b l x => (m ((c : Thread nD τ).loc main_arg1) : Vec Ideal S4x4096x2048 .f32) (ix3 b l x)
/-- The projections' weight. -/
def W : Fin 2048 → Fin 11264 → EReal := fun x k => (m ((c : Thread nD τ).loc main_arg2) : Vec Ideal S2048x11264 .bf16) (ix2 x k)
/-- The convolution's weights and bias. -/
def C : Fin 8 → Fin 11264 → EReal := fun x k => (m ((c : Thread nD τ).loc main_arg3) : Vec Ideal S8x11264 .f32) (ix2 x k)
/-- The weight back. -/
def D : Fin 5632 → Fin 2048 → EReal := fun x k => (m ((c : Thread nD τ).loc main_arg4) : Vec Ideal S5632x2048 .bf16) (ix2 x k)
/-- The norm's gain. -/
def N : Fin 2048 → EReal := fun k => (m ((c : Thread nD τ).loc main_arg5) : Vec Ideal S1x2048 .f32) (ix2 0 k)

/-- A point's batch. -/
def bOf (n : ℕ) : Fin 4 := ⟨n / 88 % 4, by omega⟩
/-- Row `r` of a point's block in its batch. -/
def lOf (n : ℕ) (r : Fin 512) : Fin 4096 := ⟨512 * (n / 11 % 8) + r.val, by omega⟩
/-- Column `k` of a point's block of hidden columns. -/
def cOf (n : ℕ) (k : Fin 512) : Fin 5632 := ⟨512 * (n % 11) + k.val, by omega⟩

/-- There are 352 points. -/
theorem lt352 (t : Fin cfg0.N) : t.val < 352 := lt_of_lt_of_eq t.isLt N_0

/-- A point's row coordinate. -/
theorem coord1 : ∀ t : Fin cfg0.N, (grid0.coords t 1).val = t.val / 11 % 8 :=
  (by decide +kernel : ∀ t : Fin grid0.N, (grid0.coords t 1).val = t.val / 11 % 8)
/-- The block of a point: rows. -/
theorem index0 : ∀ t : Fin cfg0.N, win0_0.index t = ![t.val / 88, t.val / 11 % 8, 0] :=
  (by decide +kernel : ∀ t : Fin grid0.N, win0_0.index t = ![t.val / 88, t.val / 11 % 8, 0])
/-- The block of a point: rows before. -/
theorem index1 : ∀ t : Fin cfg0.N, win0_1.index t = ![t.val / 88, t.val / 11 % 8 * 32 - 1, 0] :=
  (by decide +kernel : ∀ t : Fin grid0.N, win0_1.index t = ![t.val / 88, t.val / 11 % 8 * 32 - 1, 0])
/-- The block of a point: rows after. -/
theorem index2 : ∀ t : Fin cfg0.N, win0_2.index t = ![t.val / 88, min ((t.val / 11 % 8 + 1) * 32) 255, 0] :=
  (by decide +kernel : ∀ t : Fin grid0.N, win0_2.index t = ![t.val / 88, min ((t.val / 11 % 8 + 1) * 32) 255, 0])
/-- The block of a point: residual. -/
theorem index3 : ∀ t : Fin cfg0.N, win0_3.index t = ![t.val / 88, t.val / 11 % 8, 0] :=
  (by decide +kernel : ∀ t : Fin grid0.N, win0_3.index t = ![t.val / 88, t.val / 11 % 8, 0])
/-- The block of a point: first weight. -/
theorem index4 : ∀ t : Fin cfg0.N, win0_4.index t = ![0, t.val % 11] :=
  (by decide +kernel : ∀ t : Fin grid0.N, win0_4.index t = ![0, t.val % 11])
/-- The block of a point: second weight. -/
theorem index5 : ∀ t : Fin cfg0.N, win0_5.index t = ![0, t.val % 11 + 11] :=
  (by decide +kernel : ∀ t : Fin grid0.N, win0_5.index t = ![0, t.val % 11 + 11])
/-- The block of a point: first convolution. -/
theorem index6 : ∀ t : Fin cfg0.N, win0_6.index t = ![0, t.val % 11] :=
  (by decide +kernel : ∀ t : Fin grid0.N, win0_6.index t = ![0, t.val % 11])
/-- The block of a point: second convolution. -/
theorem index7 : ∀ t : Fin cfg0.N, win0_7.index t = ![0, t.val % 11 + 11] :=
  (by decide +kernel : ∀ t : Fin grid0.N, win0_7.index t = ![0, t.val % 11 + 11])
/-- The block of a point: weight back. -/
theorem index8 : ∀ t : Fin cfg0.N, win0_8.index t = ![t.val % 11, 0] :=
  (by decide +kernel : ∀ t : Fin grid0.N, win0_8.index t = ![t.val % 11, 0])
/-- The block of a point: gain. -/
theorem index9 : ∀ t : Fin cfg0.N, win0_9.index t = ![0, 0] :=
  (by decide +kernel : ∀ t : Fin grid0.N, win0_9.index t = ![0, 0])
/-- The block of a point: result. -/
theorem index10 : ∀ t : Fin cfg0.N, win0_10.index t = ![t.val / 88, t.val / 11 % 8, 0] :=
  (by decide +kernel : ∀ t : Fin grid0.N, win0_10.index t = ![t.val / 88, t.val / 11 % 8, 0])

/-- A point's rows. -/
theorem iblk0 (t : Fin cfg0.N) (r : Fin 512) (x : Fin 2048) :
    (iblk m c 0 t : Vec Ideal S1x512x2048 .bf16) (ix3 0 r x) = H m c (bOf t.val) (lOf t.val r) x := by
  have ht := lt352 t
  unfold iblk
  rw [View.read_apply]
  show (V m c main_arg0 : Vec Ideal S4x4096x2048 .bf16) _ = _
  rw [V_main_arg0]
  refine congrArg _ (funext fun a => Fin.ext ?_)
  match a with
  | ⟨0, _⟩ => show win0_0.index t 0 * 1 + 1 * 0 = t.val / 88 % 4; rw [index0]; show t.val / 88 * 1 + 1 * 0 = t.val / 88 % 4; omega
  | ⟨1, _⟩ => show win0_0.index t 1 * 512 + 1 * r.val = 512 * (t.val / 11 % 8) + r.val; rw [index0]; show t.val / 11 % 8 * 512 + 1 * r.val = 512 * (t.val / 11 % 8) + r.val; omega
  | ⟨2, _⟩ => show win0_0.index t 2 * 2048 + 1 * x.val = x.val; rw [index0]; show 0 * 2048 + 1 * x.val = x.val; omega

/-- The row before a point's. -/
theorem iblk1 (t : Fin cfg0.N) (h0 : t.val / 11 % 8 ≠ 0) (x : Fin 2048) :
    (iblk m c 1 t : Vec Ideal S1x16x2048 .bf16) (ix3 0 15 x) = H m c (bOf t.val) ⟨512 * (t.val / 11 % 8) - 1, by omega⟩ x := by
  have ht := lt352 t
  unfold iblk
  rw [View.read_apply]
  show (V m c main_arg0 : Vec Ideal S4x4096x2048 .bf16) _ = _
  rw [V_main_arg0]
  refine congrArg _ (funext fun a => Fin.ext ?_)
  match a with
  | ⟨0, _⟩ => show win0_1.index t 0 * 1 + 1 * 0 = t.val / 88 % 4; rw [index1]; show t.val / 88 * 1 + 1 * 0 = t.val / 88 % 4; omega
  | ⟨1, _⟩ => show win0_1.index t 1 * 16 + 1 * 15 = 512 * (t.val / 11 % 8) - 1; rw [index1]; show (t.val / 11 % 8 * 32 - 1) * 16 + 1 * 15 = 512 * (t.val / 11 % 8) - 1; omega
  | ⟨2, _⟩ => show win0_1.index t 2 * 2048 + 1 * x.val = x.val; rw [index1]; show 0 * 2048 + 1 * x.val = x.val; omega

/-- The row after a point's. -/
theorem iblk2 (t : Fin cfg0.N) (h7 : t.val / 11 % 8 ≠ 7) (x : Fin 2048) :
    (iblk m c 2 t : Vec Ideal S1x16x2048 .bf16) (ix3 0 0 x) = H m c (bOf t.val) ⟨512 * (t.val / 11 % 8) + 512, by omega⟩ x := by
  have ht := lt352 t
  unfold iblk
  rw [View.read_apply]
  show (V m c main_arg0 : Vec Ideal S4x4096x2048 .bf16) _ = _
  rw [V_main_arg0]
  refine congrArg _ (funext fun a => Fin.ext ?_)
  match a with
  | ⟨0, _⟩ => show win0_2.index t 0 * 1 + 1 * 0 = t.val / 88 % 4; rw [index2]; show t.val / 88 * 1 + 1 * 0 = t.val / 88 % 4; omega
  | ⟨1, _⟩ => show win0_2.index t 1 * 16 + 1 * 0 = 512 * (t.val / 11 % 8) + 512; rw [index2]; show min ((t.val / 11 % 8 + 1) * 32) 255 * 16 + 1 * 0 = 512 * (t.val / 11 % 8) + 512; omega
  | ⟨2, _⟩ => show win0_2.index t 2 * 2048 + 1 * x.val = x.val; rw [index2]; show 0 * 2048 + 1 * x.val = x.val; omega

/-- A point's residual. -/
theorem iblk3 (t : Fin cfg0.N) (r : Fin 512) (x : Fin 2048) :
    (iblk m c 3 t : Vec Ideal S1x512x2048 .f32) (ix3 0 r x) = X m c (bOf t.val) (lOf t.val r) x := by
  have ht := lt352 t
  unfold iblk
  rw [View.read_apply]
  show (V m c main_arg1 : Vec Ideal S4x4096x2048 .f32) _ = _
  rw [V_main_arg1]
  refine congrArg _ (funext fun a => Fin.ext ?_)
  match a with
  | ⟨0, _⟩ => show win0_3.index t 0 * 1 + 1 * 0 = t.val / 88 % 4; rw [index3]; show t.val / 88 * 1 + 1 * 0 = t.val / 88 % 4; omega
  | ⟨1, _⟩ => show win0_3.index t 1 * 512 + 1 * r.val = 512 * (t.val / 11 % 8) + r.val; rw [index3]; show t.val / 11 % 8 * 512 + 1 * r.val = 512 * (t.val / 11 % 8) + r.val; omega
  | ⟨2, _⟩ => show win0_3.index t 2 * 2048 + 1 * x.val = x.val; rw [index3]; show 0 * 2048 + 1 * x.val = x.val; omega

/-- A point's first weight. -/
theorem iblk4 (t : Fin cfg0.N) (x : Fin 2048) (k : Fin 512) :
    (iblk m c 4 t : Vec Ideal S2048x512 .bf16) (ix2 x k) = W m c x ⟨(cOf t.val k).val, by omega⟩ := by
  have ht := lt352 t
  unfold iblk
  rw [View.read_apply]
  show (V m c main_arg2 : Vec Ideal S2048x11264 .bf16) _ = _
  rw [V_main_arg2]
  refine congrArg _ (funext fun a => Fin.ext ?_)
  match a with
  | ⟨0, _⟩ => show win0_4.index t 0 * 2048 + 1 * x.val = x.val; rw [index4]; show 0 * 2048 + 1 * x.val = x.val; omega
  | ⟨1, _⟩ => show win0_4.index t 1 * 512 + 1 * k.val = 512 * (t.val % 11) + k.val; rw [index4]; show t.val % 11 * 512 + 1 * k.val = 512 * (t.val % 11) + k.val; omega

/-- A point's second weight. -/
theorem iblk5 (t : Fin cfg0.N) (x : Fin 2048) (k : Fin 512) :
    (iblk m c 5 t : Vec Ideal S2048x512 .bf16) (ix2 x k) = W m c x ⟨(cOf t.val k).val + 5632, by omega⟩ := by
  have ht := lt352 t
  unfold iblk
  rw [View.read_apply]
  show (V m c main_arg2 : Vec Ideal S2048x11264 .bf16) _ = _
  rw [V_main_arg2]
  refine congrArg _ (funext fun a => Fin.ext ?_)
  match a with
  | ⟨0, _⟩ => show win0_5.index t 0 * 2048 + 1 * x.val = x.val; rw [index5]; show 0 * 2048 + 1 * x.val = x.val; omega
  | ⟨1, _⟩ => show win0_5.index t 1 * 512 + 1 * k.val = 512 * (t.val % 11) + k.val + 5632; rw [index5]; show (t.val % 11 + 11) * 512 + 1 * k.val = 512 * (t.val % 11) + k.val + 5632; omega

/-- A point's first convolution. -/
theorem iblk6 (t : Fin cfg0.N) (x : Fin 8) (k : Fin 512) :
    (iblk m c 6 t : Vec Ideal S8x512 .f32) (ix2 x k) = C m c x ⟨(cOf t.val k).val, by omega⟩ := by
  have ht := lt352 t
  unfold iblk
  rw [View.read_apply]
  show (V m c main_arg3 : Vec Ideal S8x11264 .f32) _ = _
  rw [V_main_arg3]
  refine congrArg _ (funext fun a => Fin.ext ?_)
  match a with
  | ⟨0, _⟩ => show win0_6.index t 0 * 8 + 1 * x.val = x.val; rw [index6]; show 0 * 8 + 1 * x.val = x.val; omega
  | ⟨1, _⟩ => show win0_6.index t 1 * 512 + 1 * k.val = 512 * (t.val % 11) + k.val; rw [index6]; show t.val % 11 * 512 + 1 * k.val = 512 * (t.val % 11) + k.val; omega

/-- A point's second convolution. -/
theorem iblk7 (t : Fin cfg0.N) (x : Fin 8) (k : Fin 512) :
    (iblk m c 7 t : Vec Ideal S8x512 .f32) (ix2 x k) = C m c x ⟨(cOf t.val k).val + 5632, by omega⟩ := by
  have ht := lt352 t
  unfold iblk
  rw [View.read_apply]
  show (V m c main_arg3 : Vec Ideal S8x11264 .f32) _ = _
  rw [V_main_arg3]
  refine congrArg _ (funext fun a => Fin.ext ?_)
  match a with
  | ⟨0, _⟩ => show win0_7.index t 0 * 8 + 1 * x.val = x.val; rw [index7]; show 0 * 8 + 1 * x.val = x.val; omega
  | ⟨1, _⟩ => show win0_7.index t 1 * 512 + 1 * k.val = 512 * (t.val % 11) + k.val + 5632; rw [index7]; show (t.val % 11 + 11) * 512 + 1 * k.val = 512 * (t.val % 11) + k.val + 5632; omega

/-- A point's weight back. -/
theorem iblk8 (t : Fin cfg0.N) (k : Fin 512) (d : Fin 2048) :
    (iblk m c 8 t : Vec Ideal S512x2048 .bf16) (ix2 k d) = D m c (cOf t.val k) d := by
  have ht := lt352 t
  unfold iblk
  rw [View.read_apply]
  show (V m c main_arg4 : Vec Ideal S5632x2048 .bf16) _ = _
  rw [V_main_arg4]
  refine congrArg _ (funext fun a => Fin.ext ?_)
  match a with
  | ⟨0, _⟩ => show win0_8.index t 0 * 512 + 1 * k.val = 512 * (t.val % 11) + k.val; rw [index8]; show t.val % 11 * 512 + 1 * k.val = 512 * (t.val % 11) + k.val; omega
  | ⟨1, _⟩ => show win0_8.index t 1 * 2048 + 1 * d.val = d.val; rw [index8]; show 0 * 2048 + 1 * d.val = d.val; omega

/-- The gain. -/
theorem iblk9 (t : Fin cfg0.N) (d : Fin 2048) :
    (iblk m c 9 t : Vec Ideal S1x2048 .f32) (ix2 0 d) = N m c d := by
  have ht := lt352 t
  unfold iblk
  rw [View.read_apply]
  show (V m c main_arg5 : Vec Ideal S1x2048 .f32) _ = _
  rw [V_main_arg5]
  refine congrArg _ (funext fun a => Fin.ext ?_)
  match a with
  | ⟨0, _⟩ => show win0_9.index t 0 * 1 + 1 * 0 = 0; rw [index9]; show 0 * 1 + 1 * 0 = 0; omega
  | ⟨1, _⟩ => show win0_9.index t 1 * 2048 + 1 * d.val = d.val; rw [index9]; show 0 * 2048 + 1 * d.val = d.val; omega

/-- The point before. -/
theorem pred_lt (t : Fin cfg0.N) : t.val - 1 < cfg0.N := Nat.lt_of_le_of_lt (Nat.sub_le _ _) t.isLt

/-- The scratch after a run's first point. -/
theorem scr_first (t : Fin cfg0.N) (h0 : t.val % 11 = 0) :
    (outsAt0 m c t.val t.isLt).2 = View.canon (Val := Elt Ideal) (scrPieces (grid0.coords t) (iblk m c 0 t) (iblk m c 1 t) (iblk m c 2 t)) := by
  rw [outsAt0_A m c t h0 (by omega)]
  dsimp only
  unfold sout0_A_0
  rw [View.read_writes_junk_eq_canon]
  exact congrArg View.canon (scratch_A ..)

/-- The scratch after another point is what it was. -/
theorem scr_next (t : Fin cfg0.N) (h0 : ¬t.val % 11 = 0) :
    (outsAt0 m c t.val t.isLt).2 = (outsAt0 m c (t.val - 1) (pred_lt t)).2 := by
  by_cases h1 : t.val % 11 = 10
  · rw [outsAt0_C m c t h0 h1]
    rfl
  · rw [outsAt0_B m c t h0 h1]
    rfl

/-- The block after a run's first point. -/
theorem blk_first (t : Fin cfg0.N) (h0 : t.val % 11 = 0) :
    (outsAt0 m c t.val t.isLt).1 = step (F := Ideal) (outsAt0 m c t.val t.isLt).2 (iblk m c 4 t) (iblk m c 5 t) (iblk m c 6 t) (iblk m c 7 t) (iblk m c 8 t) k0_pay5 := by
  rw [scr_first m c t h0, outsAt0_A m c t h0 (by omega)]
  dsimp only
  unfold out0_A_10
  rw [View.read_writes_junk_eq_canon]
  exact block_A ..

/-- The block after a point between a run's first and last. -/
theorem blk_next (t : Fin cfg0.N) (h0 : ¬t.val % 11 = 0) (h1 : ¬t.val % 11 = 10) :
    (outsAt0 m c t.val t.isLt).1 = step (F := Ideal) (outsAt0 m c (t.val - 1) (pred_lt t)).2 (iblk m c 4 t) (iblk m c 5 t) (iblk m c 6 t) (iblk m c 7 t) (iblk m c 8 t)
      (outsAt0 m c (t.val - 1) (pred_lt t)).1 := by
  rw [outsAt0_B m c t h0 h1]
  dsimp only
  unfold out0_B_10
  rw [View.read_writes_junk_eq_canon]
  exact block_B ..

/-- The block after a run's last point. -/
theorem blk_last (t : Fin cfg0.N) (h1 : t.val % 11 = 10) :
    (outsAt0 m c t.val t.isLt).1 = k0_pay1 (F := Ideal) (iblk m c 3 t) (step (F := Ideal) (outsAt0 m c (t.val - 1) (pred_lt t)).2 (iblk m c 4 t) (iblk m c 5 t) (iblk m c 6 t)
      (iblk m c 7 t) (iblk m c 8 t) (outsAt0 m c (t.val - 1) (pred_lt t)).1) (iblk m c 9 t) := by
  rw [outsAt0_C m c t (by omega) h1]
  dsimp only
  unfold out0_C_10
  rw [View.read_writes_junk_eq_canon]
  exact block_C ..

/-- The padded rows of a point. -/
def P (n : ℕ) : ℕ → Fin 2048 → EReal := fun s x => padRow (H m c) (bOf n) (512 * (n / 11 % 8) + s) x

/-- The scratch after a run's first point, at its padded rows. -/
theorem scr_first_apply (t : Fin cfg0.N) (h0 : t.val % 11 = 0) (s : ℕ) (hs : s < 514) (x : Fin 2048) :
    (outsAt0 m c t.val t.isLt).2 (ix2 ⟨15 + s, by omega⟩ x) = P m c t.val s x := by
  rw [scr_first m c t h0]
  refine scratch_apply (grid0.coords t) (iblk m c 0 t) (iblk m c 1 t) (iblk m c 2 t) (P m c t.val) ?_ ?_ ?_ s hs x
  · intro r x
    refine (iblk0 m c t r x).trans ?_
    unfold P padRow
    rw [dif_pos ⟨by omega, by omega⟩]
    exact congrArg (fun l => H m c (bOf t.val) l x) (Fin.ext (show 512 * (t.val / 11 % 8) + r.val = 512 * (t.val / 11 % 8) + (r.val + 1) - 1 by omega))
  · intro x
    rw [coord1]
    unfold P padRow
    by_cases h : t.val / 11 % 8 = 0
    · rw [if_pos h, dif_neg (by omega)]
    · rw [if_neg h, dif_pos ⟨by omega, by omega⟩]
      exact iblk1 m c t h x
  · intro x
    rw [coord1]
    unfold P padRow
    by_cases h : t.val / 11 % 8 = 7
    · rw [if_pos h, dif_neg (by omega)]
    · rw [if_neg h, dif_pos ⟨by omega, by omega⟩]
      exact (iblk2 m c t h x).trans (congrArg (fun l => H m c (bOf t.val) l x) (Fin.ext (show 512 * (t.val / 11 % 8) + 512 = 512 * (t.val / 11 % 8) + 513 - 1 by omega)))

/-- A step's convolution is the whole one's. -/
theorem conv_eq (n : ℕ) (w : Vec Ideal S2048x512 .bf16) (cw : Vec Ideal S8x512 .f32) (r k : Fin 512) (k' : Fin 11264)
    (hw : ∀ x : Fin 2048, w (ix2 x k) = W m c x k') (hc : ∀ j : Fin 8, cw (ix2 j k) = C m c j k') :
    conv3 (P m c n) w cw r.val k = pre (H m c) (W m c) (C m c) (bOf n) (lOf n r) k' := by
  unfold conv3 pre up
  simp only [hw, hc]
  rfl

/-- A point's step, at an index, from a scratch of padded rows. -/
theorem step_eq (t : Fin cfg0.N) (h : Vec Ideal S544x2048 .bf16)
    (hP : ∀ (s : ℕ) (hs : s < 514) (x : Fin 2048), h (ix2 ⟨15 + s, by omega⟩ x) = P m c t.val s x)
    (acc : Vec Ideal S1x512x2048 .f32) (r : Fin 512) (d : Fin 2048) :
    step (F := Ideal) h (iblk m c 4 t) (iblk m c 5 t) (iblk m c 6 t) (iblk m c 7 t) (iblk m c 8 t) acc (ix3 0 r d)
      = acc (ix3 0 r d) + ∑ k ∈ Finset.range 512, part (H m c) (W m c) (C m c) (D m c) (bOf t.val) (lOf t.val r) d (512 * (t.val % 11) + k) := by
  refine (step_apply (P m c t.val) h hP (iblk m c 4 t) (iblk m c 5 t) (iblk m c 6 t) (iblk m c 7 t) (iblk m c 8 t) acc r d).trans ?_
  rw [Finset.sum_range]
  refine congrArg (acc (ix3 0 r d) + ·) (Finset.sum_congr rfl fun k _ => ?_)
  unfold part
  rw [dif_pos (show 512 * (t.val % 11) + k.val < 5632 by omega)]
  refine congrArg₂ (· * ·) ?_ (iblk8 m c t k d)
  exact congrArg₂ gate (conv_eq m c t.val _ _ r k _ (fun x => iblk4 m c t x k) (fun j => iblk6 m c t j k))
    (conv_eq m c t.val _ _ r k _ (fun x => iblk5 m c t x k) (fun j => iblk7 m c t j k))

/-- THE STATE AFTER A POINT: the scratch is the padded rows, and before a run's last point the block is the sum so far. -/
theorem state : ∀ (n : ℕ) (hn : n < cfg0.N),
    (∀ (s : ℕ) (hs : s < 514) (x : Fin 2048), (outsAt0 m c n hn).2 (ix2 ⟨15 + s, by omega⟩ x) = P m c n s x)
    ∧ (¬n % 11 = 10 → ∀ (r : Fin 512) (d : Fin 2048), (outsAt0 m c n hn).1 (ix3 0 r d)
      = ∑ k ∈ Finset.range (512 * (n % 11) + 512), part (H m c) (W m c) (C m c) (D m c) (bOf n) (lOf n r) d k) := by
  intro n
  induction n with
  | zero =>
    intro hn
    have hs := scr_first_apply m c ⟨0, hn⟩ rfl
    refine ⟨hs, fun _ r d => ?_⟩
    refine (congrFun (blk_first m c ⟨0, hn⟩ rfl) _).trans ((step_eq m c ⟨0, hn⟩ _ hs _ r d).trans ?_)
    rw [zero_apply, zero_add]
    refine Finset.sum_congr (congrArg Finset.range rfl) fun k _ => congrArg _ (Nat.zero_add k)
  | succ n ih =>
    intro hn
    have hN := lt352 ⟨n + 1, hn⟩
    by_cases h0 : (n + 1) % 11 = 0
    · have hs := scr_first_apply m c ⟨n + 1, hn⟩ h0
      refine ⟨hs, fun _ r d => ?_⟩
      refine (congrFun (blk_first m c ⟨n + 1, hn⟩ h0) _).trans ((step_eq m c ⟨n + 1, hn⟩ _ hs _ r d).trans ?_)
      rw [zero_apply, zero_add]
      show ∑ k ∈ Finset.range 512, part _ _ _ _ _ _ d (512 * ((n + 1) % 11) + k) = _
      rw [h0]
      exact Finset.sum_congr rfl fun k _ => congrArg _ (Nat.zero_add k)
    · obtain ⟨is, ib⟩ := ih (Nat.lt_of_succ_lt hn)
      have eb : bOf n = bOf (n + 1) := Fin.ext (show n / 88 % 4 = (n + 1) / 88 % 4 by omega)
      have ei : n / 11 % 8 = (n + 1) / 11 % 8 := by omega
      have el : ∀ r, lOf n r = lOf (n + 1) r := fun r => Fin.ext (show 512 * (n / 11 % 8) + r.val = 512 * ((n + 1) / 11 % 8) + r.val by omega)
      have eP : P m c n = P m c (n + 1) := by
        unfold P
        rw [eb, ei]
      rw [eP] at is
      refine ⟨fun s hs x => (congrFun (scr_next m c ⟨n + 1, hn⟩ h0) _).trans (is s hs x), fun h1 r d => ?_⟩
      refine (congrFun (blk_next m c ⟨n + 1, hn⟩ h0 h1) _).trans ((step_eq m c ⟨n + 1, hn⟩ _ is _ r d).trans ?_)
      refine (congrArg (· + _) (ib (by omega) r d)).trans ?_
      rw [eb, el, show 512 * (n % 11) + 512 = 512 * ((n + 1) % 11) by omega]
      exact (Finset.sum_range_add _ _ _).symm

/-- A run's last block, at an index: the result. -/
theorem last_apply (t : Fin cfg0.N) (h1 : t.val % 11 = 10) (r : Fin 512) (d : Fin 2048) :
    (outsAt0 m c t.val t.isLt).1 (ix3 0 r d) = out (H m c) (X m c) (W m c) (C m c) (D m c) (N m c) (bOf t.val) (lOf t.val r) d := by
  have hN := lt352 t
  obtain ⟨is, ib⟩ := state m c (t.val - 1) (pred_lt t)
  have eb : bOf (t.val - 1) = bOf t.val := Fin.ext (show (t.val - 1) / 88 % 4 = t.val / 88 % 4 by omega)
  have ei : (t.val - 1) / 11 % 8 = t.val / 11 % 8 := by omega
  have el : ∀ r, lOf (t.val - 1) r = lOf t.val r := fun r => Fin.ext (show 512 * ((t.val - 1) / 11 % 8) + r.val = 512 * (t.val / 11 % 8) + r.val by omega)
  have eP : P m c (t.val - 1) = P m c t.val := by
    unfold P
    rw [eb, ei]
  rw [eP] at is
  refine (congrFun (blk_last m c t h1) _).trans ((norm_apply _ _ _ r d).trans ?_)
  unfold out
  refine congrFun (congrArg₂ rmsNorm (funext fun d => iblk9 m c t d) (funext fun d => ?_)) d
  unfold res
  refine congrArg₂ (· + ·) (iblk3 m c t r d) ((step_eq m c t _ is _ r d).trans ?_)
  refine (congrArg (· + _) (ib (by omega) r d)).trans ?_
  rw [eb, el, show 512 * ((t.val - 1) % 11) + 512 = 512 * (t.val % 11) by omega]
  refine (Finset.sum_range_add _ _ _).symm.trans ?_
  rw [show 512 * (t.val % 11) + 512 = 5632 by omega]
  exact sum_part ..

/-- The whole result. -/
def whole : Vec Ideal S4x4096x2048 .f32 := fun y => out (H m c) (X m c) (W m c) (C m c) (D m c) (N m c) (y 0) (y 1) (y 2)

/-- The result array. -/
theorem arr10 : (dats m 0 c).arrAt 10 cfg0.N = whole m c :=
  (dats m 0 c).arrAt_eq_of_cover 10 (whole m c)
    (fun t hf => by
      have h1 := (flush0_10 t).mp hf
      have hN := lt352 t
      rw [flushed10]
      funext y
      rw [View.read_apply]
      have y0 : (y 0 : Fin 1).val < 1 := (y 0 : Fin 1).isLt
      have e1 : y = ix3 (n0 := 1) (n1 := 512) (n2 := 2048) 0 (y 1) (y 2) := by
        funext a
        match a with
        | ⟨0, _⟩ => exact Subsingleton.elim (α := Fin 1) _ _
        | ⟨1, _⟩ => rfl
        | ⟨2, _⟩ => rfl
      refine Eq.trans (congrArg (outsAt0 m c t.val t.isLt).1 e1) ((last_apply m c t h1 (y 1) (y 2)).trans ?_)
      have e : ((cfg0.win 10).blk t).view.emb y = ix3 (n0 := 4) (n1 := 4096) (n2 := 2048) (bOf t.val) (lOf t.val (y 1)) (y 2) := by
        funext a
        apply Fin.ext
        match a with
        | ⟨0, _⟩ => show win0_10.index t 0 * 1 + 1 * (y 0 : Fin 1).val = t.val / 88 % 4; rw [index10]; show t.val / 88 * 1 + 1 * (y 0 : Fin 1).val = _; omega
        | ⟨1, _⟩ => show win0_10.index t 1 * 512 + 1 * (y 1 : Fin 512).val = 512 * (t.val / 11 % 8) + (y 1 : Fin 512).val; rw [index10]; show t.val / 11 % 8 * 512 + 1 * (y 1 : Fin 512).val = _; omega
        | ⟨2, _⟩ => show win0_10.index t 2 * 2048 + 1 * (y 2 : Fin 2048).val = (y 2 : Fin 2048).val; rw [index10]; show 0 * 2048 + 1 * (y 2 : Fin 2048).val = _; omega
      exact (congrArg (whole m c) e).symm)
    (fun i => by
      have h0 : (i 0 : Nat) < 4 := (i 0).isLt
      have h1 : (i 1 : Nat) < 4096 := (i 1).isLt
      have h2 : (i 2 : Nat) < 2048 := (i 2).isLt
      refine ⟨⟨88 * (i 0 : Nat) + 11 * ((i 1 : Nat) / 512) + 10, lt_of_lt_of_eq (by omega) N_0.symm⟩, (flush0_10 _).mpr (by dsimp only; omega), ?_⟩
      mem_blk [index10]
      dsimp
      omega)

/-- THE RUN: the kernel's result is the whole result. -/
theorem run (ρ : Dev nD → PrngReg) :
    θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (arr10 m c), (h c).2⟩) (run_blocks m ρ)

end Cert.FfnArray
-- ==== Proof.FfnRef.lean ====
/-
  What the feed-forward's reference computes, read at an index: the same sums.
-/
module

public import proofs.«01_k».proof.Proof.Gen.FfnRefIdeal.Read
public import proofs.«01_k».proof.Proof.FfnRow

@[expose] public section

noncomputable section

namespace Cert.FfnRef

open Idealize.ShloMosaic Cert.FfnRefIdeal Cert.FfnRefIdeal.Gen Cert.FfnRefIdeal.Read Cert.FfnRow

variable (h : Vec Ideal S4x4096x2048 .bf16) (x2 : Vec Ideal S4x4096x2048 .f32) (w : Vec Ideal S2048x11264 .bf16) (cw : Vec Ideal S8x11264 .f32)
  (wd : Vec Ideal S5632x2048 .bf16) (g : Vec Ideal S1x2048 .f32)

/-- An array of three axes as a function of its coordinates. -/
abbrev at3 {φ : EltTy} (a : Vec Ideal S4x4096x2048 φ) : Fin 4 → Fin 4096 → Fin 2048 → Elt Ideal φ := fun b l x => a (ix3 b l x)
/-- An array of two axes as a function of its coordinates. -/
abbrev at2 {φ : EltTy} {m n : ℕ} (a : (⟨2, ![m, n]⟩ : Shape).Idx → Elt Ideal φ) : Fin m → Fin n → Elt Ideal φ := fun k c => a (ix2 k c)

/-- A projection at an index. -/
theorem up_apply (b : Fin 4) (l : Fin 4096) (c : Fin 11264) :
    val_main_v2 (F := Ideal) h w (ix3 b l c) = ∑ x : Fin 2048, h (ix3 b l x) * w (ix2 x c) := by
  pointwise [val_main_v2, val_main_v0, val_main_v1]

/-- The padding is zero. -/
theorem pad_zero (i : S_.Idx) : val_main_call0_v0 (F := Ideal) i = 0 := by
  rw [val_main_call0_v0_apply, val_main_c_apply]
  show (((0#32 : BitVec 32).toInt : ℝ) : EReal) = 0
  simp

/-- The padded projection at an index. -/
theorem padded_apply (b : Fin 4) (n : Fin 4098) (c : Fin 11264) :
    val_main_v3 (F := Ideal) h w (ix3 b n c) = up (at3 h) (at2 w) b n.val c := by
  rw [up_eq]
  have hu : ∀ l : Fin 4096, val_main_v2 (F := Ideal) h w (ix3 b l c) = ∑ x : Fin 2048, h (ix3 b l x) * w (ix2 x c) := fun l => up_apply h w b l c
  unfold val_main_v3
  have hz := pad_zero
  generalize val_main_v2 (F := Ideal) h w = y at hu ⊢
  generalize val_main_call0_v0 (F := Ideal) = z at hz ⊢
  pointwise
  by_cases hn : 1 ≤ n.val ∧ n.val < 4097
  · rw [dif_pos hn, dif_pos ⟨hn.1, by omega⟩]
    exact hu _
  · rw [dif_neg hn, dif_neg (by omega)]
    exact hz _

/-- The convolution at an index. -/
theorem pre_apply (b : Fin 4) (l : Fin 4096) (c : Fin 11264) :
    val_main_v28 (F := Ideal) h w cw (ix3 b l c) = pre (at3 h) (at2 w) (at2 cw) b l c := by
  unfold pre
  rw [Nat.add_comm l.val 1, Nat.add_comm l.val 2]
  have h0 := padded_apply h w b ⟨l.val, by omega⟩ c
  have h1 := padded_apply h w b ⟨1 + l.val, by omega⟩ c
  have h2 := padded_apply h w b ⟨2 + l.val, by omega⟩ c
  rw [← h0, ← h1, ← h2]
  unfold val_main_v28 val_main_v23 val_main_v16 val_main_v9 val_main_v15 val_main_v22 val_main_v4 val_main_v10 val_main_v17
  generalize val_main_v3 (F := Ideal) h w = y
  pointwise [val_main_v5, val_main_v6, val_main_v7, val_main_v8, val_main_v11, val_main_v12, val_main_v13, val_main_v14, val_main_v18, val_main_v19, val_main_v20, val_main_v21, val_main_v24, val_main_v25, val_main_v26, val_main_v27]

/-- The gated hidden column at an index. -/
theorem act_apply (b : Fin 4) (l : Fin 4096) (c : Fin 5632) :
    val_main_v32 (F := Ideal) h w cw (ix3 b l c) = act (at3 h) (at2 w) (at2 cw) b l c := by
  unfold act
  rw [show (⟨c.val + 5632, by omega⟩ : Fin 11264) = ⟨5632 + c.val, by omega⟩ from Fin.ext (Nat.add_comm ..)]
  rw [← pre_apply, ← pre_apply]
  unfold val_main_v32 val_main_v31 val_main_v30 val_main_call1_v5 val_main_call1_v3 val_main_call1_v1 val_main_call1_v0 val_main_v29
  generalize val_main_v28 (F := Ideal) h w cw = y
  unfold gate
  rw [zero_sub]
  pointwise [val_main_call1_v4, val_main_call1_v2, val_main_call1_cst, val_main_call1_cst_0]

/-- The residual and the projection back at an index. -/
theorem res_apply (b : Fin 4) (l : Fin 4096) (d : Fin 2048) :
    val_main_v35 (F := Ideal) h x2 w cw wd (ix3 b l d) = res (at3 h) (at3 x2) (at2 w) (at2 cw) (at2 wd) b l d := by
  unfold res
  simp only [← act_apply]
  unfold val_main_v35 val_main_v34
  generalize val_main_v32 (F := Ideal) h w cw = y
  pointwise [val_main_v33]

/-- THE REFERENCE'S VALUE at an index. -/
theorem out_apply (b : Fin 4) (l : Fin 4096) (d : Fin 2048) :
    val_main_v49 (F := Ideal) h x2 w cw wd g (ix3 b l d) = out (at3 h) (at3 x2) (at2 w) (at2 cw) (at2 wd) (fun d => g (ix2 0 d)) b l d := by
  unfold out
  have e : res (at3 h) (at3 x2) (at2 w) (at2 cw) (at2 wd) b l = fun d => val_main_v35 (F := Ideal) h x2 w cw wd (ix3 b l d) := funext fun d => (res_apply h x2 w cw wd b l d).symm
  rw [e]
  unfold rmsNorm val_main_v49 val_main_v45 val_main_v44 val_main_v43 val_main_v42 val_main_v40 val_main_v38 val_main_v37 val_main_v36
  generalize val_main_v35 (F := Ideal) h x2 w cw wd = y
  pointwise [val_main_v39, val_main_cst_0, val_main_cst, val_main_v41, val_main_cst_1, val_main_v48, val_main_v47, val_main_v46]

end Cert.FfnRef
-- ==== Proof.FfnClaim.lean ====
/-
  The feed-forward's claims: the equation of the kernel's and the reference's results, the frames.
-/
module

public import proofs.«01_k».proof.Defs
public import proofs.«01_k».proof.Proof.FfnArray
public import proofs.«01_k».proof.Proof.FfnRef
public import proofs.«01_k».proof.Proof.Gen.Ffn.Frame
public import Idealize.ShloMosaic.Lib.Quiescent

@[expose] public section

noncomputable section

namespace Cert.FfnClaim

open Idealize.ShloMosaic Idealize.ShloMosaic.TcCoe Idealize.SL.Sem

/-- The reference has no semaphore. -/
theorem ref_sems (s : MemSt Cert.FfnRefIdeal.nD Cert.FfnRefIdeal.τ Cert.FfnRefIdeal.sig (Elt Ideal)) : s.sem = fun _ => 0 :=
  sem_eq_zero_of_no_sems (by decide) s

/-- The kernel's program, bit-exact: its frame. -/
theorem frame_P : Cert.quiescent_Ffn := fun m g _ => Cert.Ffn.Gen.frame m g
/-- The idealized kernel's frame. -/
theorem frame_PI : Cert.quiescent_FfnIdeal := fun m g _ => Cert.FfnIdeal.Gen.frame m g
/-- The idealized reference's frame. -/
theorem frame_RI : Cert.quiescent_FfnRefIdeal := fun m g _ =>
  (θ_run _ _ _).mono (fun r h => ⟨fun c => (h c).2, ref_sems r.2⟩) (Cert.FfnRefIdeal.Value.run (F := Ideal) m g)

/-- THE EQUATION: the reference's result is the kernel's. -/
theorem result_eq (a0 : Vec Ideal Cert.FfnRefIdeal.S4x4096x2048 .bf16) (a1 : Vec Ideal Cert.FfnRefIdeal.S4x4096x2048 .f32)
    (a2 : Vec Ideal Cert.FfnRefIdeal.S2048x11264 .bf16) (a3 : Vec Ideal Cert.FfnRefIdeal.S8x11264 .f32)
    (a4 : Vec Ideal Cert.FfnRefIdeal.S5632x2048 .bf16) (a5 : Vec Ideal Cert.FfnRefIdeal.S1x2048 .f32) (c : Dev Cert.FfnIdeal.nD)
    (m : (ℓ : Loc Cert.FfnIdeal.nD Cert.FfnIdeal.τ Cert.FfnIdeal.sig) → Buf (Elt Ideal) ℓ)
    (h0 : a0 = m ((c.tc : Thread Cert.FfnIdeal.nD Cert.FfnIdeal.τ).loc Cert.FfnIdeal.main_arg0))
    (h1 : a1 = m ((c.tc : Thread Cert.FfnIdeal.nD Cert.FfnIdeal.τ).loc Cert.FfnIdeal.main_arg1))
    (h2 : a2 = m ((c.tc : Thread Cert.FfnIdeal.nD Cert.FfnIdeal.τ).loc Cert.FfnIdeal.main_arg2))
    (h3 : a3 = m ((c.tc : Thread Cert.FfnIdeal.nD Cert.FfnIdeal.τ).loc Cert.FfnIdeal.main_arg3))
    (h4 : a4 = m ((c.tc : Thread Cert.FfnIdeal.nD Cert.FfnIdeal.τ).loc Cert.FfnIdeal.main_arg4))
    (h5 : a5 = m ((c.tc : Thread Cert.FfnIdeal.nD Cert.FfnIdeal.τ).loc Cert.FfnIdeal.main_arg5)) :
    Cert.FfnRefIdeal.Read.val_main_v49 (F := Ideal) a0 a1 a2 a3 a4 a5 = FfnArray.whole m c := by
  funext y
  have e : y = ix3 (n0 := 4) (n1 := 4096) (n2 := 2048) (y 0) (y 1) (y 2) := by
    funext a
    match a with
    | ⟨0, _⟩ => rfl
    | ⟨1, _⟩ => rfl
    | ⟨2, _⟩ => rfl
  rw [e]
  refine (FfnRef.out_apply a0 a1 a2 a3 a4 a5 (y 0) (y 1) (y 2)).trans ?_
  subst h0 h1 h2 h3 h4 h5
  rfl

/-- THE VALUE CLAIM: the idealized kernel and the idealized reference end with equal results. -/
theorem value : Cert.algebraic_FfnIdeal_FfnRefIdeal := by
  intro m g m' g' _ hagree
  refine ⟨fun c => FfnArray.whole m c, FfnArray.run m g, ?_⟩
  refine (θ_run _ _ _).mono (fun r h c => ?_) (Cert.FfnRefIdeal.Value.run (F := Ideal) m' g')
  obtain ⟨h0, h3⟩ := h c
  obtain ⟨a0, a1, a2, a3, a4, a5⟩ := hagree c
  exact ⟨h0.trans ((Cert.FfnRefIdeal.Read.val_main_v49_eq m' c).trans (result_eq _ _ _ _ _ _ c m a0 a1 a2 a3 a4 a5)), h3⟩

end Cert.FfnClaim
-- ==== Proof.GateArray.lean ====
/-
  What the gate kernel's result array holds: the logistic function of a product and a bias, read at an index.
-/
module

public import proofs.«01_k».proof.Proof.Gen.GateIdeal.Value
public import Idealize.ShloMosaic.Lib.Pointwise
public import Idealize.ShloMosaic.Lib.Pipeline.ValueKit
public import Idealize.ShloMosaic.Lib.Pipeline.ReadBack

@[expose] public section

noncomputable section

namespace Cert.GateArray

open Idealize.ShloMosaic Idealize.ShloMosaic.TcCoe Idealize.SL.Sem Cert.GateIdeal Cert.GateIdeal.Gen Cert.GateIdeal.Value

/-- The logistic function. -/
def logistic (a : EReal) : EReal := Ideal.div 1 (1 + Ideal.exp (0 - a))

/-- Four column chunks, one after another. -/
theorem chunk_apply (o : Nat) (inb : ∀ a, (![0, o] : Fin 2 → Nat) a + S1024x1024.size a ≤ S1024x4096.size a) (v : Vec Ideal S1024x1024 .bf16)
    (L : List (View.Piece (Elt Ideal) S1024x4096 .bf16)) (r : Fin 1024) (l : Fin 4096) (k : Fin 1024) (hl : l.val = o + k.val) :
    View.canon (⟨Rect.unit (s := S1024x4096) ![0, o] S1024x1024.size inb, v⟩ :: L) (ix2 r l) = v (ix2 r k) := by
  have e : ix2 (n0 := 1024) (n1 := 4096) r l = (Rect.unit (s := S1024x4096) ![0, o] S1024x1024.size inb).emb (ix2 r k) := by
    funext a
    apply Fin.ext
    match a with
    | ⟨0, _⟩ => show r.val = 0 + 1 * r.val; omega
    | ⟨1, _⟩ => show l.val = o + 1 * k.val; omega
  rw [e]
  exact View.canon_cons_emb _ _ _ _

/-- A column before a chunk's first is not of the chunk. -/
theorem chunk_skip (o : Nat) (inb : ∀ a, (![0, o] : Fin 2 → Nat) a + S1024x1024.size a ≤ S1024x4096.size a) (v : Vec Ideal S1024x1024 .bf16)
    (L : List (View.Piece (Elt Ideal) S1024x4096 .bf16)) (r : Fin 1024) (l : Fin 4096) (hl : l.val < o) :
    View.canon (⟨Rect.unit (s := S1024x4096) ![0, o] S1024x1024.size inb, v⟩ :: L) (ix2 r l) = View.canon L (ix2 r l) := by
  refine View.canon_cons_of_not_mem _ _ ?_
  rw [Rect.mem_set_unit]
  intro hh
  have ho : o ≤ l.val := (hh 1).1
  omega

/-- A chunk's value at an index. -/
theorem pay_apply (x0 : Vec Ideal S1024x2048 .bf16) (x1 : Vec Ideal S2048x4096 .bf16) (x2 : Vec Ideal S1x4096 .f32) (o : Nat) (ho : o + 1024 ≤ 4096)
    (i0 : ∀ a, (![0, 0] : Fin 2 → Nat) a + S1024x2048.size a ≤ S1024x2048.size a)
    (i1 : ∀ a, (![0, o] : Fin 2 → Nat) a + S2048x1024.size a ≤ S2048x4096.size a)
    (i2 : ∀ a, (![0, o] : Fin 2 → Nat) a + S1x1024.size a ≤ S1x4096.size a) (r k : Fin 1024) (l : Fin 4096) (hl : l.val = o + k.val) :
    k0_pay3 (F := Ideal) (View.ld (Val := Elt Ideal) (e' := .bf16) x0 (Rect.unit (s := S1024x2048) ![0, 0] S1024x2048.size i0))
        (View.ld (Val := Elt Ideal) (e' := .bf16) x1 (Rect.unit (s := S2048x4096) ![0, o] S2048x1024.size i1))
        (View.ld (Val := Elt Ideal) (e' := .f32) x2 (Rect.unit (s := S1x4096) ![0, o] S1x1024.size i2)) (ix2 r k)
      = logistic (∑ x : Fin 2048, x0 (ix2 r x) * x1 (ix2 x l) + x2 (ix2 0 l)) := by
  rw [show l = ⟨o + k.val, lt_of_lt_of_le (Nat.add_lt_add_left k.isLt o) ho⟩ from Fin.ext hl]
  unfold logistic
  pointwise [k0_pay3]

/-- A POINT'S RESULT at an index. -/
theorem block_apply (x0 : Vec Ideal S1024x2048 .bf16) (x1 : Vec Ideal S2048x4096 .bf16) (x2 : Vec Ideal S1x4096 .f32) (r : Fin 1024) (l : Fin 4096) :
    out0_3 (F := Ideal) x0 x1 x2 (ix2 r l) = logistic (∑ x : Fin 2048, x0 (ix2 r x) * x1 (ix2 x l) + x2 (ix2 0 l)) := by
  unfold out0_3
  by_cases h3 : 3072 ≤ l.val
  · exact (chunk_apply 3072 _ _ _ r l ⟨l.val - 3072, by omega⟩ (show l.val = 3072 + (l.val - 3072) by omega)).trans
      (pay_apply x0 x1 x2 3072 (by decide) _ _ _ r _ l (show l.val = 3072 + (l.val - 3072) by omega))
  refine (chunk_skip 3072 _ _ _ r l (by omega)).trans ?_
  by_cases h2 : 2048 ≤ l.val
  · exact (chunk_apply 2048 _ _ _ r l ⟨l.val - 2048, by omega⟩ (show l.val = 2048 + (l.val - 2048) by omega)).trans
      (pay_apply x0 x1 x2 2048 (by decide) _ _ _ r _ l (show l.val = 2048 + (l.val - 2048) by omega))
  refine (chunk_skip 2048 _ _ _ r l (by omega)).trans ?_
  by_cases h1 : 1024 ≤ l.val
  · exact (chunk_apply 1024 _ _ _ r l ⟨l.val - 1024, by omega⟩ (show l.val = 1024 + (l.val - 1024) by omega)).trans
      (pay_apply x0 x1 x2 1024 (by decide) _ _ _ r _ l (show l.val = 1024 + (l.val - 1024) by omega))
  refine (chunk_skip 1024 _ _ _ r l (by omega)).trans ?_
  exact (chunk_apply 0 _ _ _ r l ⟨l.val, by omega⟩ (show l.val = 0 + l.val by omega)).trans
    (pay_apply x0 x1 x2 0 (by decide) _ _ _ r _ l (show l.val = 0 + l.val by omega))

variable (m : (ℓ : Loc nD τ sig) → Buf (Elt Ideal) ℓ) (c : Dev nD)

/-- The rows' block of a point. -/
theorem index0 : ∀ t : Fin cfg0.N, win0_0.index t = ![t.val, 0] :=
  (by decide +kernel : ∀ t : Fin grid0.N, win0_0.index t = ![t.val, 0])
/-- The weight's block of a point. -/
theorem index1 : ∀ t : Fin cfg0.N, win0_1.index t = ![0, 0] :=
  (by decide +kernel : ∀ t : Fin grid0.N, win0_1.index t = ![0, 0])
/-- The bias's block of a point. -/
theorem index2 : ∀ t : Fin cfg0.N, win0_2.index t = ![0, 0] :=
  (by decide +kernel : ∀ t : Fin grid0.N, win0_2.index t = ![0, 0])
/-- The result's block of a point. -/
theorem index3 : ∀ t : Fin cfg0.N, win0_3.index t = ![t.val, 0] :=
  (by decide +kernel : ∀ t : Fin grid0.N, win0_3.index t = ![t.val, 0])

/-- There are 16 points. -/
theorem lt16 (t : Fin cfg0.N) : t.val < 16 := lt_of_lt_of_eq t.isLt N_0

/-- A point's rows. -/
theorem iblk0 (t : Fin cfg0.N) (r : Fin 1024) (x : Fin 2048) :
    (iblk m c 0 t : Vec Ideal S1024x2048 .bf16) (ix2 r x)
      = (m ((c : Thread nD τ).loc main_arg0) : Vec Ideal S16384x2048 .bf16) (ix2 ⟨1024 * t.val + r.val, by have := lt16 t; omega⟩ x) := by
  unfold iblk
  rw [View.read_apply]
  show (V m c main_arg0 : Vec Ideal S16384x2048 .bf16) _ = _
  rw [V_main_arg0]
  refine congrArg _ (funext fun a => Fin.ext ?_)
  match a with
  | ⟨0, _⟩ => show win0_0.index t 0 * 1024 + 1 * r.val = 1024 * t.val + r.val; rw [index0]; show t.val * 1024 + 1 * r.val = _; omega
  | ⟨1, _⟩ => show win0_0.index t 1 * 2048 + 1 * x.val = x.val; rw [index0]; show 0 * 2048 + 1 * x.val = _; omega

/-- The weight. -/
theorem iblk1 (t : Fin cfg0.N) (x : Fin 2048) (l : Fin 4096) :
    (iblk m c 1 t : Vec Ideal S2048x4096 .bf16) (ix2 x l) = (m ((c : Thread nD τ).loc main_arg1) : Vec Ideal S2048x4096 .bf16) (ix2 x l) := by
  unfold iblk
  rw [View.read_apply]
  show (V m c main_arg1 : Vec Ideal S2048x4096 .bf16) _ = _
  rw [V_main_arg1]
  refine congrArg _ (funext fun a => Fin.ext ?_)
  match a with
  | ⟨0, _⟩ => show win0_1.index t 0 * 2048 + 1 * x.val = x.val; rw [index1]; show 0 * 2048 + 1 * x.val = _; omega
  | ⟨1, _⟩ => show win0_1.index t 1 * 4096 + 1 * l.val = l.val; rw [index1]; show 0 * 4096 + 1 * l.val = _; omega

/-- The bias. -/
theorem iblk2 (t : Fin cfg0.N) (l : Fin 4096) :
    (iblk m c 2 t : Vec Ideal S1x4096 .f32) (ix2 0 l) = (m ((c : Thread nD τ).loc main_arg2) : Vec Ideal S1x4096 .f32) (ix2 0 l) := by
  unfold iblk
  rw [View.read_apply]
  show (V m c main_arg2 : Vec Ideal S1x4096 .f32) _ = _
  rw [V_main_arg2]
  refine congrArg _ (funext fun a => Fin.ext ?_)
  match a with
  | ⟨0, _⟩ => show win0_2.index t 0 * 1 + 1 * 0 = 0; rw [index2]; rfl
  | ⟨1, _⟩ => show win0_2.index t 1 * 4096 + 1 * l.val = l.val; rw [index2]; show 0 * 4096 + 1 * l.val = _; omega

/-- The gate of a row's column, from the arguments. -/
def gateAt (h : Vec Ideal S16384x2048 .bf16) (w : Vec Ideal S2048x4096 .bf16) (b : Vec Ideal S1x4096 .f32) (r : Fin 16384) (l : Fin 4096) : EReal :=
  logistic (∑ x : Fin 2048, h (ix2 r x) * w (ix2 x l) + b (ix2 0 l))

/-- The whole result. -/
def whole : Vec Ideal S16384x4096 .bf16 := fun y =>
  gateAt (m ((c : Thread nD τ).loc main_arg0)) (m ((c : Thread nD τ).loc main_arg1)) (m ((c : Thread nD τ).loc main_arg2)) (y 0) (y 1)

/-- The result array. -/
theorem arr3 : (dats m 0 c).arrAt 3 cfg0.N = whole m c :=
  (dats m 0 c).arrAt_eq_of_cover 3 (whole m c)
    (fun t _ => by
      have h16 := lt16 t
      rw [flushed3]
      funext y
      rw [View.read_apply]
      have e1 : y = ix2 (n0 := 1024) (n1 := 4096) (y 0) (y 1) := by
        funext a
        match a with
        | ⟨0, _⟩ => rfl
        | ⟨1, _⟩ => rfl
      have e : ((cfg0.win 3).blk t).view.emb y = ix2 (n0 := 16384) (n1 := 4096)
          ⟨1024 * t.val + (y 0 : Fin 1024).val, by have : (y 0 : Fin 1024).val < 1024 := (y 0 : Fin 1024).isLt; omega⟩ (y 1) := by
        funext a
        apply Fin.ext
        match a with
        | ⟨0, _⟩ => show win0_3.index t 0 * 1024 + 1 * (y 0 : Fin 1024).val = 1024 * t.val + (y 0 : Fin 1024).val; rw [index3]; show t.val * 1024 + 1 * (y 0 : Fin 1024).val = _; omega
        | ⟨1, _⟩ => show win0_3.index t 1 * 4096 + 1 * (y 1 : Fin 4096).val = (y 1 : Fin 4096).val; rw [index3]; show 0 * 4096 + 1 * (y 1 : Fin 4096).val = _; omega
      refine Eq.trans (congrArg (out0_3 (F := Ideal) (iblk m c 0 t) (iblk m c 1 t) (iblk m c 2 t)) e1) ((block_apply _ _ _ (y 0) (y 1)).trans ?_)
      refine Eq.trans ?_ (congrArg (whole m c) e).symm
      refine congrArg logistic (congrArg₂ (· + ·) (Finset.sum_congr rfl fun x _ => congrArg₂ (· * ·) (iblk0 m c t (y 0) x) (iblk1 m c t x (y 1))) (iblk2 m c t (y 1))))
    (fun i => by
      have h0 : (i 0 : Nat) < 16384 := (i 0).isLt
      have h1 : (i 1 : Nat) < 4096 := (i 1).isLt
      refine ⟨⟨(i 0 : Nat) / 1024, lt_of_lt_of_eq (by omega) N_0.symm⟩, flush0_3 _, ?_⟩
      mem_blk [index3]
      dsimp
      omega)

/-- THE RUN: the kernel's result is the whole result. -/
theorem run (ρ : Dev nD → PrngReg) :
    θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr3 m c), (h c).2⟩) (run_blocks m ρ)

end Cert.GateArray
-- ==== Proof.GateClaim.lean ====
/-
  The gate's claims: the reference read at an index, the equation of the results, the frames.
-/
module

public import proofs.«01_k».proof.Defs
public import proofs.«01_k».proof.Proof.GateArray
public import proofs.«01_k».proof.Proof.Gen.GateRefIdeal.Read
public import proofs.«01_k».proof.Proof.Gen.Gate.Frame
public import Idealize.ShloMosaic.Lib.Quiescent

@[expose] public section

noncomputable section

namespace Cert.GateClaim

open Idealize.ShloMosaic Idealize.ShloMosaic.TcCoe Idealize.SL.Sem

/-- The reference has no semaphore. -/
theorem ref_sems (s : MemSt Cert.GateRefIdeal.nD Cert.GateRefIdeal.τ Cert.GateRefIdeal.sig (Elt Ideal)) : s.sem = fun _ => 0 :=
  sem_eq_zero_of_no_sems (by decide) s

/-- The kernel's program, bit-exact: its frame. -/
theorem frame_P : Cert.quiescent_Gate := fun m g _ => Cert.Gate.Gen.frame m g
/-- The idealized kernel's frame. -/
theorem frame_PI : Cert.quiescent_GateIdeal := fun m g _ => Cert.GateIdeal.Gen.frame m g
/-- The idealized reference's frame. -/
theorem frame_RI : Cert.quiescent_GateRefIdeal := fun m g _ =>
  (θ_run _ _ _).mono (fun r h => ⟨fun c => (h c).2, ref_sems r.2⟩) (Cert.GateRefIdeal.Value.run (F := Ideal) m g)

section
open Cert.GateRefIdeal Cert.GateRefIdeal.Gen Cert.GateRefIdeal.Read

/-- THE REFERENCE'S VALUE at an index. -/
theorem ref_apply (h : Vec Ideal S16384x2048 .bf16) (w : Vec Ideal S2048x4096 .bf16) (b : Vec Ideal S1x4096 .f32) (r : Fin 16384) (l : Fin 4096) :
    val_main_v13 (F := Ideal) h w b (ix2 r l) = GateArray.gateAt h w b r l := by
  unfold GateArray.gateAt GateArray.logistic
  rw [zero_sub]
  pointwise [val_main_v13, val_main_v12, val_main_v11, val_main_v10, val_main_v9, val_main_v8, val_main_v7, val_main_v6, val_main_v5, val_main_v4,
    val_main_v3, val_main_v2, val_main_v1, val_main_v0, val_main_cst, val_main_cst_0]

end

/-- THE EQUATION: the reference's result is the kernel's. -/
theorem result_eq (a0 : Vec Ideal Cert.GateRefIdeal.S16384x2048 .bf16) (a1 : Vec Ideal Cert.GateRefIdeal.S2048x4096 .bf16)
    (a2 : Vec Ideal Cert.GateRefIdeal.S1x4096 .f32) (c : Dev Cert.GateIdeal.nD)
    (m : (ℓ : Loc Cert.GateIdeal.nD Cert.GateIdeal.τ Cert.GateIdeal.sig) → Buf (Elt Ideal) ℓ)
    (h0 : a0 = m ((c.tc : Thread Cert.GateIdeal.nD Cert.GateIdeal.τ).loc Cert.GateIdeal.main_arg0))
    (h1 : a1 = m ((c.tc : Thread Cert.GateIdeal.nD Cert.GateIdeal.τ).loc Cert.GateIdeal.main_arg1))
    (h2 : a2 = m ((c.tc : Thread Cert.GateIdeal.nD Cert.GateIdeal.τ).loc Cert.GateIdeal.main_arg2)) :
    Cert.GateRefIdeal.Read.val_main_v13 (F := Ideal) a0 a1 a2 = GateArray.whole m c := by
  funext y
  have e : y = ix2 (n0 := 16384) (n1 := 4096) (y 0) (y 1) := by
    funext a
    match a with
    | ⟨0, _⟩ => rfl
    | ⟨1, _⟩ => rfl
  rw [e]
  refine (ref_apply a0 a1 a2 (y 0) (y 1)).trans ?_
  subst h0 h1 h2
  rfl

/-- THE VALUE CLAIM: the idealized kernel and the idealized reference end with equal results. -/
theorem value : Cert.algebraic_GateIdeal_GateRefIdeal := by
  intro m g m' g' _ hagree
  refine ⟨fun c => GateArray.whole m c, GateArray.run m g, ?_⟩
  refine (θ_run _ _ _).mono (fun r h c => ?_) (Cert.GateRefIdeal.Value.run (F := Ideal) m' g')
  obtain ⟨h0, h3⟩ := h c
  obtain ⟨a0, a1, a2⟩ := hagree c
  exact ⟨h0.trans ((Cert.GateRefIdeal.Read.val_main_v13_eq _ _ _).trans (result_eq _ _ _ c m a0 a1 a2)), h3⟩

end Cert.GateClaim
-- ==== Proof.GqaStep.lean ====
/-
  The grouped-query attention kernel's steps. A sub-block is 128 queries of each of a group's four heads, 512 rows, so its
  running softmax over chunks of 512 keys is `Proof/AttnStep.lean`'s; here are the scores, the result and its stores.
-/
module

public import proofs.«01_k».proof.Proof.Gen.GqaIdeal.Skeleton
public import proofs.«01_k».proof.Proof.AttnStep
public import Idealize.ShloMosaic.Lib.Pipeline.Value

@[expose] public section

noncomputable section

namespace Cert.GqaStep

open Idealize.ShloMosaic Idealize.ShloMosaic.TcCoe Cert.GqaIdeal Cert.GqaIdeal.Gen Cert.AttnStep

variable {F : FTy → Type} [FloatOps F]

/-- The scores of 512 rows, 128 queries of each of four heads, against a chunk of 512 keys. -/
def gscores (q : FVec F S1x4x128x128 .bf16) (k : FVec F S1x1x512x128 .bf16) : FVec F S512x512 .f32 :=
  matmul dot_S512x128_S512x128_S512x512_1_1_0_0_n_n none
    (shapeCast S512x128 (shapeCast S4x128x128 q shapeCasts_S1x4x128x128_S4x128x128) shapeCasts_S4x128x128_S512x128)
    (shapeCast S512x128 k shapeCasts_S1x1x512x128_S512x128) (constant S512x512 .f32 0x00000000#32)

/-- Sub-block `u` of 128 queries out of the 1024 of a point, of all four heads. -/
abbrev gqAt (x : FVec F S1x4x1024x128 .bf16) (u : Nat) : FVec F S1x4x128x128 .bf16 :=
  View.ld (Val := Elt F) (e' := .bf16) x (Rect.unit (s := S1x4x1024x128) ![0, 0, 128 * (u % 8), 0] S1x4x128x128.size (by
    intro a; fin_cases a <;> simp <;> omega))

/-- Chunk `n` of 512 keys out of 4096. -/
abbrev gkAt (x : FVec F S1x1x4096x128 .bf16) (n : Nat) : FVec F S1x1x512x128 .bf16 :=
  View.ld (Val := Elt F) (e' := .bf16) x (Rect.unit (s := S1x1x4096x128) ![0, 0, 512 * (n % 8), 0] S1x1x512x128.size (by
    intro a; fin_cases a <;> simp <;> omega))

/-- The running row maximum and weighted sums after the first `n` chunks, for queries `q`, keys `k` and values `vx`. -/
abbrev gstate (q : FVec F S1x4x128x128 .bf16) (k : FVec F S1x1x4096x128 .bf16) (vx : FVec F S4096x256 .bf16) :
    Nat → FVec F S512x128 .f32 × FVec F S512x256 .f32 := run (fun n => gscores q (gkAt k n)) (fun n => vAt vx n)

/-- What one sub-block ends with: the weighted sums over the sums of weights. -/
def quot (q : FVec F S1x4x128x128 .bf16) (k : FVec F S1x1x4096x128 .bf16) (vx : FVec F S4096x256 .bf16) : FVec F S512x128 .f32 :=
  divf (half (gstate q k vx 8).2 0 (half_fit 0 (by decide))) (half (gstate q k vx 8).2 128 (half_fit 128 (by decide)))

/-- A head's 128 rows of the 512 lie among them. -/
theorem slice_fit (h : Nat) : S512x128.Slices ![128 * (h % 4), 0] S128x128 :=
  ⟨rfl, by intro a; fin_cases a <;> simp <;> omega⟩

/-- The store of sub-block `u`'s result for head `h` of the group. -/
def gpiece (x0 : FVec F S1x4x1024x128 .bf16) (k : FVec F S1x1x4096x128 .bf16) (vx : FVec F S4096x256 .bf16) (u h : Nat) :
    View.Piece (Elt F) S1x1024x512 .bf16 :=
  ⟨Rect.unit (s := S1x1024x512) ![0, 128 * (u % 8), 128 * (h % 4)] S1x128x128.size (by intro a; fin_cases a <;> simp <;> omega),
    shapeCast S1x128x128 (truncf .bf16 (extractStridedSlice S128x128 ![128 * (h % 4), 0] (quot (gqAt x0 u) k vx) (slice_fit h)) bitsLt_bf16_f32)
      shapeCasts_S128x128_S1x128x128⟩

/-- A sub-block's four stores, the last first, before those of `L`. -/
def gpieces (x0 : FVec F S1x4x1024x128 .bf16) (k : FVec F S1x1x4096x128 .bf16) (vx : FVec F S4096x256 .bf16) (u : Nat)
    (L : List (View.Piece (Elt F) S1x1024x512 .bf16)) : List (View.Piece (Elt F) S1x1024x512 .bf16) :=
  gpiece x0 k vx u 3 :: gpiece x0 k vx u 2 :: gpiece x0 k vx u 1 :: gpiece x0 k vx u 0 :: L

/-- All stores of the first `n` sub-blocks, the last first. -/
def gstores (x0 : FVec F S1x4x1024x128 .bf16) (k : FVec F S1x1x4096x128 .bf16) (vx : FVec F S4096x256 .bf16) :
    Nat → List (View.Piece (Elt F) S1x1024x512 .bf16)
  | 0 => []
  | u + 1 => gpieces x0 k vx u (gstores x0 k vx u)

/-- The operations of a chunk's scores, put together. -/
theorem gscores_fold (q : FVec F S1x4x128x128 .bf16) (k : FVec F S1x1x512x128 .bf16) :
    matmul dot_S512x128_S512x128_S512x512_1_1_0_0_n_n none
      (shapeCast S512x128 (shapeCast S4x128x128 q shapeCasts_S1x4x128x128_S4x128x128) shapeCasts_S4x128x128_S512x128)
      (shapeCast S512x128 k shapeCasts_S1x1x512x128_S512x128) (constant S512x512 .f32 0x00000000#32) = gscores q k := rfl

/-- The printed joining of two vectors is `cat2`. -/
theorem gcat2_fold (x y : FVec F S512x128 .f32) :
    concatenate S512x256 1 [⟨S512x128, x⟩, ⟨S512x128, y⟩] concatenates_S512x128_S512x128_S512x256_d1 = cat2 x y := rfl

/-- The printed joining of four vectors is `cat4`. -/
theorem gcat4_fold (x y z w : FVec F S512x128 .bf16) :
    concatenate S512x512 1 [⟨S512x128, x⟩, ⟨S512x128, y⟩, ⟨S512x128, z⟩, ⟨S512x128, w⟩]
      concatenates_S512x128_S512x128_S512x128_S512x128_S512x512_d1 = cat4 x y z w := rfl

/-- The operations of a step's row maximum, put together. -/
theorem gnewM_fold (c0 c1 c2 c3 m : FVec F S512x128 .f32) :
    maximumf m (broadcastTo S512x128 (shapeCast S512x1 (multiReduction .maximumf [1] S512 (maximumf (maximumf (maximumf c0 c1) c2) c3)
      0xFF800000#32 reduces_S512x128_S512 (.inl rfl) rfl) shapeCasts_S512_S512x1) broadcasts_S512x1_S512x128) = newM c0 c1 c2 c3 m := rfl

/-- The operations of a step's weighted sums, put together. -/
theorem gnewA_fold (c0 c1 c2 c3 m : FVec F S512x128 .f32) (a : FVec F S512x256 .f32) (vx : FVec F S512x256 .bf16) :
    addf (mulf (cat2 (exp2 (subf m (newM c0 c1 c2 c3 m))) (exp2 (subf m (newM c0 c1 c2 c3 m)))) a)
    (matmul dot_S512x512_S512x256_S512x256_1_0_0_1_n_n none
      (cat4 (exp2 (truncf .bf16 (subf c0 (newM c0 c1 c2 c3 m)) bitsLt_bf16_f32)) (exp2 (truncf .bf16 (subf c1 (newM c0 c1 c2 c3 m)) bitsLt_bf16_f32))
        (exp2 (truncf .bf16 (subf c2 (newM c0 c1 c2 c3 m)) bitsLt_bf16_f32)) (exp2 (truncf .bf16 (subf c3 (newM c0 c1 c2 c3 m)) bitsLt_bf16_f32)))
      vx (constant S512x256 .f32 0x00000000#32)) = newA c0 c1 c2 c3 m a vx := rfl

end Cert.GqaStep
-- ==== Proof.GqaBlockA.lean ====
/-
  What the grouped-query attention kernel leaves at a point that stores the values and the ones first (case A): the
  stores of `Proof/GqaStep.lean`'s closed form and the six rounded weight blocks.
-/
module

public import proofs.«01_k».proof.Proof.Gen.GqaIdeal.Frame.RunA
public import proofs.«01_k».proof.Proof.GqaStep

@[expose] public section

set_option maxRecDepth 16384

noncomputable section

namespace Cert.GqaBlock

open Idealize.ShloMosaic Idealize.ShloMosaic.TcCoe Idealize.ShloMosaic.Tactic Idealize.ShloMosaic.Rounds
open Cert.GqaIdeal Cert.GqaIdeal.Gen Cert.AttnStep Cert.GqaStep

variable {F : FTy → Type} [FloatOps F]
variable (c : Dev nD) (i : grid0.Coords)
  (arg3 : Memref sig .tc .vmem S1x4x1024x128 .bf16)
  (harg3 : arg3.IsWhole)
  (arg4 : Memref sig .tc .vmem S1x1x4096x128 .bf16)
  (harg4 : arg4.IsWhole)
  (arg5 : Memref sig .tc .vmem S1x1x4096x128 .bf16)
  (harg5 : arg5.IsWhole)
  (arg6 : Memref sig .tc .vmem S176x2048 .f32)
  (harg6 : arg6.IsWhole)
  (arg7 : Memref sig .tc .vmem S64x2048 .f32)
  (harg7 : arg7.IsWhole)
  (arg8 : Memref sig .tc .vmem S32x2048 .f32)
  (harg8 : arg8.IsWhole)
  (arg9 : Memref sig .tc .vmem S32x2048 .f32)
  (harg9 : arg9.IsWhole)
  (arg10 : Memref sig .tc .vmem S64x512 .f32)
  (harg10 : arg10.IsWhole)
  (arg11 : Memref sig .tc .vmem S16x2048 .f32)
  (harg11 : arg11.IsWhole)
  (arg12 : Memref sig .tc .vmem S1x1024x512 .bf16)
  (harg12 : arg12.IsWhole)
  (arg13 : Memref sig .tc .vmem S176x2048 .bf16)
  (harg13 : arg13.IsWhole)
  (arg14 : Memref sig .tc .vmem S64x2048 .bf16)
  (harg14 : arg14.IsWhole)
  (arg15 : Memref sig .tc .vmem S32x2048 .bf16)
  (harg15 : arg15.IsWhole)
  (arg16 : Memref sig .tc .vmem S32x2048 .bf16)
  (harg16 : arg16.IsWhole)
  (arg17 : Memref sig .tc .vmem S64x512 .bf16)
  (harg17 : arg17.IsWhole)
  (arg18 : Memref sig .tc .vmem S16x2048 .bf16)
  (harg18 : arg18.IsWhole)
  (arg19 : Memref sig .tc .vmem S4096x256 .bf16)
  (harg19 : arg19.IsWhole)
  (arg20 : Memref sig .tc .vmem S8x512x512 .f32)
  (harg20 : arg20.IsWhole)
  (arg21 : Memref sig .tc .vmem S8x512x512 .f32)
  (harg21 : arg21.IsWhole)
  (arg22 : Memref sig .tc .vmem S8x512x128 .f32)
  (harg22 : arg22.IsWhole)
  (arg23 : Memref sig .tc .vmem S8x512x256 .f32)
  (harg23 : arg23.IsWhole)
variable (x0 : Vec F S1x4x1024x128 .bf16) (x1 : Vec F S1x1x4096x128 .bf16) (x2 : Vec F S1x1x4096x128 .bf16) (x3 : Vec F S176x2048 .f32) (x4 : Vec F S64x2048 .f32) (x5 : Vec F S32x2048 .f32) (x6 : Vec F S32x2048 .f32) (x7 : Vec F S64x512 .f32) (x8 : Vec F S16x2048 .f32)

/-- The scratch's two stores: the ones to the right, the values to the left. -/
theorem scratch_A (hc0 : cond0_0 i) : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.2.1 = scrPieces x2 := by
  unfold kernelRun0_A
  dsimp only
  sl_unfold_run_names
  simp only [k0_pay8, k0_pay9, shapeCast_self, View.readAt_eq_ld, Memref.IsWhole.read_unread, ld_whole2, ld_whole4]
  rfl

/-- The first weight block: rounded. -/
theorem cast1_A (hc0 : cond0_0 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.1
      = [⟨Rect.unit (s := S176x2048) ![0, 0] S176x2048.size inb_S176x2048_S176x2048_0_0, truncf .bf16 (x3 : FVec F S176x2048 .f32) bitsLt_bf16_f32⟩] := by
  unfold kernelRun0_A
  dsimp only
  sl_unfold_run_names
  simp only [k0_pay2, View.readAt_eq_ld, Memref.IsWhole.read_unread, ld_whole2, ld_whole4]

/-- The second weight block: rounded. -/
theorem cast2_A (hc0 : cond0_0 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.1
      = [⟨Rect.unit (s := S64x2048) ![0, 0] S64x2048.size inb_S64x2048_S64x2048_0_0, truncf .bf16 (x4 : FVec F S64x2048 .f32) bitsLt_bf16_f32⟩] := by
  unfold kernelRun0_A
  dsimp only
  sl_unfold_run_names
  simp only [k0_pay3, View.readAt_eq_ld, Memref.IsWhole.read_unread, ld_whole2, ld_whole4]

/-- The third weight block: rounded. -/
theorem cast3_A (hc0 : cond0_0 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.1
      = [⟨Rect.unit (s := S32x2048) ![0, 0] S32x2048.size inb_S32x2048_S32x2048_0_0, truncf .bf16 (x5 : FVec F S32x2048 .f32) bitsLt_bf16_f32⟩] := by
  unfold kernelRun0_A
  dsimp only
  sl_unfold_run_names
  simp only [k0_pay4, View.readAt_eq_ld, Memref.IsWhole.read_unread, ld_whole2, ld_whole4]

/-- The fourth weight block: rounded. -/
theorem cast4_A (hc0 : cond0_0 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.1
      = [⟨Rect.unit (s := S32x2048) ![0, 0] S32x2048.size inb_S32x2048_S32x2048_0_0, truncf .bf16 (x6 : FVec F S32x2048 .f32) bitsLt_bf16_f32⟩] := by
  unfold kernelRun0_A
  dsimp only
  sl_unfold_run_names
  simp only [k0_pay5, View.readAt_eq_ld, Memref.IsWhole.read_unread, ld_whole2, ld_whole4]

/-- The fifth weight block: rounded. -/
theorem cast5_A (hc0 : cond0_0 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.1
      = [⟨Rect.unit (s := S64x512) ![0, 0] S64x512.size inb_S64x512_S64x512_0_0, truncf .bf16 (x7 : FVec F S64x512 .f32) bitsLt_bf16_f32⟩] := by
  unfold kernelRun0_A
  dsimp only
  sl_unfold_run_names
  simp only [k0_pay6, View.readAt_eq_ld, Memref.IsWhole.read_unread, ld_whole2, ld_whole4]

/-- The sixth weight block: rounded. -/
theorem cast6_A (hc0 : cond0_0 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).2.2.2.2.2.2.1
      = [⟨Rect.unit (s := S16x2048) ![0, 0] S16x2048.size inb_S16x2048_S16x2048_0_0, truncf .bf16 (x8 : FVec F S16x2048 .f32) bitsLt_bf16_f32⟩] := by
  unfold kernelRun0_A
  dsimp only
  sl_unfold_run_names
  simp only [k0_pay7, View.readAt_eq_ld, Memref.IsWhole.read_unread, ld_whole2, ld_whole4]

set_option maxHeartbeats 8000000 in
/-- The result's stores. -/
theorem pieces_A (hc0 : cond0_0 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8).1 = gstores x0 x1 (View.canon (scrPieces x2)) 8 := by
  unfold kernelRun0_A
  dsimp only
  sl_unfold_run_names
  dsimp -proj only [k0_pay1, k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187, k0_pay188, k0_pay189, k0_pay190, k0_pay191,
    k0_pay192, k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256,
    k0_pay257, k0_pay258, k0_pay259, k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279, k0_pay280, k0_pay281, k0_pay282,
    k0_pay283, k0_pay284, k0_pay285, k0_pay286, k0_pay287, k0_pay288, k0_pay289, k0_pay290, k0_pay291, k0_pay292, k0_pay293, k0_pay294, k0_pay295,
    k0_pay296, k0_pay297, k0_pay298, k0_pay299, k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317, k0_pay318, k0_pay319, k0_pay320, k0_pay321,
    k0_pay322, k0_pay323, k0_pay324, k0_pay325, k0_pay326, k0_pay327, k0_pay328, k0_pay329, k0_pay330, k0_pay331, k0_pay332, k0_pay333, k0_pay334,
    k0_pay335, k0_pay336, k0_pay337, k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357, k0_pay358, k0_pay359, k0_pay360,
    k0_pay361, k0_pay362, k0_pay363, k0_pay364, k0_pay365, k0_pay366, k0_pay367, k0_pay368, k0_pay369, k0_pay370, k0_pay371, k0_pay372, k0_pay373,
    k0_pay374, k0_pay375, k0_pay376, k0_pay377, k0_pay378, k0_pay379, k0_pay380, k0_pay381, k0_pay382, k0_pay383, k0_pay384, k0_pay385, k0_pay386,
    k0_pay387, k0_pay388, k0_pay389, k0_pay390, k0_pay391, k0_pay392, k0_pay393, k0_pay394, k0_pay395, k0_pay396, k0_pay397, k0_pay398, k0_pay399,
    k0_pay400, k0_pay401, k0_pay402, k0_pay403, k0_pay404, k0_pay405, k0_pay406, k0_pay407, k0_pay408, k0_pay409, k0_pay410, k0_pay411, k0_pay412,
    k0_pay413, k0_pay414, k0_pay415, k0_pay416, k0_pay417, k0_pay418, k0_pay419, k0_pay420, k0_pay421, k0_pay422, k0_pay423, k0_pay424, k0_pay425,
    k0_pay426, k0_pay427, k0_pay428, k0_pay429, k0_pay430, k0_pay431, k0_pay432, k0_pay433, k0_pay434, k0_pay435, k0_pay436, k0_pay437, k0_pay438,
    k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464,
    k0_pay465, k0_pay466, k0_pay467, k0_pay468, k0_pay469, k0_pay470, k0_pay471, k0_pay472, k0_pay473, k0_pay474, k0_pay475, k0_pay476, k0_pay477,
    k0_pay478, k0_pay479, k0_pay480, k0_pay481, k0_pay482, k0_pay483, k0_pay484, k0_pay485, k0_pay486, k0_pay487, k0_pay488, k0_pay489,
    gcat2_fold, gcat4_fold, gnewM_fold, gnewA_fold, gscores_fold]
  simp only [readCov_plane, readCov_cols, readCov_scratch, shapeCast_shapeCast, shapeCast_self, View.readAt_eq_ld, Memref.IsWhole.read_unread, ld_whole2, ld_whole4]
  rfl

end Cert.GqaBlock
-- ==== Proof.GqaBlockB.lean ====
/-
  What the grouped-query attention kernel leaves at a point that finds the values and the ones stored (case B): the
  stores of `Proof/GqaStep.lean`'s closed form and the six rounded weight blocks.
-/
module

public import proofs.«01_k».proof.Proof.Gen.GqaIdeal.Frame.RunB
public import proofs.«01_k».proof.Proof.GqaStep

@[expose] public section

set_option maxRecDepth 16384

noncomputable section

namespace Cert.GqaBlock

open Idealize.ShloMosaic Idealize.ShloMosaic.TcCoe Idealize.ShloMosaic.Tactic Idealize.ShloMosaic.Rounds
open Cert.GqaIdeal Cert.GqaIdeal.Gen Cert.AttnStep Cert.GqaStep

variable {F : FTy → Type} [FloatOps F]
variable (c : Dev nD) (i : grid0.Coords)
  (arg3 : Memref sig .tc .vmem S1x4x1024x128 .bf16)
  (harg3 : arg3.IsWhole)
  (arg4 : Memref sig .tc .vmem S1x1x4096x128 .bf16)
  (harg4 : arg4.IsWhole)
  (arg5 : Memref sig .tc .vmem S1x1x4096x128 .bf16)
  (harg5 : arg5.IsWhole)
  (arg6 : Memref sig .tc .vmem S176x2048 .f32)
  (harg6 : arg6.IsWhole)
  (arg7 : Memref sig .tc .vmem S64x2048 .f32)
  (harg7 : arg7.IsWhole)
  (arg8 : Memref sig .tc .vmem S32x2048 .f32)
  (harg8 : arg8.IsWhole)
  (arg9 : Memref sig .tc .vmem S32x2048 .f32)
  (harg9 : arg9.IsWhole)
  (arg10 : Memref sig .tc .vmem S64x512 .f32)
  (harg10 : arg10.IsWhole)
  (arg11 : Memref sig .tc .vmem S16x2048 .f32)
  (harg11 : arg11.IsWhole)
  (arg12 : Memref sig .tc .vmem S1x1024x512 .bf16)
  (harg12 : arg12.IsWhole)
  (arg13 : Memref sig .tc .vmem S176x2048 .bf16)
  (harg13 : arg13.IsWhole)
  (arg14 : Memref sig .tc .vmem S64x2048 .bf16)
  (harg14 : arg14.IsWhole)
  (arg15 : Memref sig .tc .vmem S32x2048 .bf16)
  (harg15 : arg15.IsWhole)
  (arg16 : Memref sig .tc .vmem S32x2048 .bf16)
  (harg16 : arg16.IsWhole)
  (arg17 : Memref sig .tc .vmem S64x512 .bf16)
  (harg17 : arg17.IsWhole)
  (arg18 : Memref sig .tc .vmem S16x2048 .bf16)
  (harg18 : arg18.IsWhole)
  (arg19 : Memref sig .tc .vmem S4096x256 .bf16)
  (harg19 : arg19.IsWhole)
  (arg20 : Memref sig .tc .vmem S8x512x512 .f32)
  (harg20 : arg20.IsWhole)
  (arg21 : Memref sig .tc .vmem S8x512x512 .f32)
  (harg21 : arg21.IsWhole)
  (arg22 : Memref sig .tc .vmem S8x512x128 .f32)
  (harg22 : arg22.IsWhole)
  (arg23 : Memref sig .tc .vmem S8x512x256 .f32)
  (harg23 : arg23.IsWhole)
variable (x0 : Vec F S1x4x1024x128 .bf16) (x1 : Vec F S1x1x4096x128 .bf16) (x2 : Vec F S1x1x4096x128 .bf16) (x3 : Vec F S176x2048 .f32) (x4 : Vec F S64x2048 .f32) (x5 : Vec F S32x2048 .f32) (x6 : Vec F S32x2048 .f32) (x7 : Vec F S64x512 .f32) (x8 : Vec F S16x2048 .f32)

/-- The first weight block: rounded. -/
theorem cast1_B (hc0 : ¬cond0_0 i) (xs0 : Vec F S4096x256 .bf16) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0).2.1
      = [⟨Rect.unit (s := S176x2048) ![0, 0] S176x2048.size inb_S176x2048_S176x2048_0_0, truncf .bf16 (x3 : FVec F S176x2048 .f32) bitsLt_bf16_f32⟩] := by
  unfold kernelRun0_B
  dsimp only
  sl_unfold_run_names
  simp only [k0_pay2, View.readAt_eq_ld, Memref.IsWhole.read_unread, ld_whole2, ld_whole4]

/-- The second weight block: rounded. -/
theorem cast2_B (hc0 : ¬cond0_0 i) (xs0 : Vec F S4096x256 .bf16) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0).2.2.1
      = [⟨Rect.unit (s := S64x2048) ![0, 0] S64x2048.size inb_S64x2048_S64x2048_0_0, truncf .bf16 (x4 : FVec F S64x2048 .f32) bitsLt_bf16_f32⟩] := by
  unfold kernelRun0_B
  dsimp only
  sl_unfold_run_names
  simp only [k0_pay3, View.readAt_eq_ld, Memref.IsWhole.read_unread, ld_whole2, ld_whole4]

/-- The third weight block: rounded. -/
theorem cast3_B (hc0 : ¬cond0_0 i) (xs0 : Vec F S4096x256 .bf16) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0).2.2.2.1
      = [⟨Rect.unit (s := S32x2048) ![0, 0] S32x2048.size inb_S32x2048_S32x2048_0_0, truncf .bf16 (x5 : FVec F S32x2048 .f32) bitsLt_bf16_f32⟩] := by
  unfold kernelRun0_B
  dsimp only
  sl_unfold_run_names
  simp only [k0_pay4, View.readAt_eq_ld, Memref.IsWhole.read_unread, ld_whole2, ld_whole4]

/-- The fourth weight block: rounded. -/
theorem cast4_B (hc0 : ¬cond0_0 i) (xs0 : Vec F S4096x256 .bf16) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0).2.2.2.2.1
      = [⟨Rect.unit (s := S32x2048) ![0, 0] S32x2048.size inb_S32x2048_S32x2048_0_0, truncf .bf16 (x6 : FVec F S32x2048 .f32) bitsLt_bf16_f32⟩] := by
  unfold kernelRun0_B
  dsimp only
  sl_unfold_run_names
  simp only [k0_pay5, View.readAt_eq_ld, Memref.IsWhole.read_unread, ld_whole2, ld_whole4]

/-- The fifth weight block: rounded. -/
theorem cast5_B (hc0 : ¬cond0_0 i) (xs0 : Vec F S4096x256 .bf16) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0).2.2.2.2.2.1
      = [⟨Rect.unit (s := S64x512) ![0, 0] S64x512.size inb_S64x512_S64x512_0_0, truncf .bf16 (x7 : FVec F S64x512 .f32) bitsLt_bf16_f32⟩] := by
  unfold kernelRun0_B
  dsimp only
  sl_unfold_run_names
  simp only [k0_pay6, View.readAt_eq_ld, Memref.IsWhole.read_unread, ld_whole2, ld_whole4]

/-- The sixth weight block: rounded. -/
theorem cast6_B (hc0 : ¬cond0_0 i) (xs0 : Vec F S4096x256 .bf16) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0).2.2.2.2.2.2.1
      = [⟨Rect.unit (s := S16x2048) ![0, 0] S16x2048.size inb_S16x2048_S16x2048_0_0, truncf .bf16 (x8 : FVec F S16x2048 .f32) bitsLt_bf16_f32⟩] := by
  unfold kernelRun0_B
  dsimp only
  sl_unfold_run_names
  simp only [k0_pay7, View.readAt_eq_ld, Memref.IsWhole.read_unread, ld_whole2, ld_whole4]

set_option maxHeartbeats 8000000 in
/-- The result's stores. -/
theorem pieces_B (hc0 : ¬cond0_0 i) (xs0 : Vec F S4096x256 .bf16) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 xs0).1 = gstores x0 x1 xs0 8 := by
  unfold kernelRun0_B
  dsimp only
  sl_unfold_run_names
  dsimp -proj only [k0_pay1, k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187, k0_pay188, k0_pay189, k0_pay190, k0_pay191,
    k0_pay192, k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256,
    k0_pay257, k0_pay258, k0_pay259, k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279, k0_pay280, k0_pay281, k0_pay282,
    k0_pay283, k0_pay284, k0_pay285, k0_pay286, k0_pay287, k0_pay288, k0_pay289, k0_pay290, k0_pay291, k0_pay292, k0_pay293, k0_pay294, k0_pay295,
    k0_pay296, k0_pay297, k0_pay298, k0_pay299, k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317, k0_pay318, k0_pay319, k0_pay320, k0_pay321,
    k0_pay322, k0_pay323, k0_pay324, k0_pay325, k0_pay326, k0_pay327, k0_pay328, k0_pay329, k0_pay330, k0_pay331, k0_pay332, k0_pay333, k0_pay334,
    k0_pay335, k0_pay336, k0_pay337, k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357, k0_pay358, k0_pay359, k0_pay360,
    k0_pay361, k0_pay362, k0_pay363, k0_pay364, k0_pay365, k0_pay366, k0_pay367, k0_pay368, k0_pay369, k0_pay370, k0_pay371, k0_pay372, k0_pay373,
    k0_pay374, k0_pay375, k0_pay376, k0_pay377, k0_pay378, k0_pay379, k0_pay380, k0_pay381, k0_pay382, k0_pay383, k0_pay384, k0_pay385, k0_pay386,
    k0_pay387, k0_pay388, k0_pay389, k0_pay390, k0_pay391, k0_pay392, k0_pay393, k0_pay394, k0_pay395, k0_pay396, k0_pay397, k0_pay398, k0_pay399,
    k0_pay400, k0_pay401, k0_pay402, k0_pay403, k0_pay404, k0_pay405, k0_pay406, k0_pay407, k0_pay408, k0_pay409, k0_pay410, k0_pay411, k0_pay412,
    k0_pay413, k0_pay414, k0_pay415, k0_pay416, k0_pay417, k0_pay418, k0_pay419, k0_pay420, k0_pay421, k0_pay422, k0_pay423, k0_pay424, k0_pay425,
    k0_pay426, k0_pay427, k0_pay428, k0_pay429, k0_pay430, k0_pay431, k0_pay432, k0_pay433, k0_pay434, k0_pay435, k0_pay436, k0_pay437, k0_pay438,
    k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464,
    k0_pay465, k0_pay466, k0_pay467, k0_pay468, k0_pay469, k0_pay470, k0_pay471, k0_pay472, k0_pay473, k0_pay474, k0_pay475, k0_pay476, k0_pay477,
    k0_pay478, k0_pay479, k0_pay480, k0_pay481, k0_pay482, k0_pay483, k0_pay484, k0_pay485, k0_pay486, k0_pay487, k0_pay488, k0_pay489,
    gcat2_fold, gcat4_fold, gnewM_fold, gnewA_fold, gscores_fold]
  simp only [readCov_plane, readCov_cols, readCov_scratch, shapeCast_shapeCast, shapeCast_self, View.readAt_eq_ld, Memref.IsWhole.read_unread, ld_whole2, ld_whole4]
  rfl

end Cert.GqaBlock
-- ==== Proof.GqaPoint.lean ====
/-
  The grouped-query attention kernel's block of a point, read at an index over the extended reals: the shares' sum of
  the values, whichever of the stores wrote the index.
-/
module

public import proofs.«01_k».proof.Proof.GqaStep
public import proofs.«01_k».proof.Proof.AttnPoint
public import proofs.«01_k».proof.Proof.RunRead
public import Idealize.ShloMosaic.Lib.Pointwise
public import Idealize.ShloMosaic.Lib.Pipeline.ValueKit

@[expose] public section

noncomputable section

namespace Cert.GqaPoint

open Idealize.ShloMosaic Idealize.ShloMosaic.TcCoe Cert.GqaIdeal Cert.GqaIdeal.Gen Cert.AttnStep Cert.GqaStep Cert.Soft Cert.RunRead

/-- A chunk's scores at an index: the dot product of a query and a key; row `r` is query `r % 128` of head `r / 128`. -/
theorem gscores_apply (x0 : FVec Ideal S1x4x1024x128 .bf16) (k : FVec Ideal S1x1x4096x128 .bf16) (u n : Nat) (r c : Fin 512) :
    gscores (gqAt x0 u) (gkAt k n) (ix2 r c)
      = ∑ x : Fin 128, x0 (ix4 0 ⟨r.val / 128, by omega⟩ ⟨128 * (u % 8) + r.val % 128, by omega⟩ x) * k (ix4 0 0 ⟨512 * (n % 8) + c.val, by omega⟩ x) := by
  pointwise [gscores, gqAt, gkAt]

/-- A sub-block's quotient at an index. -/
theorem quot_div (q : FVec Ideal S1x4x128x128 .bf16) (k : FVec Ideal S1x1x4096x128 .bf16) (vx : FVec Ideal S4096x256 .bf16)
    (r : Fin 512) (d : Fin 128) :
    quot q k vx (ix2 r d) = Ideal.div ((gstate q k vx 8).2 (ix2 r ⟨d.val, by omega⟩)) ((gstate q k vx 8).2 (ix2 r ⟨128 + d.val, by omega⟩)) := by
  pointwise [quot, half]

/-- A sub-block's result at an index: the sum of the shares times the values. -/
theorem quot_apply (x0 : FVec Ideal S1x4x1024x128 .bf16) (k : FVec Ideal S1x1x4096x128 .bf16) (vx : FVec Ideal S4096x256 .bf16)
    (s : Fin 4 → Fin 1024 → Nat → ℝ)
    (hs : ∀ (h : Fin 4) (i : Fin 1024) (j : Fin 4096), ∑ x : Fin 128, x0 (ix4 0 h i x) * k (ix4 0 0 j x) = ((s h i j.val : ℝ) : EReal))
    (h1 : ∀ (j : Fin 4096) (l : Fin 256), 128 ≤ l.val → vx (ix2 j l) = 1) (u : Nat) (hu : u < 8) (r : Fin 512) (d : Fin 128) :
    quot (gqAt x0 u) k vx (ix2 r d)
      = ∑ j : Fin 4096, ((share (s ⟨r.val / 128, by omega⟩ ⟨128 * u + r.val % 128, by omega⟩) 4096 j.val : ℝ) : EReal) * vx (ix2 j ⟨d.val, by omega⟩) := by
  rw [quot_div, run_quotient (fun n => gscores (gqAt x0 u) (gkAt k n)) (fun n => vAt vx n)
    (fun r => s ⟨r.val / 128, by omega⟩ ⟨128 * u + r.val % 128, by omega⟩) (fun l j => if h : j < 4096 then vx (ix2 ⟨j, h⟩ l) else 0) 8 (by decide)]
  · rw [Finset.sum_range]
    exact Finset.sum_congr rfl fun j _ => by rw [dif_pos j.isLt]
  · intro n hn r c
    refine (gscores_apply x0 k u n r c).trans ?_
    have e1 : (⟨128 * (u % 8) + r.val % 128, by omega⟩ : Fin 1024) = ⟨128 * u + r.val % 128, by omega⟩ :=
      Fin.ext (show 128 * (u % 8) + r.val % 128 = 128 * u + r.val % 128 by omega)
    have e2 : 512 * (n % 8) + c.val = 512 * n + c.val := by omega
    exact (hs _ _ _).trans (congrArg₂ (fun a b => ((s _ a b : ℝ) : EReal)) e1 e2)
  · intro n hn x l
    refine (AttnPoint.vAt_apply vx n x l).trans ?_
    have e2 : (⟨512 * (n % 8) + x.val, by omega⟩ : Fin 4096) = ⟨512 * n + x.val, by omega⟩ := Fin.ext (show 512 * (n % 8) + x.val = 512 * n + x.val by omega)
    rw [dif_pos (show 512 * n + x.val < 4096 by omega), e2]
  · intro j hj
    rw [dif_pos (show j < 4096 by omega)]
    exact h1 _ _ (Nat.le_add_right _ _)

/-- The result's block as one function: row `i`, column `128 h + d` is row `128 h + i % 128` of sub-block `i / 128`. -/
def gblockAt {F : FTy → Type} [FloatOps F] (x0 : FVec F S1x4x1024x128 .bf16) (k : FVec F S1x1x4096x128 .bf16) (vx : FVec F S4096x256 .bf16) :
    FVec F S1x1024x512 .bf16 := fun j =>
  truncf .bf16 (quot (gqAt x0 ((j 1 : Fin 1024).val / 128)) k vx) bitsLt_bf16_f32
    (ix2 (n0 := 512) (n1 := 128) ⟨128 * ((j 2 : Fin 512).val / 128) + (j 1 : Fin 1024).val % 128, by have : (j 2 : Fin 512).val < 512 := (j 2 : Fin 512).isLt; omega⟩
      ⟨(j 2 : Fin 512).val % 128, Nat.mod_lt _ (by decide)⟩)

/-- A head's rows of a sub-block's result, at an index. -/
theorem store_apply {F : FTy → Type} [FloatOps F] (v : FVec F S512x128 .f32) (h : Nat) (x : Fin 1) (r d : Fin 128) :
    shapeCast S1x128x128 (truncf .bf16 (extractStridedSlice S128x128 ![128 * (h % 4), 0] v (slice_fit h)) bitsLt_bf16_f32)
      shapeCasts_S128x128_S1x128x128 (ix3 x r d) = truncf .bf16 v bitsLt_bf16_f32 (ix2 ⟨128 * (h % 4) + r.val, by omega⟩ d) := by
  pointwise

/-- A piece is its part of that function. -/
theorem piece_eq {F : FTy → Type} [FloatOps F] (x0 : FVec F S1x4x1024x128 .bf16) (k : FVec F S1x1x4096x128 .bf16) (vx : FVec F S4096x256 .bf16)
    (u h : Nat) (hu : u < 8) (hh : h < 4) (x : (gpiece x0 k vx u h).1.shape.Idx) :
    (gpiece x0 k vx u h).2 x = gblockAt x0 k vx ((gpiece x0 k vx u h).1.emb x) := by
  have hx : (x 1 : Fin 128).val < 128 := (x 1 : Fin 128).isLt
  have hx2 : (x 2 : Fin 128).val < 128 := (x 2 : Fin 128).isLt
  have e : (((gpiece x0 k vx u h).1.emb x) 1 : Fin 1024).val = 128 * (u % 8) + 1 * (x 1 : Fin 128).val := rfl
  have e' : (((gpiece x0 k vx u h).1.emb x) 2 : Fin 512).val = 128 * (h % 4) + 1 * (x 2 : Fin 128).val := rfl
  have e1 : (((gpiece x0 k vx u h).1.emb x) 1 : Fin 1024).val / 128 = u := by omega
  have ex : x = ix3 (n0 := 1) (n1 := 128) (n2 := 128) (x 0) (x 1) (x 2) := by
    funext a
    match a with
    | ⟨0, _⟩ => rfl
    | ⟨1, _⟩ => rfl
    | ⟨2, _⟩ => rfl
  refine (congrArg (gpiece x0 k vx u h).2 ex).trans ((store_apply (quot (gqAt x0 u) k vx) h (x 0) (x 1) (x 2)).trans ?_)
  unfold gblockAt
  rw [e1]
  exact congrArg (truncf .bf16 (quot (gqAt x0 u) k vx) bitsLt_bf16_f32) (congrArg₂ (ix2 (n0 := 512) (n1 := 128))
    (Fin.ext (show 128 * (h % 4) + (x 1 : Fin 128).val
      = 128 * ((((gpiece x0 k vx u h).1.emb x) 2 : Fin 512).val / 128) + (((gpiece x0 k vx u h).1.emb x) 1 : Fin 1024).val % 128 by omega))
    (Fin.ext (show (x 2 : Fin 128).val = (((gpiece x0 k vx u h).1.emb x) 2 : Fin 512).val % 128 by omega)))

/-- The stores of the first `n` sub-blocks are those of their heads. -/
theorem mem_gstores {F : FTy → Type} [FloatOps F] (x0 : FVec F S1x4x1024x128 .bf16) (k : FVec F S1x1x4096x128 .bf16) (vx : FVec F S4096x256 .bf16)
    (p : View.Piece (Elt F) S1x1024x512 .bf16) (n : Nat) : p ∈ gstores x0 k vx n ↔ ∃ u < n, ∃ h < 4, p = gpiece x0 k vx u h := by
  induction n with
  | zero => simp [gstores]
  | succ n ih =>
    simp only [gstores, gpieces, List.mem_cons, ih]
    constructor
    · rintro (rfl | rfl | rfl | rfl | ⟨u, hu, h, hh, rfl⟩)
      · exact ⟨n, by omega, 3, by omega, rfl⟩
      · exact ⟨n, by omega, 2, by omega, rfl⟩
      · exact ⟨n, by omega, 1, by omega, rfl⟩
      · exact ⟨n, by omega, 0, by omega, rfl⟩
      · exact ⟨u, by omega, h, hh, rfl⟩
    · rintro ⟨u, hu, h, hh, rfl⟩
      by_cases hn : u = n
      · subst hn
        have : h = 3 ∨ h = 2 ∨ h = 1 ∨ h = 0 := by omega
        rcases this with rfl | rfl | rfl | rfl <;> simp
      · exact Or.inr (Or.inr (Or.inr (Or.inr ⟨u, by omega, h, hh, rfl⟩)))

/-- The thirty-two stores leave that function. -/
theorem canon_pieces {F : FTy → Type} [FloatOps F] (x0 : FVec F S1x4x1024x128 .bf16) (k : FVec F S1x1x4096x128 .bf16) (vx : FVec F S4096x256 .bf16) :
    View.canon (gstores x0 k vx 8) = gblockAt x0 k vx := by
  funext y
  refine View.canon_apply_of_pieces (Val := Elt F) (e := .bf16) (gblockAt x0 k vx) _ (fun p hp x => ?_) y ?_
  · obtain ⟨u, hu, h, hh, rfl⟩ := (mem_gstores x0 k vx p 8).mp hp
    exact piece_eq x0 k vx u h hu hh x
  · have h0 : (y 0 : Fin 1).val < 1 := (y 0 : Fin 1).isLt
    have h1 : (y 1 : Fin 1024).val < 1024 := (y 1 : Fin 1024).isLt
    have h2 : (y 2 : Fin 512).val < 512 := (y 2 : Fin 512).isLt
    refine ⟨gpiece x0 k vx ((y 1 : Fin 1024).val / 128) ((y 2 : Fin 512).val / 128),
      (mem_gstores x0 k vx _ 8).mpr ⟨_, by omega, _, by omega, rfl⟩, ?_⟩
    rw [gpiece, Rect.mem_set_unit]
    intro a
    match a with
    | ⟨0, _⟩ => exact ⟨Nat.zero_le _, by show (y 0 : Fin 1).val < 0 + 1; omega⟩
    | ⟨1, _⟩ => show 128 * ((y 1 : Fin 1024).val / 128 % 8) ≤ (y 1 : Fin 1024).val ∧ (y 1 : Fin 1024).val < 128 * ((y 1 : Fin 1024).val / 128 % 8) + 128; omega
    | ⟨2, _⟩ => show 128 * ((y 2 : Fin 512).val / 128 % 4) ≤ (y 2 : Fin 512).val ∧ (y 2 : Fin 512).val < 128 * ((y 2 : Fin 512).val / 128 % 4) + 128; omega

end Cert.GqaPoint
-- ==== Proof.GqaRow.lean ====
/-
  Grouped-query attention, written once more without tiles: four heads share a group's keys and values.
-/
module

public import proofs.«01_k».proof.Proof.Soft

@[expose] public section

noncomputable section

namespace Cert.GqaRow

open Idealize.ShloMosaic Cert.Soft

/-- The group of a head. -/
abbrev grp (h : Fin 8) : Fin 2 := ⟨h.val / 4, by omega⟩

/-- Query `i`'s scores in batch `b`, head `h`, as real numbers, by the key's number. -/
def rowS (Q : Fin 4 → Fin 8 → Fin 4096 → Fin 128 → EReal) (K : Fin 4 → Fin 2 → Fin 4096 → Fin 128 → EReal)
    (b : Fin 4) (h : Fin 8) (i : Fin 4096) : ℕ → ℝ := fun j =>
  if hj : j < 4096 then (∑ x : Fin 128, Q b h i x * K b (grp h) ⟨j, hj⟩ x).toReal else 0

/-- Query `i`'s result: the shares' sum of the group's values. -/
def rowOut (Q : Fin 4 → Fin 8 → Fin 4096 → Fin 128 → EReal) (K V : Fin 4 → Fin 2 → Fin 4096 → Fin 128 → EReal)
    (b : Fin 4) (h : Fin 8) (i : Fin 4096) (d : Fin 128) : EReal :=
  ∑ j : Fin 4096, ((share (rowS Q K b h i) 4096 j.val : ℝ) : EReal) * V b (grp h) j d

/-- If queries and keys are real, a score is the row's real score. -/
theorem rowS_eq (Q : Fin 4 → Fin 8 → Fin 4096 → Fin 128 → EReal) (K : Fin 4 → Fin 2 → Fin 4096 → Fin 128 → EReal)
    (hQ : ∀ b h i x, IsReal (Q b h i x)) (hK : ∀ b g i x, IsReal (K b g i x)) (b : Fin 4) (h : Fin 8) (i j : Fin 4096) :
    ∑ x : Fin 128, Q b h i x * K b (grp h) j x = ((rowS Q K b h i j.val : ℝ) : EReal) := by
  have hr : IsReal (∑ x : Fin 128, Q b h i x * K b (grp h) j x) := IsReal.sum _ _ fun x _ => (hQ b h i x).mul (hK b (grp h) j x)
  rw [rowS, dif_pos j.isLt]
  exact hr.eq

end Cert.GqaRow
-- ==== Proof.GqaArray.lean ====
/-
  What the grouped-query attention kernel's seven result arrays hold: each grid point's blocks, then the whole arrays.
-/
module

public import proofs.«01_k».proof.Proof.Gen.GqaIdeal.Value
public import proofs.«01_k».proof.Proof.GqaBlockA
public import proofs.«01_k».proof.Proof.GqaBlockB
public import proofs.«01_k».proof.Proof.GqaPoint
public import proofs.«01_k».proof.Proof.GqaRow
public import Idealize.ShloMosaic.Lib.Pipeline.ValueKit
public import Idealize.ShloMosaic.Lib.Pipeline.ReadBack

@[expose] public section

noncomputable section

namespace Cert.GqaArray

open Idealize.ShloMosaic Idealize.ShloMosaic.TcCoe Idealize.SL.Sem Cert.GqaIdeal Cert.GqaIdeal.Gen Cert.GqaIdeal.Value
open Cert.AttnStep Cert.GqaStep Cert.GqaRow Cert.Soft Cert.GqaPoint Cert.GqaBlock

variable {F : FTy → Type} [FloatOps F]
variable (m : (ℓ : Loc nD τ sig) → Buf (Elt F) ℓ) (c : Dev nD)

/-- The queries' block of a point. -/
theorem index0 : ∀ t : Fin cfg0.N, win0_0.index t = ![t.val / 8, t.val / 4 % 2, t.val % 4, 0] :=
  (by decide +kernel : ∀ t : Fin grid0.N, win0_0.index t = ![t.val / 8, t.val / 4 % 2, t.val % 4, 0])
/-- The keys' block of a point. -/
theorem index1 : ∀ t : Fin cfg0.N, win0_1.index t = ![t.val / 8, t.val / 4 % 2, 0, 0] :=
  (by decide +kernel : ∀ t : Fin grid0.N, win0_1.index t = ![t.val / 8, t.val / 4 % 2, 0, 0])
/-- The values' block of a point. -/
theorem index2 : ∀ t : Fin cfg0.N, win0_2.index t = ![t.val / 8, t.val / 4 % 2, 0, 0] :=
  (by decide +kernel : ∀ t : Fin grid0.N, win0_2.index t = ![t.val / 8, t.val / 4 % 2, 0, 0])
/-- The result's block of a point. -/
theorem index9 : ∀ t : Fin cfg0.N, win0_9.index t = ![t.val / 8, t.val % 4, t.val / 4 % 2] :=
  (by decide +kernel : ∀ t : Fin grid0.N, win0_9.index t = ![t.val / 8, t.val % 4, t.val / 4 % 2])
/-- The first rounded weight's block of a point. -/
theorem index10 : ∀ t : Fin cfg0.N, win0_10.index t = ![t.val, 0] :=
  (by decide +kernel : ∀ t : Fin grid0.N, win0_10.index t = ![t.val, 0])
/-- The second rounded weight's block of a point. -/
theorem index11 : ∀ t : Fin cfg0.N, win0_11.index t = ![t.val, 0] :=
  (by decide +kernel : ∀ t : Fin grid0.N, win0_11.index t = ![t.val, 0])
/-- The third rounded weight's block of a point. -/
theorem index12 : ∀ t : Fin cfg0.N, win0_12.index t = ![t.val, 0] :=
  (by decide +kernel : ∀ t : Fin grid0.N, win0_12.index t = ![t.val, 0])
/-- The fourth rounded weight's block of a point. -/
theorem index13 : ∀ t : Fin cfg0.N, win0_13.index t = ![t.val, 0] :=
  (by decide +kernel : ∀ t : Fin grid0.N, win0_13.index t = ![t.val, 0])
/-- The fifth rounded weight's block of a point. -/
theorem index14 : ∀ t : Fin cfg0.N, win0_14.index t = ![t.val, 0] :=
  (by decide +kernel : ∀ t : Fin grid0.N, win0_14.index t = ![t.val, 0])
/-- The sixth rounded weight's block of a point. -/
theorem index15 : ∀ t : Fin cfg0.N, win0_15.index t = ![t.val, 0] :=
  (by decide +kernel : ∀ t : Fin grid0.N, win0_15.index t = ![t.val, 0])

/-- Zero offsets. -/
theorem hz2 : (![0, 0] : Fin 2 → Nat) = fun _ => 0 := funext fun a => by fin_cases a <;> rfl

/-- There are 32 points. -/
theorem lt32 (t : Fin cfg0.N) : t.val < 32 := lt_of_lt_of_eq t.isLt N_0

/-- A point's queries. -/
theorem iblk0 (t : Fin cfg0.N) (h : Fin 4) (r : Fin 1024) (x : Fin 128) :
    (iblk m c 0 t : Vec F S1x4x1024x128 .bf16) (ix4 0 h r x)
      = (m ((c : Thread nD τ).loc main_arg0) : Vec F S4x8x4096x128 .bf16) (ix4 ⟨t.val / 8, by have := lt32 t; omega⟩
          ⟨4 * (t.val / 4 % 2) + h.val, by omega⟩ ⟨1024 * (t.val % 4) + r.val, by omega⟩ x) := by
  unfold iblk
  rw [View.read_apply]
  show (V m c main_arg0 : Vec F S4x8x4096x128 .bf16) _ = _
  rw [V_main_arg0]
  refine congrArg _ (funext fun a => Fin.ext ?_)
  match a with
  | ⟨0, _⟩ => show win0_0.index t 0 * 1 + 1 * 0 = t.val / 8; rw [index0]; show t.val / 8 * 1 + 1 * 0 = _; omega
  | ⟨1, _⟩ => show win0_0.index t 1 * 4 + 1 * h.val = 4 * (t.val / 4 % 2) + h.val; rw [index0]; show t.val / 4 % 2 * 4 + 1 * h.val = _; omega
  | ⟨2, _⟩ => show win0_0.index t 2 * 1024 + 1 * r.val = 1024 * (t.val % 4) + r.val; rw [index0]; show t.val % 4 * 1024 + 1 * r.val = _; omega
  | ⟨3, _⟩ => show win0_0.index t 3 * 128 + 1 * x.val = x.val; rw [index0]; show 0 * 128 + 1 * x.val = _; omega

/-- A point's keys. -/
theorem iblk1 (t : Fin cfg0.N) (j : Fin 4096) (x : Fin 128) :
    (iblk m c 1 t : Vec F S1x1x4096x128 .bf16) (ix4 0 0 j x)
      = (m ((c : Thread nD τ).loc main_arg1) : Vec F S4x2x4096x128 .bf16) (ix4 ⟨t.val / 8, by have := lt32 t; omega⟩ ⟨t.val / 4 % 2, by omega⟩ j x) := by
  unfold iblk
  rw [View.read_apply]
  show (V m c main_arg1 : Vec F S4x2x4096x128 .bf16) _ = _
  rw [V_main_arg1]
  refine congrArg _ (funext fun a => Fin.ext ?_)
  match a with
  | ⟨0, _⟩ => show win0_1.index t 0 * 1 + 1 * 0 = t.val / 8; rw [index1]; show t.val / 8 * 1 + 1 * 0 = _; omega
  | ⟨1, _⟩ => show win0_1.index t 1 * 1 + 1 * 0 = t.val / 4 % 2; rw [index1]; show t.val / 4 % 2 * 1 + 1 * 0 = _; omega
  | ⟨2, _⟩ => show win0_1.index t 2 * 4096 + 1 * j.val = j.val; rw [index1]; show 0 * 4096 + 1 * j.val = _; omega
  | ⟨3, _⟩ => show win0_1.index t 3 * 128 + 1 * x.val = x.val; rw [index1]; show 0 * 128 + 1 * x.val = _; omega

/-- A point's values. -/
theorem iblk2 (t : Fin cfg0.N) (j : Fin 4096) (x : Fin 128) :
    (iblk m c 2 t : Vec F S1x1x4096x128 .bf16) (ix4 0 0 j x)
      = (m ((c : Thread nD τ).loc main_arg2) : Vec F S4x2x4096x128 .bf16) (ix4 ⟨t.val / 8, by have := lt32 t; omega⟩ ⟨t.val / 4 % 2, by omega⟩ j x) := by
  unfold iblk
  rw [View.read_apply]
  show (V m c main_arg2 : Vec F S4x2x4096x128 .bf16) _ = _
  rw [V_main_arg2]
  refine congrArg _ (funext fun a => Fin.ext ?_)
  match a with
  | ⟨0, _⟩ => show win0_2.index t 0 * 1 + 1 * 0 = t.val / 8; rw [index2]; show t.val / 8 * 1 + 1 * 0 = _; omega
  | ⟨1, _⟩ => show win0_2.index t 1 * 1 + 1 * 0 = t.val / 4 % 2; rw [index2]; show t.val / 4 % 2 * 1 + 1 * 0 = _; omega
  | ⟨2, _⟩ => show win0_2.index t 2 * 4096 + 1 * j.val = j.val; rw [index2]; show 0 * 4096 + 1 * j.val = _; omega
  | ⟨3, _⟩ => show win0_2.index t 3 * 128 + 1 * x.val = x.val; rw [index2]; show 0 * 128 + 1 * x.val = _; omega

/-- Two points of one group have the same values. -/
theorem iblk2_congr (t t' : Fin cfg0.N) (h : t.val / 4 = t'.val / 4) : (iblk m c 2 t : Vec F S1x1x4096x128 .bf16) = iblk m c 2 t' := by
  funext y
  have e : y = ix4 (n0 := 1) (n1 := 1) (n2 := 4096) (n3 := 128) 0 0 (y 2) (y 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  rw [e]
  refine (iblk2 m c t (y 2) (y 3)).trans (Eq.trans ?_ (iblk2 m c t' (y 2) (y 3)).symm)
  have e1 : t.val / 8 = t'.val / 8 := by omega
  have e2 : t.val / 4 % 2 = t'.val / 4 % 2 := by omega
  exact congrArg₂ (fun (a : Fin 4) (b : Fin 2) => (m ((c : Thread nD τ).loc main_arg2) : Vec F S4x2x4096x128 .bf16) (ix4 a b (y 2) (y 3))) (Fin.ext e1) (Fin.ext e2)

/-- The scratch after a point: the values of its group and the ones, stored at the group's first point and kept. -/
theorem scratch_eq (t : Fin cfg0.N) : (outsAt0 m c t.val t.isLt).2.2.2.2.2.2.2 = View.canon (scrPieces (iblk m c 2 t)) := by
  obtain ⟨n, hn⟩ := t
  induction n with
  | zero =>
    rw [outsAt0_A m c ⟨0, hn⟩ rfl]
    dsimp only
    unfold sout0_A_0
    rw [View.read_writes_junk_eq_canon]
    exact congrArg View.canon (scratch_A ..)
  | succ n ih =>
    by_cases h : (n + 1) % 4 = 0
    · rw [outsAt0_A m c ⟨n + 1, hn⟩ h]
      dsimp only
      unfold sout0_A_0
      rw [View.read_writes_junk_eq_canon]
      exact congrArg View.canon (scratch_A ..)
    · rw [outsAt0_B m c ⟨n + 1, hn⟩ h]
      dsimp only
      unfold sout0_B_0
      refine (ih (by omega)).trans ?_
      rw [iblk2_congr m c ⟨n, by omega⟩ ⟨n + 1, hn⟩ (show n / 4 = (n + 1) / 4 by omega)]

/-- The result's block after a point. -/
theorem block_eq (t : Fin cfg0.N) : (outsAt0 m c t.val t.isLt).1 = gblockAt (iblk m c 0 t) (iblk m c 1 t) (View.canon (scrPieces (iblk m c 2 t))) := by
  by_cases h : t.val % 4 = 0
  · rw [outsAt0_A m c t h]
    dsimp only
    unfold out0_A_9
    rw [View.read_writes_junk_eq_canon]
    exact (congrArg View.canon (pieces_A ..)).trans (canon_pieces ..)
  · rw [outsAt0_B m c t h]
    dsimp only
    unfold out0_B_9
    rw [View.read_writes_junk_eq_canon]
    have hs := scratch_eq m c ⟨t.val - 1, Nat.lt_of_le_of_lt (Nat.sub_le _ _) t.isLt⟩
    rw [iblk2_congr m c _ t (show (t.val - 1) / 4 = t.val / 4 by omega)] at hs
    rw [← hs]
    exact (congrArg View.canon (pieces_B ..)).trans (canon_pieces ..)

/-- The first rounded weight's block after a point. -/
theorem cast10_eq (t : Fin cfg0.N) : (outsAt0 m c t.val t.isLt).2.1 = truncf .bf16 (iblk m c 3 t : Vec F S176x2048 .f32) bitsLt_bf16_f32 := by
  by_cases h : t.val % 4 = 0
  · rw [outsAt0_A m c t h]
    dsimp only
    unfold out0_A_10
    rw [View.read_writes_junk_eq_canon]
    exact (congrArg View.canon (cast1_A ..)).trans (View.canon_unit_zero (S := S176x2048) hz2 _ _)
  · rw [outsAt0_B m c t h]
    dsimp only
    unfold out0_B_10
    rw [View.read_writes_junk_eq_canon]
    exact (congrArg View.canon (cast1_B ..)).trans (View.canon_unit_zero (S := S176x2048) hz2 _ _)

/-- The second rounded weight's block after a point. -/
theorem cast11_eq (t : Fin cfg0.N) : (outsAt0 m c t.val t.isLt).2.2.1 = truncf .bf16 (iblk m c 4 t : Vec F S64x2048 .f32) bitsLt_bf16_f32 := by
  by_cases h : t.val % 4 = 0
  · rw [outsAt0_A m c t h]
    dsimp only
    unfold out0_A_11
    rw [View.read_writes_junk_eq_canon]
    exact (congrArg View.canon (cast2_A ..)).trans (View.canon_unit_zero (S := S64x2048) hz2 _ _)
  · rw [outsAt0_B m c t h]
    dsimp only
    unfold out0_B_11
    rw [View.read_writes_junk_eq_canon]
    exact (congrArg View.canon (cast2_B ..)).trans (View.canon_unit_zero (S := S64x2048) hz2 _ _)

/-- The third rounded weight's block after a point. -/
theorem cast12_eq (t : Fin cfg0.N) : (outsAt0 m c t.val t.isLt).2.2.2.1 = truncf .bf16 (iblk m c 5 t : Vec F S32x2048 .f32) bitsLt_bf16_f32 := by
  by_cases h : t.val % 4 = 0
  · rw [outsAt0_A m c t h]
    dsimp only
    unfold out0_A_12
    rw [View.read_writes_junk_eq_canon]
    exact (congrArg View.canon (cast3_A ..)).trans (View.canon_unit_zero (S := S32x2048) hz2 _ _)
  · rw [outsAt0_B m c t h]
    dsimp only
    unfold out0_B_12
    rw [View.read_writes_junk_eq_canon]
    exact (congrArg View.canon (cast3_B ..)).trans (View.canon_unit_zero (S := S32x2048) hz2 _ _)

/-- The fourth rounded weight's block after a point. -/
theorem cast13_eq (t : Fin cfg0.N) : (outsAt0 m c t.val t.isLt).2.2.2.2.1 = truncf .bf16 (iblk m c 6 t : Vec F S32x2048 .f32) bitsLt_bf16_f32 := by
  by_cases h : t.val % 4 = 0
  · rw [outsAt0_A m c t h]
    dsimp only
    unfold out0_A_13
    rw [View.read_writes_junk_eq_canon]
    exact (congrArg View.canon (cast4_A ..)).trans (View.canon_unit_zero (S := S32x2048) hz2 _ _)
  · rw [outsAt0_B m c t h]
    dsimp only
    unfold out0_B_13
    rw [View.read_writes_junk_eq_canon]
    exact (congrArg View.canon (cast4_B ..)).trans (View.canon_unit_zero (S := S32x2048) hz2 _ _)

/-- The fifth rounded weight's block after a point. -/
theorem cast14_eq (t : Fin cfg0.N) : (outsAt0 m c t.val t.isLt).2.2.2.2.2.1 = truncf .bf16 (iblk m c 7 t : Vec F S64x512 .f32) bitsLt_bf16_f32 := by
  by_cases h : t.val % 4 = 0
  · rw [outsAt0_A m c t h]
    dsimp only
    unfold out0_A_14
    rw [View.read_writes_junk_eq_canon]
    exact (congrArg View.canon (cast5_A ..)).trans (View.canon_unit_zero (S := S64x512) hz2 _ _)
  · rw [outsAt0_B m c t h]
    dsimp only
    unfold out0_B_14
    rw [View.read_writes_junk_eq_canon]
    exact (congrArg View.canon (cast5_B ..)).trans (View.canon_unit_zero (S := S64x512) hz2 _ _)

/-- The sixth rounded weight's block after a point. -/
theorem cast15_eq (t : Fin cfg0.N) : (outsAt0 m c t.val t.isLt).2.2.2.2.2.2.1 = truncf .bf16 (iblk m c 8 t : Vec F S16x2048 .f32) bitsLt_bf16_f32 := by
  by_cases h : t.val % 4 = 0
  · rw [outsAt0_A m c t h]
    dsimp only
    unfold out0_A_15
    rw [View.read_writes_junk_eq_canon]
    exact (congrArg View.canon (cast6_A ..)).trans (View.canon_unit_zero (S := S16x2048) hz2 _ _)
  · rw [outsAt0_B m c t h]
    dsimp only
    unfold out0_B_15
    rw [View.read_writes_junk_eq_canon]
    exact (congrArg View.canon (cast6_B ..)).trans (View.canon_unit_zero (S := S16x2048) hz2 _ _)

/-- The first rounded weight. -/
theorem arr10 : (dats m 0 c).arrAt 10 cfg0.N = truncf .bf16 (m ((c : Thread nD τ).loc main_arg3) : Vec F S5632x2048 .f32) bitsLt_bf16_f32 :=
  (dats m 0 c).arrAt_eq_of_cover 10 (truncf .bf16 (m ((c : Thread nD τ).loc main_arg3) : Vec F S5632x2048 .f32) bitsLt_bf16_f32)
    (fun t _ => by
      rw [flushed10, cast10_eq]
      rfl)
    (fun i => by
      have h0 : (i 0 : Nat) < 5632 := (i 0).isLt
      have h1 : (i 1 : Nat) < 2048 := (i 1).isLt
      refine ⟨⟨(i 0 : Nat) / 176, lt_of_lt_of_eq (show (i 0 : Nat) / 176 < 32 by omega) N_0.symm⟩, flush0_10 _, ?_⟩
      mem_blk [index10]
      dsimp
      omega)

/-- The second rounded weight. -/
theorem arr11 : (dats m 0 c).arrAt 11 cfg0.N = truncf .bf16 (m ((c : Thread nD τ).loc main_arg4) : Vec F S2048x2048 .f32) bitsLt_bf16_f32 :=
  (dats m 0 c).arrAt_eq_of_cover 11 (truncf .bf16 (m ((c : Thread nD τ).loc main_arg4) : Vec F S2048x2048 .f32) bitsLt_bf16_f32)
    (fun t _ => by
      rw [flushed11, cast11_eq]
      rfl)
    (fun i => by
      have h0 : (i 0 : Nat) < 2048 := (i 0).isLt
      have h1 : (i 1 : Nat) < 2048 := (i 1).isLt
      refine ⟨⟨(i 0 : Nat) / 64, lt_of_lt_of_eq (show (i 0 : Nat) / 64 < 32 by omega) N_0.symm⟩, flush0_11 _, ?_⟩
      mem_blk [index11]
      dsimp
      omega)

/-- The third rounded weight. -/
theorem arr12 : (dats m 0 c).arrAt 12 cfg0.N = truncf .bf16 (m ((c : Thread nD τ).loc main_arg5) : Vec F S1024x2048 .f32) bitsLt_bf16_f32 :=
  (dats m 0 c).arrAt_eq_of_cover 12 (truncf .bf16 (m ((c : Thread nD τ).loc main_arg5) : Vec F S1024x2048 .f32) bitsLt_bf16_f32)
    (fun t _ => by
      rw [flushed12, cast12_eq]
      rfl)
    (fun i => by
      have h0 : (i 0 : Nat) < 1024 := (i 0).isLt
      have h1 : (i 1 : Nat) < 2048 := (i 1).isLt
      refine ⟨⟨(i 0 : Nat) / 32, lt_of_lt_of_eq (show (i 0 : Nat) / 32 < 32 by omega) N_0.symm⟩, flush0_12 _, ?_⟩
      mem_blk [index12]
      dsimp
      omega)

/-- The fourth rounded weight. -/
theorem arr13 : (dats m 0 c).arrAt 13 cfg0.N = truncf .bf16 (m ((c : Thread nD τ).loc main_arg6) : Vec F S1024x2048 .f32) bitsLt_bf16_f32 :=
  (dats m 0 c).arrAt_eq_of_cover 13 (truncf .bf16 (m ((c : Thread nD τ).loc main_arg6) : Vec F S1024x2048 .f32) bitsLt_bf16_f32)
    (fun t _ => by
      rw [flushed13, cast13_eq]
      rfl)
    (fun i => by
      have h0 : (i 0 : Nat) < 1024 := (i 0).isLt
      have h1 : (i 1 : Nat) < 2048 := (i 1).isLt
      refine ⟨⟨(i 0 : Nat) / 32, lt_of_lt_of_eq (show (i 0 : Nat) / 32 < 32 by omega) N_0.symm⟩, flush0_13 _, ?_⟩
      mem_blk [index13]
      dsimp
      omega)

/-- The fifth rounded weight. -/
theorem arr14 : (dats m 0 c).arrAt 14 cfg0.N = truncf .bf16 (m ((c : Thread nD τ).loc main_arg7) : Vec F S2048x512 .f32) bitsLt_bf16_f32 :=
  (dats m 0 c).arrAt_eq_of_cover 14 (truncf .bf16 (m ((c : Thread nD τ).loc main_arg7) : Vec F S2048x512 .f32) bitsLt_bf16_f32)
    (fun t _ => by
      rw [flushed14, cast14_eq]
      rfl)
    (fun i => by
      have h0 : (i 0 : Nat) < 2048 := (i 0).isLt
      have h1 : (i 1 : Nat) < 512 := (i 1).isLt
      refine ⟨⟨(i 0 : Nat) / 64, lt_of_lt_of_eq (show (i 0 : Nat) / 64 < 32 by omega) N_0.symm⟩, flush0_14 _, ?_⟩
      mem_blk [index14]
      dsimp
      omega)

/-- The sixth rounded weight. -/
theorem arr15 : (dats m 0 c).arrAt 15 cfg0.N = truncf .bf16 (m ((c : Thread nD τ).loc main_arg8) : Vec F S512x2048 .f32) bitsLt_bf16_f32 :=
  (dats m 0 c).arrAt_eq_of_cover 15 (truncf .bf16 (m ((c : Thread nD τ).loc main_arg8) : Vec F S512x2048 .f32) bitsLt_bf16_f32)
    (fun t _ => by
      rw [flushed15, cast15_eq]
      rfl)
    (fun i => by
      have h0 : (i 0 : Nat) < 512 := (i 0).isLt
      have h1 : (i 1 : Nat) < 2048 := (i 1).isLt
      refine ⟨⟨(i 0 : Nat) / 16, lt_of_lt_of_eq (show (i 0 : Nat) / 16 < 32 by omega) N_0.symm⟩, flush0_15 _, ?_⟩
      mem_blk [index15]
      dsimp
      omega)

variable (mi : (ℓ : Loc nD τ sig) → Buf (Elt Ideal) ℓ)

/-- The queries by their four coordinates. -/
def Q : Fin 4 → Fin 8 → Fin 4096 → Fin 128 → EReal := fun b g i x => (mi ((c : Thread nD τ).loc main_arg0) : Vec Ideal S4x8x4096x128 .bf16) (ix4 b g i x)
/-- The keys by their four coordinates. -/
def K : Fin 4 → Fin 2 → Fin 4096 → Fin 128 → EReal := fun b g i x => (mi ((c : Thread nD τ).loc main_arg1) : Vec Ideal S4x2x4096x128 .bf16) (ix4 b g i x)
/-- The values by their four coordinates. -/
def W : Fin 4 → Fin 2 → Fin 4096 → Fin 128 → EReal := fun b g i x => (mi ((c : Thread nD τ).loc main_arg2) : Vec Ideal S4x2x4096x128 .bf16) (ix4 b g i x)

/-- The whole result: row `i`, column `128 h + d` is head `h`'s result. -/
def whole : Vec Ideal S4x4096x1024 .bf16 := fun y =>
  rowOut (Q c mi) (K c mi) (W c mi) (y 0) ⟨(y 2 : Fin 1024).val / 128, by have : (y 2 : Fin 1024).val < 1024 := (y 2 : Fin 1024).isLt; omega⟩ (y 1) ⟨(y 2 : Fin 1024).val % 128, by omega⟩

/-- A point's block at an index. -/
theorem block_apply (hq : ∀ b g i x, IsReal (Q c mi b g i x)) (hk : ∀ b g i x, IsReal (K c mi b g i x)) (t : Fin cfg0.N) (y : S1x1024x512.Idx) :
    gblockAt (F := Ideal) (iblk mi c 0 t) (iblk mi c 1 t) (View.canon (Val := Elt Ideal) (scrPieces (iblk mi c 2 t))) y
      = rowOut (Q c mi) (K c mi) (W c mi) ⟨t.val / 8, by have := lt32 t; omega⟩
          ⟨4 * (t.val / 4 % 2) + (y 2 : Fin 512).val / 128, by have : (y 2 : Fin 512).val < 512 := (y 2 : Fin 512).isLt; omega⟩
          ⟨1024 * (t.val % 4) + (y 1 : Fin 1024).val, by have : (y 1 : Fin 1024).val < 1024 := (y 1 : Fin 1024).isLt; omega⟩
          ⟨(y 2 : Fin 512).val % 128, Nat.mod_lt _ (by decide)⟩ := by
  have h1 : (y 1 : Fin 1024).val < 1024 := (y 1 : Fin 1024).isLt
  have h2 : (y 2 : Fin 512).val < 512 := (y 2 : Fin 512).isLt
  have ht := lt32 t
  unfold gblockAt
  refine (quot_apply (iblk mi c 0 t) (iblk mi c 1 t) (View.canon (Val := Elt Ideal) (scrPieces (iblk mi c 2 t)))
    (fun h i => rowS (Q c mi) (K c mi) ⟨t.val / 8, by omega⟩ ⟨4 * (t.val / 4 % 2) + h.val, by omega⟩ ⟨1024 * (t.val % 4) + i.val, by omega⟩) ?_ ?_
    ((y 1 : Fin 1024).val / 128) (by omega) _ _).trans ?_
  · intro h i j
    rw [← rowS_eq _ _ hq hk]
    have eg : (⟨t.val / 4 % 2, by omega⟩ : Fin 2) = grp ⟨4 * (t.val / 4 % 2) + h.val, by omega⟩ :=
      Fin.ext (show t.val / 4 % 2 = (4 * (t.val / 4 % 2) + h.val) / 4 by omega)
    exact Finset.sum_congr rfl fun x _ => congrArg₂ (· * ·) (iblk0 mi c t h i x)
      ((iblk1 mi c t j x).trans (congrArg (fun g => K c mi ⟨t.val / 8, by omega⟩ g j x) eg))
  · intro j l hl
    exact (AttnPoint.scratch_apply _ _ _).trans (dif_neg (by omega))
  · unfold rowOut
    refine Finset.sum_congr rfl fun j _ => ?_
    have eh : (⟨4 * (t.val / 4 % 2) + (128 * ((y 2 : Fin 512).val / 128) + (y 1 : Fin 1024).val % 128) / 128, by omega⟩ : Fin 8)
        = ⟨4 * (t.val / 4 % 2) + (y 2 : Fin 512).val / 128, by omega⟩ := Fin.ext (by dsimp only; omega)
    have ei : (⟨1024 * (t.val % 4) + (128 * ((y 1 : Fin 1024).val / 128) + (128 * ((y 2 : Fin 512).val / 128) + (y 1 : Fin 1024).val % 128) % 128), by omega⟩ : Fin 4096)
        = ⟨1024 * (t.val % 4) + (y 1 : Fin 1024).val, by omega⟩ := Fin.ext (by dsimp only; omega)
    have eg : (⟨t.val / 4 % 2, by omega⟩ : Fin 2) = grp ⟨4 * (t.val / 4 % 2) + (y 2 : Fin 512).val / 128, by omega⟩ :=
      Fin.ext (show t.val / 4 % 2 = (4 * (t.val / 4 % 2) + (y 2 : Fin 512).val / 128) / 4 by omega)
    refine congrArg₂ (· * ·) ?_ ?_
    · exact congrArg₂ (fun (h : Fin 8) (i : Fin 4096) => ((share (rowS (Q c mi) (K c mi) ⟨t.val / 8, by omega⟩ h i) 4096 j.val : ℝ) : EReal)) eh ei
    · refine (AttnPoint.scratch_apply _ _ _).trans ((dif_pos (Nat.mod_lt _ (by decide))).trans ((iblk2 mi c t j _).trans ?_))
      exact congrArg (fun g => W c mi ⟨t.val / 8, by omega⟩ g j ⟨(y 2 : Fin 512).val % 128, Nat.mod_lt _ (by decide)⟩) eg

/-- The result array. -/
theorem arr9 (hq : ∀ b g i x, IsReal (Q c mi b g i x)) (hk : ∀ b g i x, IsReal (K c mi b g i x)) :
    (dats mi 0 c).arrAt 9 cfg0.N = whole c mi :=
  (dats mi 0 c).arrAt_eq_of_cover 9 (whole c mi)
    (fun t _ => by
      rw [flushed9, block_eq]
      funext y
      rw [View.read_apply]
      refine (block_apply c mi hq hk t y).trans ?_
      have h32 := lt32 t
      have y0 : (y 0 : Fin 1).val < 1 := (y 0 : Fin 1).isLt
      have y1 : (y 1 : Fin 1024).val < 1024 := (y 1 : Fin 1024).isLt
      have y2 : (y 2 : Fin 512).val < 512 := (y 2 : Fin 512).isLt
      have e : ((cfg0.win 9).blk t).view.emb y = ix3 (n0 := 4) (n1 := 4096) (n2 := 1024) ⟨t.val / 8, by omega⟩
          ⟨1024 * (t.val % 4) + (y 1 : Fin 1024).val, by omega⟩ ⟨512 * (t.val / 4 % 2) + (y 2 : Fin 512).val, by omega⟩ := by
        funext a
        apply Fin.ext
        match a with
        | ⟨0, _⟩ => show win0_9.index t 0 * 1 + 1 * (y 0 : Fin 1).val = t.val / 8; rw [index9]; show t.val / 8 * 1 + 1 * (y 0 : Fin 1).val = _; omega
        | ⟨1, _⟩ => show win0_9.index t 1 * 1024 + 1 * (y 1 : Fin 1024).val = _; rw [index9]; show t.val % 4 * 1024 + 1 * (y 1 : Fin 1024).val = 1024 * (t.val % 4) + (y 1 : Fin 1024).val; omega
        | ⟨2, _⟩ => show win0_9.index t 2 * 512 + 1 * (y 2 : Fin 512).val = _; rw [index9]; show t.val / 4 % 2 * 512 + 1 * (y 2 : Fin 512).val = 512 * (t.val / 4 % 2) + (y 2 : Fin 512).val; omega
      refine Eq.trans ?_ (congrArg (whole c mi) e).symm
      show _ = rowOut (Q c mi) (K c mi) (W c mi) _ ⟨(512 * (t.val / 4 % 2) + (y 2 : Fin 512).val) / 128, _⟩ _ ⟨(512 * (t.val / 4 % 2) + (y 2 : Fin 512).val) % 128, _⟩
      exact congrArg₂ (fun (g : Fin 8) (d : Fin 128) => rowOut (Q c mi) (K c mi) (W c mi) _ g _ d) (Fin.ext (by dsimp only; omega)) (Fin.ext (by dsimp only; omega)))
    (fun i => by
      have h0 : (i 0 : Nat) < 4 := (i 0).isLt
      have h1 : (i 1 : Nat) < 4096 := (i 1).isLt
      have h2 : (i 2 : Nat) < 1024 := (i 2).isLt
      refine ⟨⟨8 * (i 0 : Nat) + 4 * ((i 2 : Nat) / 512) + (i 1 : Nat) / 1024, lt_of_lt_of_eq (by omega) N_0.symm⟩, flush0_9 _, ?_⟩
      mem_blk [index9]
      dsimp
      omega)

/-- THE RUN: from real queries and keys, the kernel's results are the whole result and the six rounded weights. -/
theorem run (ρ : Dev nD → PrngReg) (hq : ∀ c b g i x, IsReal (Q c mi b g i x)) (hk : ∀ c b g i x, IsReal (K c mi b g i x)) :
    θ_run defs (onTc (τ := τ) (main (F := Ideal))) ⟨mi, fun _ => 0, ρ⟩ fun r => ∀ c : Dev nD,
      r.2.mem ((c : Thread nD τ).loc main_v0_0) = whole c mi
      ∧ r.2.mem ((c : Thread nD τ).loc main_v0_1) = truncf (F := Ideal) .bf16 (mi ((c : Thread nD τ).loc main_arg3) : Vec Ideal S5632x2048 .f32) bitsLt_bf16_f32
      ∧ r.2.mem ((c : Thread nD τ).loc main_v0_2) = truncf (F := Ideal) .bf16 (mi ((c : Thread nD τ).loc main_arg4) : Vec Ideal S2048x2048 .f32) bitsLt_bf16_f32
      ∧ r.2.mem ((c : Thread nD τ).loc main_v0_3) = truncf (F := Ideal) .bf16 (mi ((c : Thread nD τ).loc main_arg5) : Vec Ideal S1024x2048 .f32) bitsLt_bf16_f32
      ∧ r.2.mem ((c : Thread nD τ).loc main_v0_4) = truncf (F := Ideal) .bf16 (mi ((c : Thread nD τ).loc main_arg6) : Vec Ideal S1024x2048 .f32) bitsLt_bf16_f32
      ∧ r.2.mem ((c : Thread nD τ).loc main_v0_5) = truncf (F := Ideal) .bf16 (mi ((c : Thread nD τ).loc main_arg7) : Vec Ideal S2048x512 .f32) bitsLt_bf16_f32
      ∧ r.2.mem ((c : Thread nD τ).loc main_v0_6) = truncf (F := Ideal) .bf16 (mi ((c : Thread nD τ).loc main_arg8) : Vec Ideal S512x2048 .f32) bitsLt_bf16_f32
      ∧ r.2.mem ((c : Thread nD τ).loc main_arg0) = mi ((c : Thread nD τ).loc main_arg0)
      ∧ r.2.mem ((c : Thread nD τ).loc main_arg1) = mi ((c : Thread nD τ).loc main_arg1)
      ∧ r.2.mem ((c : Thread nD τ).loc main_arg2) = mi ((c : Thread nD τ).loc main_arg2)
      ∧ r.2.mem ((c : Thread nD τ).loc main_arg3) = mi ((c : Thread nD τ).loc main_arg3)
      ∧ r.2.mem ((c : Thread nD τ).loc main_arg4) = mi ((c : Thread nD τ).loc main_arg4)
      ∧ r.2.mem ((c : Thread nD τ).loc main_arg5) = mi ((c : Thread nD τ).loc main_arg5)
      ∧ r.2.mem ((c : Thread nD τ).loc main_arg6) = mi ((c : Thread nD τ).loc main_arg6)
      ∧ r.2.mem ((c : Thread nD τ).loc main_arg7) = mi ((c : Thread nD τ).loc main_arg7)
      ∧ r.2.mem ((c : Thread nD τ).loc main_arg8) = mi ((c : Thread nD τ).loc main_arg8) :=
  (θ_run defs _ _).mono (fun _ h c => by
    obtain ⟨h9, h10, h11, h12, h13, h14, h15, hk'⟩ := h c
    exact ⟨h9.trans (arr9 c mi (hq c) (hk c)), h10.trans (arr10 mi c), h11.trans (arr11 mi c), h12.trans (arr12 mi c), h13.trans (arr13 mi c),
      h14.trans (arr14 mi c), h15.trans (arr15 mi c), hk'⟩)
    (run_blocks mi ρ)

end Cert.GqaArray
-- ==== Proof.GqaRef.lean ====
/-
  What the grouped-query attention's reference computes, read at an index: the same shares' sum of the group's values.
-/
module

public import proofs.«01_k».proof.Proof.Gen.GqaRefIdeal.Read
public import proofs.«01_k».proof.Proof.GqaRow
public import proofs.«01_k».proof.Proof.RunRead
public import Idealize.ShloMosaic.Lib.Pointwise

@[expose] public section

noncomputable section

namespace Cert.GqaRef

open Idealize.ShloMosaic Cert.GqaRefIdeal Cert.GqaRefIdeal.Gen Cert.GqaRefIdeal.Read Cert.Soft Cert.GqaRow Cert.RunRead

variable (q : FVec Ideal S4x8x4096x128 .bf16) (k v : FVec Ideal S4x2x4096x128 .bf16)

/-- An array of queries as a function of its four coordinates. -/
abbrev qat (a : FVec Ideal S4x8x4096x128 .bf16) : Fin 4 → Fin 8 → Fin 4096 → Fin 128 → EReal := fun b g i x => a (ix4 b g i x)
/-- An array of keys or values as a function of its four coordinates. -/
abbrev kat (a : FVec Ideal S4x2x4096x128 .bf16) : Fin 4 → Fin 2 → Fin 4096 → Fin 128 → EReal := fun b g i x => a (ix4 b g i x)

/-- The head of a group's member. -/
abbrev hd (g : Fin 2) (h : Fin 4) : Fin 8 := ⟨4 * g.val + h.val, by omega⟩

/-- Its group. -/
theorem grp_hd (g : Fin 2) (h : Fin 4) : grp (hd g h) = g := Fin.ext (show (4 * g.val + h.val) / 4 = g.val by omega)

/-- A query read through the grouped shape. -/
theorem query_apply (b : Fin 4) (g : Fin 2) (h : Fin 4) (i : Fin 4096) (x : Fin 128) :
    val_main_v1 (F := Ideal) q (ix5 b g h i x) = q (ix4 b (hd g h) i x) := by
  rw [val_main_v1_apply, val_main_v0_apply]
  show q _ = q _
  refine congrArg q ?_
  funext a
  apply Fin.ext
  match a with
  | ⟨0, _⟩ => show ((((b.val * 2 + g.val) * 4 + h.val) * 4096 + i.val) * 128 + x.val) / 4194304 = b.val; omega
  | ⟨1, _⟩ => show ((((b.val * 2 + g.val) * 4 + h.val) * 4096 + i.val) * 128 + x.val) / 524288 % 8 = 4 * g.val + h.val; omega
  | ⟨2, _⟩ => show ((((b.val * 2 + g.val) * 4 + h.val) * 4096 + i.val) * 128 + x.val) / 128 % 4096 = i.val; omega
  | ⟨3, _⟩ => show ((((b.val * 2 + g.val) * 4 + h.val) * 4096 + i.val) * 128 + x.val) % 128 = x.val; omega

/-- The constant two's logarithm. -/
theorem log_two (i : S_.Idx) : val_main_v5 (F := Ideal) i = ((Real.log 2 : ℝ) : EReal) := by
  rw [val_main_v5_apply, val_main_cst_apply]
  show Ideal.log (Ideal.ofBits .f32 0x40000000#32) = _
  have h : Ideal.ofBits .f32 0x40000000#32 = ((2 : ℝ) : EReal) := by
    simp [Ideal.ofBits, Ideal.ieee]
    rw [← EReal.coe_mul]
    norm_num
  rw [h, Ideal.log_coe, if_neg (by norm_num)]

/-- A scaled score. -/
theorem score_apply (hq : ∀ i, IsReal (q i)) (hk : ∀ i, IsReal (k i)) (b : Fin 4) (g : Fin 2) (h : Fin 4) (i j : Fin 4096) :
    val_main_v7 (F := Ideal) q k (ix5 b g h i j) = ((rowS (qat q) (kat k) b (hd g h) i j.val : ℝ) : EReal) * ((Real.log 2 : ℝ) : EReal) := by
  rw [val_main_v7_apply, val_main_v6_apply, log_two, val_main_v4_apply]
  refine congrArg (· * ((Real.log 2 : ℝ) : EReal)) (Eq.trans ?_ (rowS_eq (qat q) (kat k) (fun _ _ _ _ => hq _) (fun _ _ _ _ => hk _) b (hd g h) i j))
  refine Finset.sum_congr rfl fun x _ => congrArg₂ (· * ·) ?_ ?_
  · refine Eq.trans (congrArg _ ?_) (query_apply q b g h i x)
    funext a
    match a with
    | ⟨0, _⟩ => rfl
    | ⟨1, _⟩ => rfl
    | ⟨2, _⟩ => rfl
    | ⟨3, _⟩ => rfl
    | ⟨4, _⟩ => rfl
  · rw [grp_hd, val_main_v2_apply]
    show k _ = k _
    refine congrArg k ?_
    funext a
    match a with
    | ⟨0, _⟩ => rfl
    | ⟨1, _⟩ => rfl
    | ⟨2, _⟩ => rfl
    | ⟨3, _⟩ => rfl

/-- The row's largest scaled score is real. -/
theorem max_real (hq : ∀ i, IsReal (q i)) (hk : ∀ i, IsReal (k i)) (b : Fin 4) (g : Fin 2) (h : Fin 4) (i : Fin 4096) :
    IsReal (val_main_v10 (F := Ideal) q k (ix4 b g h i)) := by
  have hs : ∀ j : Fin 4096, IsReal (val_main_v7 (F := Ideal) q k (ix5 b g h i j)) := fun j => by
    rw [score_apply q k hq hk]
    exact (isReal_coe _).mul (isReal_coe _)
  have h7 : val_main_v8 (F := Ideal) q k (ix4 b g h i)
      = Finset.fold max (Ideal.ofBits FTy.f32 4286578688#32) (fun j : Fin 4096 => val_main_v7 (F := Ideal) q k (ix5 b g h i j)) Finset.univ := by
    unfold val_main_v8
    generalize val_main_v7 (F := Ideal) q k = y
    pointwise [val_main_cst_0]
  have h9 : val_main_v10 (F := Ideal) q k (ix4 b g h i) = max (Ideal.ofBits FTy.f32 4286578688#32) (val_main_v8 (F := Ideal) q k (ix4 b g h i)) := by
    rw [val_main_v10_apply, val_main_v9_apply]
    rfl
  rw [h9, h7, ofBits_negInf]
  refine isReal_of_ne ?_ ?_
  · intro he
    have h0 : val_main_v7 (F := Ideal) q k (ix5 b g h i 0) ≤ Finset.fold max ⊥ (fun j : Fin 4096 => val_main_v7 (F := Ideal) q k (ix5 b g h i j)) Finset.univ :=
      (Finset.le_fold_max _).mpr (Or.inr ⟨0, Finset.mem_univ _, le_refl _⟩)
    have h1 : val_main_v7 (F := Ideal) q k (ix5 b g h i 0) ≤ ⊥ := (h0.trans (le_max_right _ _)).trans (le_of_eq he)
    exact (hs 0).ne_bot (le_bot_iff.mp h1)
  · have h1 := fold_max_ne_top Finset.univ ⊥ (by simp) (fun j : Fin 4096 => val_main_v7 (F := Ideal) q k (ix5 b g h i j)) (fun j => (hs j).ne_top)
    intro he
    rcases max_choice (⊥ : EReal) (Finset.fold max ⊥ (fun j : Fin 4096 => val_main_v7 (F := Ideal) q k (ix5 b g h i j)) Finset.univ) with e | e <;> rw [e] at he
    · exact absurd he (by simp)
    · exact h1 he

/-- A softmax's exponential, over the row's largest score. -/
theorem exp_apply (hq : ∀ i, IsReal (q i)) (hk : ∀ i, IsReal (k i)) (b : Fin 4) (g : Fin 2) (h : Fin 4) (i j : Fin 4096) :
    val_main_v14 (F := Ideal) q k (ix5 b g h i j)
      = Ideal.exp (((rowS (qat q) (kat k) b (hd g h) i j.val : ℝ) : EReal) * ((Real.log 2 : ℝ) : EReal) - (((val_main_v10 (F := Ideal) q k (ix4 b g h i)).toReal : ℝ) : EReal)) := by
  rw [val_main_v14_apply, val_main_v13_apply, score_apply q k hq hk, val_main_v12_apply, val_main_v11_apply, ← (max_real q k hq hk b g h i).eq]
  have e : idx_main_v11 (idx_main_v12 (ix5 b g h i j)) = ix4 b g h i := by
    funext a
    match a with
    | ⟨0, _⟩ => rfl
    | ⟨1, _⟩ => rfl
    | ⟨2, _⟩ => rfl
    | ⟨3, _⟩ => rfl
  rw [Ideal.hostUnary_exp_def, Ideal.subf_def]
  generalize ((rowS (qat q) (kat k) b (hd g h) i j.val : ℝ) : EReal) * ((Real.log 2 : ℝ) : EReal) = y
  exact congrArg (fun z => Ideal.exp (y - val_main_v10 (F := Ideal) q k z)) e

/-- A softmax's weight. -/
theorem weight_apply (hq : ∀ i, IsReal (q i)) (hk : ∀ i, IsReal (k i)) (b : Fin 4) (g : Fin 2) (h : Fin 4) (i j : Fin 4096) :
    val_main_v18 (F := Ideal) q k (ix5 b g h i j) = ((share (rowS (qat q) (kat k) b (hd g h) i) 4096 j.val : ℝ) : EReal) := by
  rw [val_main_v18_apply, val_main_v17_apply, val_main_v16_apply, val_main_v15_apply, exp_apply q k hq hk]
  refine Eq.trans ?_ (exp_div (rowS (qat q) (kat k) b (hd g h) i) ((val_main_v10 (F := Ideal) q k (ix4 b g h i)).toReal) 4096 j.val (by norm_num))
  rw [Ideal.hostDivf_def]
  refine congrArg (Ideal.div _) ?_
  have h0 : val_main_cst_2 (F := Ideal) (Shape.Idx.first h_S_) = 0 := by
    rw [val_main_cst_2_apply]
    show Ideal.ofBits .f32 0#32 = 0
    simp [Ideal.ofBits, Ideal.ieee]
  rw [h0, zero_add, Finset.sum_range]
  refine Finset.sum_congr rfl fun x _ => ?_
  rw [← exp_apply q k hq hk]
  refine congrArg _ ?_
  funext a
  match a with
  | ⟨0, _⟩ => rfl
  | ⟨1, _⟩ => rfl
  | ⟨2, _⟩ => rfl
  | ⟨3, _⟩ => rfl
  | ⟨4, _⟩ => rfl

/-- THE REFERENCE'S VALUE: row `i`, column `128 h + d` is head `h`'s result. -/
theorem out_apply (hq : ∀ i, IsReal (q i)) (hk : ∀ i, IsReal (k i)) (b : Fin 4) (i : Fin 4096) (l : Fin 1024) :
    val_main_v22 (F := Ideal) q k v (ix3 b i l) = rowOut (qat q) (kat k) (kat v) b ⟨l.val / 128, by omega⟩ i ⟨l.val % 128, by omega⟩ := by
  have e1 : val_main_v22 (F := Ideal) q k v (ix3 b i l)
      = val_main_v19 (F := Ideal) q k v (ix5 b ⟨l.val / 512, by omega⟩ ⟨l.val % 128, by omega⟩ ⟨l.val / 128 % 4, by omega⟩ i) := by
    rw [val_main_v22_apply, val_main_v21_apply, val_main_v20_apply]
    show val_main_v19 (F := Ideal) q k v _ = val_main_v19 (F := Ideal) q k v _
    refine congrArg _ ?_
    funext a
    apply Fin.ext
    match a with
    | ⟨0, _⟩ => show ((b.val * 4096 + i.val) * 1024 + l.val) / 4194304 = b.val; omega
    | ⟨1, _⟩ => show ((b.val * 4096 + i.val) * 1024 + l.val) / 512 % 2 = l.val / 512; omega
    | ⟨2, _⟩ => show ((b.val * 4096 + i.val) * 1024 + l.val) % 128 = l.val % 128; omega
    | ⟨3, _⟩ => show ((b.val * 4096 + i.val) * 1024 + l.val) / 128 % 4 = l.val / 128 % 4; omega
    | ⟨4, _⟩ => show ((b.val * 4096 + i.val) * 1024 + l.val) / 1024 % 4096 = i.val; omega
  have eh : hd ⟨l.val / 512, by omega⟩ ⟨l.val / 128 % 4, by omega⟩ = ⟨l.val / 128, by omega⟩ :=
    Fin.ext (show 4 * (l.val / 512) + l.val / 128 % 4 = l.val / 128 by omega)
  rw [e1, val_main_v19_apply, ← eh]
  refine Finset.sum_congr rfl fun j _ => ?_
  rw [mul_comm]
  refine congrArg₂ (· * ·) ?_ ?_
  · rw [← weight_apply q k hq hk]
    refine congrArg _ ?_
    funext a
    match a with
    | ⟨0, _⟩ => rfl
    | ⟨1, _⟩ => rfl
    | ⟨2, _⟩ => rfl
    | ⟨3, _⟩ => rfl
    | ⟨4, _⟩ => rfl
  · rw [grp_hd, val_main_v3_apply]
    show v _ = v _
    refine congrArg _ ?_
    funext a
    match a with
    | ⟨0, _⟩ => rfl
    | ⟨1, _⟩ => rfl
    | ⟨2, _⟩ => rfl
    | ⟨3, _⟩ => rfl

end Cert.GqaRef
-- ==== Proof.GqaClaim.lean ====
/-
  The grouped-query attention's claims: the precondition read, the equation of the kernel's and the reference's results, the frames.
-/
module

public import proofs.«01_k».proof.Defs
public import proofs.«01_k».proof.Proof.GqaArray
public import proofs.«01_k».proof.Proof.GqaRef
public import proofs.«01_k».proof.Proof.Gen.Gqa.Frame
public import Idealize.ShloMosaic.Lib.Quiescent

@[expose] public section

noncomputable section

namespace Cert.GqaClaim

open Idealize.ShloMosaic Idealize.ShloMosaic.TcCoe Idealize.SL.Sem Cert.Soft

/-- The precondition's one side condition. -/
instance preFacts : Cert.Pre_finite3.Facts := ⟨by decide, by decide⟩

/-- The word of minus infinity. -/
theorem negInf : Ideal.ofBits .bf16 0xFF80#16 = ⊥ := by simp [Ideal.ofBits, Ideal.ieee]
/-- The word of plus infinity. -/
theorem posInf : Ideal.ofBits .bf16 0x7F80#16 = ⊤ := by simp [Ideal.ofBits, Ideal.ieee]

/-- A number between the infinities is real. -/
theorem real_of_cmp (x : EReal) (h : Ideal.cmp .ogt x (Ideal.ofBits .bf16 0xFF80#16) &&& Ideal.cmp .olt x (Ideal.ofBits .bf16 0x7F80#16) = 1#1) : IsReal x := by
  rw [negInf, posInf] at h
  have hb : ∀ p q : Bool, BitVec.ofBool p &&& BitVec.ofBool q = 1#1 → p = true ∧ q = true := by decide
  obtain ⟨h1, h2⟩ := hb _ _ h
  exact isReal_of_ne (ne_of_gt (of_decide_eq_true h1)) (ne_of_lt (of_decide_eq_true h2))

/-- The precondition, read: every query and key is real. -/
theorem pre_real (q : FVec Ideal Cert.Pre_finite3.S4x8x4096x128 .bf16) (k v : FVec Ideal Cert.Pre_finite3.S4x2x4096x128 .bf16)
    (w1 : FVec Ideal Cert.Pre_finite3.S5632x2048 .f32) (w2 : FVec Ideal Cert.Pre_finite3.S2048x2048 .f32)
    (w3 w4 : FVec Ideal Cert.Pre_finite3.S1024x2048 .f32) (w5 : FVec Ideal Cert.Pre_finite3.S2048x512 .f32)
    (w6 : FVec Ideal Cert.Pre_finite3.S512x2048 .f32)
    (h : (Cert.Pre_finite3.fn (F := Ideal) q k v w1 w2 w3 w4 w5 w6).1 = (fun _ => 1#1) ∧ (Cert.Pre_finite3.fn (F := Ideal) q k v w1 w2 w3 w4 w5 w6).2 = (fun _ => 1#1)) :
    (∀ i, IsReal (q i)) ∧ (∀ i, IsReal (k i)) :=
  ⟨fun i => real_of_cmp _ (congrFun h.1 i), fun i => real_of_cmp _ (congrFun h.2 i)⟩

/-- The reference has no semaphore. -/
theorem ref_sems (s : MemSt Cert.GqaRefIdeal.nD Cert.GqaRefIdeal.τ Cert.GqaRefIdeal.sig (Elt Ideal)) : s.sem = fun _ => 0 :=
  sem_eq_zero_of_no_sems (by decide) s

/-- The kernel's program, bit-exact: its frame. -/
theorem frame_P : Cert.quiescent_Gqa := fun m g _ => Cert.Gqa.Gen.frame m g
/-- The idealized kernel's frame. -/
theorem frame_PI : Cert.quiescent_GqaIdeal := fun m g _ => Cert.GqaIdeal.Gen.frame m g
/-- The idealized kernel's frame, under the precondition. -/
theorem frame_PI_pre : Cert.quiescent_GqaIdeal_pre_finite3 := fun m g _ => Cert.GqaIdeal.Gen.frame m g
/-- The idealized reference's frame. -/
theorem frame_RI : Cert.quiescent_GqaRefIdeal := fun m g _ =>
  (θ_run _ _ _).mono (fun r h => ⟨fun c => (h c).2.2.2.2.2.2.2, ref_sems r.2⟩) (Cert.GqaRefIdeal.Value.run (F := Ideal) m g)
/-- The idealized reference's frame, under the precondition. -/
theorem frame_RI_pre : Cert.quiescent_GqaRefIdeal_pre_finite3 := fun m g _ =>
  (θ_run _ _ _).mono (fun r h => ⟨fun c => (h c).2.2.2.2.2.2.2, ref_sems r.2⟩) (Cert.GqaRefIdeal.Value.run (F := Ideal) m g)

/-- THE EQUATION: from real queries and keys, the reference's result is the kernel's. -/
theorem result_eq (q : FVec Ideal Cert.GqaRefIdeal.S4x8x4096x128 .bf16) (k v : FVec Ideal Cert.GqaRefIdeal.S4x2x4096x128 .bf16)
    (hq : ∀ i, IsReal (q i)) (hk : ∀ i, IsReal (k i)) (c : Dev Cert.GqaIdeal.nD)
    (m : (ℓ : Loc Cert.GqaIdeal.nD Cert.GqaIdeal.τ Cert.GqaIdeal.sig) → Buf (Elt Ideal) ℓ)
    (h0 : q = m ((c.tc : Thread Cert.GqaIdeal.nD Cert.GqaIdeal.τ).loc Cert.GqaIdeal.main_arg0))
    (h1 : k = m ((c.tc : Thread Cert.GqaIdeal.nD Cert.GqaIdeal.τ).loc Cert.GqaIdeal.main_arg1))
    (h2 : v = m ((c.tc : Thread Cert.GqaIdeal.nD Cert.GqaIdeal.τ).loc Cert.GqaIdeal.main_arg2)) :
    Cert.GqaRefIdeal.Read.val_main_v22 (F := Ideal) q k v = GqaArray.whole c m := by
  funext y
  have e : y = ix3 (n0 := 4) (n1 := 4096) (n2 := 1024) (y 0) (y 1) (y 2) := by
    funext a
    match a with
    | ⟨0, _⟩ => rfl
    | ⟨1, _⟩ => rfl
    | ⟨2, _⟩ => rfl
  rw [e]
  refine (GqaRef.out_apply q k v hq hk (y 0) (y 1) (y 2)).trans ?_
  subst h0 h1 h2
  rfl

/-- THE VALUE CLAIM: from finite queries and keys the idealized kernel and the idealized reference end with equal results. -/
theorem value : Cert.algebraic_GqaIdeal_GqaRefIdeal_pre_finite3 := by
  intro m g m' g' hpre hagree
  have hr := fun c => pre_real _ _ _ _ _ _ _ _ _ (hpre c)
  refine ⟨fun c => GqaArray.whole c m, _, _, _, _, _, _, GqaArray.run m g (fun c b g i x => (hr c).1 _) (fun c b g i x => (hr c).2 _), ?_⟩
  refine (θ_run _ _ _).mono (fun r h c => ?_) (Cert.GqaRefIdeal.Value.run (F := Ideal) m' g')
  obtain ⟨h0, h1, h2, h3, h4, h5, h6, hk⟩ := h c
  obtain ⟨a0, a1, a2, a3, a4, a5, a6, a7, a8⟩ := hagree c
  refine ⟨h0.trans ?_, h1.trans ?_, h2.trans ?_, h3.trans ?_, h4.trans ?_, h5.trans ?_, h6.trans ?_, hk⟩
  · refine (Cert.GqaRefIdeal.Read.val_main_v22_eq _ _ _).trans ?_
    refine result_eq _ _ _ (fun i => ?_) (fun i => ?_) c m a0 a1 a2
    · rw [a0]; exact (hr c).1 i
    · rw [a1]; exact (hr c).2 i
  · rw [a3]
  · rw [a4]
  · rw [a5]
  · rw [a6]
  · rw [a7]
  · rw [a8]

end Cert.GqaClaim
-- ==== Proof.MixStep.lean ====
/-
  The mixing kernel's steps: the mixers' gated sum with the residual, the cross-attention's heads, and their projection back.
-/
module

public import proofs.«01_k».proof.Proof.Gen.MixIdeal.Skeleton
public import proofs.«01_k».proof.Proof.FfnStep
public import Idealize.ShloMosaic.Lib.Pipeline.Value

@[expose] public section

noncomputable section

namespace Cert.MixStep

open Idealize.ShloMosaic Idealize.ShloMosaic.TcCoe Cert.MixIdeal Cert.MixIdeal.Gen

variable {F : FTy → Type} [FloatOps F]

/-- Half of the gates' columns, from `o` on. -/
abbrev gAt (g : FVec F S256x4096 .bf16) (o : Nat) (h : ∀ a, (![0, o] : Fin 2 → Nat) a + S256x2048.size a ≤ S256x4096.size a) : FVec F S256x2048 .bf16 :=
  View.ld (Val := Elt F) (e' := .bf16) g (Rect.unit (s := S256x4096) ![0, o] S256x2048.size h)

/-- A head's 128 columns of the keys and values, from `o` on. -/
abbrev kvAt (kv : FVec F S1x256x1024 .bf16) (o : Nat) (h : ∀ a, (![0, 0, o] : Fin 3 → Nat) a + S1x256x128.size a ≤ S1x256x1024.size a) :
    FVec F S1x256x128 .bf16 := View.ld (Val := Elt F) (e' := .bf16) kv (Rect.unit (s := S1x256x1024) ![0, 0, o] S1x256x128.size h)

/-- The residual and the mixers' gated sum, projected. -/
def mixB (x : FVec F S1x256x2048 .f32) (g : FVec F S256x4096 .bf16) (ya yb : FVec F S1x256x1024 .bf16) (wa wb : FVec F S1024x2048 .bf16)
    (wo : FVec F S2048x2048 .bf16) : FVec F S256x2048 .f32 :=
  k0_pay3 (k0_pay6 ya wa) (k0_pay8 yb wb) (gAt g 0 inb_S256x4096_S256x2048_0_0) (gAt g 2048 inb_S256x4096_S256x2048_0_2048) x wo

/-- A head's scores. -/
def score (q : FVec F S256x512 .f32) (o : Nat) (ho : S256x512.Slices ![0, o] S256x128) (k : FVec F S1x256x128 .bf16) : FVec F S256x256 .f32 :=
  matmul dot_S256x128_S256x128_S256x256_1_1_0_0_n_n none (truncf .bf16 (extractStridedSlice S256x128 ![0, o] q ho) bitsLt_bf16_f32)
    (shapeCast S256x128 k shapeCasts_S1x256x128_S256x128) (constant S256x256 .f32 0x00000000#32)

/-- A head's result. -/
def head (q : FVec F S256x512 .f32) (o : Nat) (ho : S256x512.Slices ![0, o] S256x128) (k v : FVec F S1x256x128 .bf16) : FVec F S256x128 .bf16 :=
  k0_pay10 (score q o ho k) v

/-- The heads projected back and added to what the cross-attention started from. -/
def crossB (x1 : FVec F S256x2048 .f32) (n : FVec F S1x2048 .f32) (wq : FVec F S2048x512 .bf16) (kv : FVec F S1x256x1024 .bf16)
    (wx : FVec F S512x2048 .bf16) : FVec F S256x2048 .f32 :=
  addf x1 (matmul dot_S256x512_S512x2048_S256x2048_1_0_0_1_n_n none
    (concatenate S256x512 1
      [⟨S256x128, head (k0_pay7 x1 n wq) 0 slices_S256x512_o0_0_S256x128 (kvAt kv 0 inb_S1x256x1024_S1x256x128_0_0_0) (kvAt kv 512 inb_S1x256x1024_S1x256x128_0_0_512)⟩,
        ⟨S256x128, head (k0_pay7 x1 n wq) 128 slices_S256x512_o0_128_S256x128 (kvAt kv 128 inb_S1x256x1024_S1x256x128_0_0_128) (kvAt kv 640 inb_S1x256x1024_S1x256x128_0_0_640)⟩,
        ⟨S256x128, head (k0_pay7 x1 n wq) 256 slices_S256x512_o0_256_S256x128 (kvAt kv 256 inb_S1x256x1024_S1x256x128_0_0_256) (kvAt kv 768 inb_S1x256x1024_S1x256x128_0_0_768)⟩,
        ⟨S256x128, head (k0_pay7 x1 n wq) 384 slices_S256x512_o0_384_S256x128 (kvAt kv 384 inb_S1x256x1024_S1x256x128_0_0_384) (kvAt kv 896 inb_S1x256x1024_S1x256x128_0_0_896)⟩]
      concatenates_S256x128_S256x128_S256x128_S256x128_S256x512_d1)
    wx (constant S256x2048 .f32 0x00000000#32))

/-- The first result's block. -/
def outB (x1 : FVec F S256x2048 .f32) (n : FVec F S1x2048 .f32) (wq : FVec F S2048x512 .bf16) (kv : FVec F S1x256x1024 .bf16)
    (wx : FVec F S512x2048 .bf16) : FVec F S1x256x2048 .f32 := shapeCast S1x256x2048 (crossB x1 n wq kv wx) shapeCasts_S256x2048_S1x256x2048

/-- The second result's block. -/
def normB (x1 : FVec F S256x2048 .f32) (n : FVec F S1x2048 .f32) (wq : FVec F S2048x512 .bf16) (kv : FVec F S1x256x1024 .bf16)
    (wx : FVec F S512x2048 .bf16) (nf : FVec F S1x2048 .f32) : FVec F S1x256x2048 .bf16 := k0_pay2 (crossB x1 n wq kv wx) nf

end Cert.MixStep
-- ==== Proof.MixBlockA.lean ====
/-
  What the mixing kernel's run leaves at point 0, which only starts the pipeline: `Proof/MixStep.lean`'s closed forms.
-/
module

public import proofs.«01_k».proof.Proof.Gen.MixIdeal.Frame.RunA
public import proofs.«01_k».proof.Proof.MixStep

@[expose] public section

set_option maxRecDepth 16384

noncomputable section

namespace Cert.MixBlockA

open Idealize.ShloMosaic Idealize.ShloMosaic.TcCoe Idealize.ShloMosaic.Tactic Idealize.ShloMosaic.Rounds
open Cert.MixIdeal Cert.MixIdeal.Gen Cert.AttnStep Cert.FfnStep Cert.MixStep

variable {F : FTy → Type} [FloatOps F]
variable (c : Dev nD) (i : grid0.Coords)
  (arg1 : Memref sig .tc .vmem S1x256x2048 .f32)
  (harg1 : arg1.IsWhole)
  (arg2 : Memref sig .tc .vmem S256x4096 .bf16)
  (harg2 : arg2.IsWhole)
  (arg3 : Memref sig .tc .vmem S1x256x1024 .bf16)
  (harg3 : arg3.IsWhole)
  (arg4 : Memref sig .tc .vmem S1x256x1024 .bf16)
  (harg4 : arg4.IsWhole)
  (arg5 : Memref sig .tc .vmem S1024x2048 .bf16)
  (harg5 : arg5.IsWhole)
  (arg6 : Memref sig .tc .vmem S1024x2048 .bf16)
  (harg6 : arg6.IsWhole)
  (arg7 : Memref sig .tc .vmem S2048x2048 .bf16)
  (harg7 : arg7.IsWhole)
  (arg8 : Memref sig .tc .vmem S1x2048 .f32)
  (harg8 : arg8.IsWhole)
  (arg9 : Memref sig .tc .vmem S2048x512 .bf16)
  (harg9 : arg9.IsWhole)
  (arg10 : Memref sig .tc .vmem S1x256x1024 .bf16)
  (harg10 : arg10.IsWhole)
  (arg11 : Memref sig .tc .vmem S512x2048 .bf16)
  (harg11 : arg11.IsWhole)
  (arg12 : Memref sig .tc .vmem S1x2048 .f32)
  (harg12 : arg12.IsWhole)
  (arg13 : Memref sig .tc .vmem S1x256x2048 .f32)
  (harg13 : arg13.IsWhole)
  (arg14 : Memref sig .tc .vmem S1x256x2048 .bf16)
  (harg14 : arg14.IsWhole)
  (arg15 : Memref sig .tc .vmem S256x2048 .f32)
  (harg15 : arg15.IsWhole)
  (arg16 : Memref sig .tc .vmem S256x2048 .f32)
  (harg16 : arg16.IsWhole)
variable (x0 : Vec F S1x256x2048 .f32) (x1 : Vec F S256x4096 .bf16) (x2 : Vec F S1x256x1024 .bf16) (x3 : Vec F S1x256x1024 .bf16) (x4 : Vec F S1024x2048 .bf16) (x5 : Vec F S1024x2048 .bf16) (x6 : Vec F S2048x2048 .bf16) (x7 : Vec F S1x2048 .f32) (x8 : Vec F S2048x512 .bf16) (x9 : Vec F S1x256x1024 .bf16) (x10 : Vec F S512x2048 .bf16) (x11 : Vec F S1x2048 .f32)

/-- The even scratch: the mixers' gated sum with the residual. -/
theorem scratch (hc0 : cond0_0 i) (hc1 : cond0_1 i) (hc2 : ¬cond0_2 i) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).2.2.1 = mixB x0 x1 x2 x3 x4 x5 x6 := by
  unfold kernelRun0_A
  dsimp only
  sl_unfold_run_names
  simp only [View.readAt_eq_ld, Memref.IsWhole.read_unread, ld_whole2, ld_whole3, canon_whole2, canon_whole3, readCov_scratch]
  rfl

end Cert.MixBlockA
-- ==== Proof.MixBlockB.lean ====
/-
  What the mixing kernel's run leaves at an odd point, which reads the even scratch and fills the odd one: `Proof/MixStep.lean`'s closed forms.
-/
module

public import proofs.«01_k».proof.Proof.Gen.MixIdeal.Frame.RunB
public import proofs.«01_k».proof.Proof.MixStep

@[expose] public section

set_option maxRecDepth 16384

noncomputable section

namespace Cert.MixBlockB

open Idealize.ShloMosaic Idealize.ShloMosaic.TcCoe Idealize.ShloMosaic.Tactic Idealize.ShloMosaic.Rounds
open Cert.MixIdeal Cert.MixIdeal.Gen Cert.AttnStep Cert.FfnStep Cert.MixStep

variable {F : FTy → Type} [FloatOps F]
variable (c : Dev nD) (i : grid0.Coords)
  (arg1 : Memref sig .tc .vmem S1x256x2048 .f32)
  (harg1 : arg1.IsWhole)
  (arg2 : Memref sig .tc .vmem S256x4096 .bf16)
  (harg2 : arg2.IsWhole)
  (arg3 : Memref sig .tc .vmem S1x256x1024 .bf16)
  (harg3 : arg3.IsWhole)
  (arg4 : Memref sig .tc .vmem S1x256x1024 .bf16)
  (harg4 : arg4.IsWhole)
  (arg5 : Memref sig .tc .vmem S1024x2048 .bf16)
  (harg5 : arg5.IsWhole)
  (arg6 : Memref sig .tc .vmem S1024x2048 .bf16)
  (harg6 : arg6.IsWhole)
  (arg7 : Memref sig .tc .vmem S2048x2048 .bf16)
  (harg7 : arg7.IsWhole)
  (arg8 : Memref sig .tc .vmem S1x2048 .f32)
  (harg8 : arg8.IsWhole)
  (arg9 : Memref sig .tc .vmem S2048x512 .bf16)
  (harg9 : arg9.IsWhole)
  (arg10 : Memref sig .tc .vmem S1x256x1024 .bf16)
  (harg10 : arg10.IsWhole)
  (arg11 : Memref sig .tc .vmem S512x2048 .bf16)
  (harg11 : arg11.IsWhole)
  (arg12 : Memref sig .tc .vmem S1x2048 .f32)
  (harg12 : arg12.IsWhole)
  (arg13 : Memref sig .tc .vmem S1x256x2048 .f32)
  (harg13 : arg13.IsWhole)
  (arg14 : Memref sig .tc .vmem S1x256x2048 .bf16)
  (harg14 : arg14.IsWhole)
  (arg15 : Memref sig .tc .vmem S256x2048 .f32)
  (harg15 : arg15.IsWhole)
  (arg16 : Memref sig .tc .vmem S256x2048 .f32)
  (harg16 : arg16.IsWhole)
variable (x0 : Vec F S1x256x2048 .f32) (x1 : Vec F S256x4096 .bf16) (x2 : Vec F S1x256x1024 .bf16) (x3 : Vec F S1x256x1024 .bf16) (x4 : Vec F S1024x2048 .bf16) (x5 : Vec F S1024x2048 .bf16) (x6 : Vec F S2048x2048 .bf16) (x7 : Vec F S1x2048 .f32) (x8 : Vec F S2048x512 .bf16) (x9 : Vec F S1x256x1024 .bf16) (x10 : Vec F S512x2048 .bf16) (x11 : Vec F S1x2048 .f32)

/-- The odd scratch: the mixers' gated sum with the residual. -/
theorem scratch (hc0 : ¬cond0_0 i) (hc1 : ¬cond0_1 i) (hc2 : cond0_2 i) (xs0 : Vec F S256x2048 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0).2.2.2.1 = mixB x0 x1 x2 x3 x4 x5 x6 := by
  unfold kernelRun0_B
  dsimp only
  sl_unfold_run_names
  simp only [View.readAt_eq_ld, Memref.IsWhole.read_unread, ld_whole2, ld_whole3, canon_whole2, canon_whole3, readCov_scratch]
  rfl

/-- The first result's block. -/
theorem out (hc0 : ¬cond0_0 i) (hc1 : ¬cond0_1 i) (hc2 : cond0_2 i) (xs0 : Vec F S256x2048 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0).1 = outB xs0 x7 x8 x9 x10 := by
  unfold kernelRun0_B
  dsimp only
  sl_unfold_run_names
  simp only [View.readAt_eq_ld, Memref.IsWhole.read_unread, ld_whole2, ld_whole3, canon_whole2, canon_whole3, readCov_scratch]
  rfl

/-- The second result's block. -/
theorem norm (hc0 : ¬cond0_0 i) (hc1 : ¬cond0_1 i) (hc2 : cond0_2 i) (xs0 : Vec F S256x2048 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs0).2.1 = normB xs0 x7 x8 x9 x10 x11 := by
  unfold kernelRun0_B
  dsimp only
  sl_unfold_run_names
  simp only [View.readAt_eq_ld, Memref.IsWhole.read_unread, ld_whole2, ld_whole3, canon_whole2, canon_whole3, readCov_scratch]
  rfl

end Cert.MixBlockB
-- ==== Proof.MixBlockC.lean ====
/-
  What the mixing kernel's run leaves at an even point after 0, which reads the odd scratch and fills the even one: `Proof/MixStep.lean`'s closed forms.
-/
module

public import proofs.«01_k».proof.Proof.Gen.MixIdeal.Frame.RunC
public import proofs.«01_k».proof.Proof.MixStep

@[expose] public section

set_option maxRecDepth 16384

noncomputable section

namespace Cert.MixBlockC

open Idealize.ShloMosaic Idealize.ShloMosaic.TcCoe Idealize.ShloMosaic.Tactic Idealize.ShloMosaic.Rounds
open Cert.MixIdeal Cert.MixIdeal.Gen Cert.AttnStep Cert.FfnStep Cert.MixStep

variable {F : FTy → Type} [FloatOps F]
variable (c : Dev nD) (i : grid0.Coords)
  (arg1 : Memref sig .tc .vmem S1x256x2048 .f32)
  (harg1 : arg1.IsWhole)
  (arg2 : Memref sig .tc .vmem S256x4096 .bf16)
  (harg2 : arg2.IsWhole)
  (arg3 : Memref sig .tc .vmem S1x256x1024 .bf16)
  (harg3 : arg3.IsWhole)
  (arg4 : Memref sig .tc .vmem S1x256x1024 .bf16)
  (harg4 : arg4.IsWhole)
  (arg5 : Memref sig .tc .vmem S1024x2048 .bf16)
  (harg5 : arg5.IsWhole)
  (arg6 : Memref sig .tc .vmem S1024x2048 .bf16)
  (harg6 : arg6.IsWhole)
  (arg7 : Memref sig .tc .vmem S2048x2048 .bf16)
  (harg7 : arg7.IsWhole)
  (arg8 : Memref sig .tc .vmem S1x2048 .f32)
  (harg8 : arg8.IsWhole)
  (arg9 : Memref sig .tc .vmem S2048x512 .bf16)
  (harg9 : arg9.IsWhole)
  (arg10 : Memref sig .tc .vmem S1x256x1024 .bf16)
  (harg10 : arg10.IsWhole)
  (arg11 : Memref sig .tc .vmem S512x2048 .bf16)
  (harg11 : arg11.IsWhole)
  (arg12 : Memref sig .tc .vmem S1x2048 .f32)
  (harg12 : arg12.IsWhole)
  (arg13 : Memref sig .tc .vmem S1x256x2048 .f32)
  (harg13 : arg13.IsWhole)
  (arg14 : Memref sig .tc .vmem S1x256x2048 .bf16)
  (harg14 : arg14.IsWhole)
  (arg15 : Memref sig .tc .vmem S256x2048 .f32)
  (harg15 : arg15.IsWhole)
  (arg16 : Memref sig .tc .vmem S256x2048 .f32)
  (harg16 : arg16.IsWhole)
variable (x0 : Vec F S1x256x2048 .f32) (x1 : Vec F S256x4096 .bf16) (x2 : Vec F S1x256x1024 .bf16) (x3 : Vec F S1x256x1024 .bf16) (x4 : Vec F S1024x2048 .bf16) (x5 : Vec F S1024x2048 .bf16) (x6 : Vec F S2048x2048 .bf16) (x7 : Vec F S1x2048 .f32) (x8 : Vec F S2048x512 .bf16) (x9 : Vec F S1x256x1024 .bf16) (x10 : Vec F S512x2048 .bf16) (x11 : Vec F S1x2048 .f32)

/-- The even scratch: the mixers' gated sum with the residual. -/
theorem scratch (hc0 : ¬cond0_0 i) (hc1 : cond0_1 i) (hc2 : ¬cond0_2 i) (xs1 : Vec F S256x2048 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs1).2.2.1 = mixB x0 x1 x2 x3 x4 x5 x6 := by
  unfold kernelRun0_C
  dsimp only
  sl_unfold_run_names
  simp only [View.readAt_eq_ld, Memref.IsWhole.read_unread, ld_whole2, ld_whole3, canon_whole2, canon_whole3, readCov_scratch]
  rfl

/-- The first result's block. -/
theorem out (hc0 : ¬cond0_0 i) (hc1 : cond0_1 i) (hc2 : ¬cond0_2 i) (xs1 : Vec F S256x2048 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs1).1 = outB xs1 x7 x8 x9 x10 := by
  unfold kernelRun0_C
  dsimp only
  sl_unfold_run_names
  simp only [View.readAt_eq_ld, Memref.IsWhole.read_unread, ld_whole2, ld_whole3, canon_whole2, canon_whole3, readCov_scratch]
  rfl

/-- The second result's block. -/
theorem norm (hc0 : ¬cond0_0 i) (hc1 : cond0_1 i) (hc2 : ¬cond0_2 i) (xs1 : Vec F S256x2048 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xs1).2.1 = normB xs1 x7 x8 x9 x10 x11 := by
  unfold kernelRun0_C
  dsimp only
  sl_unfold_run_names
  simp only [View.readAt_eq_ld, Memref.IsWhole.read_unread, ld_whole2, ld_whole3, canon_whole2, canon_whole3, readCov_scratch]
  rfl

end Cert.MixBlockC
-- ==== Proof.MixRow.lean ====
/-
  The mixing call's row: the mathematics both the kernel and the reference compute, as functions of one row.
-/
module

public import proofs.«01_k».proof.Proof.Soft
public import proofs.«01_k».proof.Proof.FfnRow
public import proofs.«01_k».proof.Proof.RunRead
public import Idealize.ShloMosaic.Lib.Pointwise

@[expose] public section

noncomputable section

namespace Cert.MixRow

open Idealize.ShloMosaic Cert.Soft Cert.FfnRow Cert.RunRead

/-- The residual and the mixers' gated sum, projected, in one row. -/
def mixRow (x : Fin 2048 → EReal) (g : Fin 4096 → EReal) (a b : Fin 1024 → EReal) (wa wb : Fin 1024 → Fin 2048 → EReal)
    (wo : Fin 2048 → Fin 2048 → EReal) (l : Fin 2048) : EReal :=
  x l + ∑ k : Fin 2048, (g ⟨k.val, by omega⟩ * (∑ y : Fin 1024, a y * wa y k) + g ⟨2048 + k.val, by omega⟩ * (∑ y : Fin 1024, b y * wb y k)) * wo k l

/-- The query of a row. -/
def qRow (n : Fin 2048 → EReal) (wq : Fin 2048 → Fin 512 → EReal) (x1 : Fin 2048 → EReal) (d : Fin 512) : EReal :=
  ∑ y : Fin 2048, rmsNorm n x1 y * wq y d

/-- The scale of the scores. -/
def scale : EReal := Ideal.ofBits .f32 0x3DB504F3#32

/-- Head `h`'s score of a row against key `j`. -/
def sRow (n : Fin 2048 → EReal) (wq : Fin 2048 → Fin 512 → EReal) (kv : Fin 256 → Fin 1024 → EReal) (x1 : Fin 2048 → EReal) (h : Fin 4) (j : Fin 256) : EReal :=
  (∑ x : Fin 128, qRow n wq x1 ⟨128 * h.val + x.val, by omega⟩ * kv j ⟨128 * h.val + x.val, by omega⟩) * scale

/-- A row's largest score. -/
def top (s : Fin 256 → EReal) : EReal := Finset.fold max ⊥ s Finset.univ

/-- The softmax of the scores, on the values. -/
def att (s v : Fin 256 → EReal) : EReal :=
  ∑ j : Fin 256, Ideal.div (Ideal.exp (s j - top s)) (∑ i : Fin 256, Ideal.exp (s i - top s)) * v j

/-- The heads' results side by side. -/
def oRow (n : Fin 2048 → EReal) (wq : Fin 2048 → Fin 512 → EReal) (kv : Fin 256 → Fin 1024 → EReal) (x1 : Fin 2048 → EReal) (c : Fin 512) : EReal :=
  att (sRow n wq kv x1 ⟨c.val / 128, by omega⟩) (fun j => kv j ⟨512 + c.val, by omega⟩)

/-- The row after the cross-attention. -/
def crossRow (n : Fin 2048 → EReal) (wq : Fin 2048 → Fin 512 → EReal) (kv : Fin 256 → Fin 1024 → EReal) (wx : Fin 512 → Fin 2048 → EReal)
    (x1 : Fin 2048 → EReal) (l : Fin 2048) : EReal :=
  x1 l + ∑ c : Fin 512, oRow n wq kv x1 c * wx c l

/-- The largest of real scores is real. -/
theorem top_real (s : Fin 256 → EReal) (hs : ∀ j, IsReal (s j)) : IsReal (top s) := by
  refine isReal_of_ne ?_ ?_
  · intro h
    have h0 : s 0 ≤ top s := (Finset.le_fold_max _).mpr (Or.inr ⟨0, Finset.mem_univ _, le_refl _⟩)
    exact (hs 0).ne_bot (le_bot_iff.mp (h0.trans (le_of_eq h)))
  · exact fold_max_ne_top Finset.univ ⊥ (by simp) s (fun j => (hs j).ne_top)

/-- With real scores, dividing the weighted sum is weighting with the divided weights. -/
theorem att_eq (s v : Fin 256 → EReal) (hs : ∀ j, IsReal (s j)) :
    Ideal.div (∑ j : Fin 256, Ideal.exp (s j - top s) * v j) (∑ i : Fin 256, Ideal.exp (s i - top s)) = att s v := by
  have he : ∀ j, Ideal.exp (s j - top s) = ((Real.exp ((s j).toReal - (top s).toReal) : ℝ) : EReal) := fun j => by
    rw [(hs j).eq, (top_real s hs).eq, ← EReal.coe_sub, Ideal.exp_coe]
    simp only [EReal.toReal_coe]
  unfold att
  have hL : (∑ i : Fin 256, Ideal.exp (s i - top s)) = ((∑ i : Fin 256, Real.exp ((s i).toReal - (top s).toReal) : ℝ) : EReal) := by
    rw [coe_sum]
    exact Finset.sum_congr rfl fun i _ => he i
  have hp : 0 < ∑ i : Fin 256, Real.exp ((s i).toReal - (top s).toReal) := Finset.sum_pos (fun i _ => Real.exp_pos _) ⟨0, Finset.mem_univ _⟩
  rw [hL, Ideal.div_coe hp.ne', mul_comm, coe_mul_sum _ _ (by positivity)]
  refine Finset.sum_congr rfl fun j _ => ?_
  rw [Ideal.div_coe hp.ne', mul_comm (Ideal.exp _) (((1 / _ : ℝ) : ℝ) : EReal), mul_assoc]

/-- A square is not negative. -/
theorem sq_nonneg (x : EReal) : 0 ≤ x * x := by
  induction x with
  | bot => simp
  | top => simp
  | coe r => rw [← EReal.coe_mul]; exact_mod_cast mul_self_nonneg r

/-- The number of columns. -/
theorem cols : Ideal.ofBits .f32 0x45000000#32 = ((2048 : ℝ) : EReal) := by
  simp [Ideal.ofBits, Ideal.ieee]
  rw [← EReal.coe_mul]
  norm_num

/-- The norm's small constant is a positive real. -/
theorem eps_real : ∃ e : ℝ, 0 < e ∧ Ideal.ofBits .f32 0x358637BD#32 = (e : EReal) := by
  simp [Ideal.ofBits, Ideal.ieee]
  exact ⟨_, by positivity, (EReal.coe_mul _ _).symm⟩

/-- The scale is a positive real. -/
theorem scale_real : ∃ e : ℝ, 0 < e ∧ scale = (e : EReal) := by
  unfold scale
  simp [Ideal.ofBits, Ideal.ieee]
  exact ⟨_, by positivity, (EReal.coe_mul _ _).symm⟩

/-- A normalised row is real when the gain is: a row that holds an infinity is normalised to zero. -/
theorem rms_real (n : Fin 2048 → EReal) (hn : ∀ d, IsReal (n d)) (x : Fin 2048 → EReal) (d : Fin 2048) : IsReal (rmsNorm n x d) := by
  obtain ⟨e, he, hE⟩ := eps_real
  unfold rmsNorm
  refine IsReal.mul ?_ (hn d)
  rw [cols, hE, Ideal.div_coe (by norm_num)]
  by_cases h : ∀ y, IsReal (x y)
  · have hs : (∑ y : Fin 2048, x y * x y) = ((∑ y : Fin 2048, (x y).toReal * (x y).toReal : ℝ) : EReal) := by
      rw [coe_sum]
      refine Finset.sum_congr rfl fun y _ => ?_
      rw [EReal.coe_mul, ← (h y).eq]
    have hp : 0 < (∑ y : Fin 2048, (x y).toReal * (x y).toReal) * (1 / 2048) + e :=
      add_pos_of_nonneg_of_pos (mul_nonneg (Finset.sum_nonneg fun y _ => mul_self_nonneg _) (by norm_num)) he
    rw [hs, ← EReal.coe_mul, ← EReal.coe_add]
    refine (h d).mul ?_
    show IsReal (Ideal.rsqrt (((_ : ℝ)) : EReal))
    generalize (∑ y : Fin 2048, (x y).toReal * (x y).toReal) * (1 / 2048) + e = z at hp
    have hz : Ideal.rsqrt ((z : ℝ) : EReal) = if z < 0 then (⊥ : EReal) else if z = 0 then ⊤ else (((Real.sqrt z)⁻¹ : ℝ) : EReal) := rfl
    rw [hz, if_neg (not_lt.mpr hp.le), if_neg hp.ne']
    exact isReal_coe _
  · push Not at h
    obtain ⟨y, hy⟩ := h
    have ht : x y * x y = ⊤ := by
      by_cases hb : x y = ⊥
      · rw [hb]; rfl
      by_cases hc : x y = ⊤
      · rw [hc]; rfl
      exact absurd (isReal_of_ne hb hc) hy
    have hs : (∑ y : Fin 2048, x y * x y) = ⊤ := by
      refine top_le_iff.mp (ht.symm.le.trans ?_)
      exact Finset.single_le_sum (f := fun y => x y * x y) (fun i _ => sq_nonneg (x i)) (Finset.mem_univ y)
    rw [hs, EReal.top_mul_coe_of_pos (by norm_num), EReal.top_add_coe]
    show IsReal (x d * 0)
    rw [mul_zero]
    exact ⟨0, rfl⟩

/-- A score is real when gain, query weights and keys are. -/
theorem sRow_real (n : Fin 2048 → EReal) (wq : Fin 2048 → Fin 512 → EReal) (kv : Fin 256 → Fin 1024 → EReal) (hn : ∀ d, IsReal (n d))
    (hw : ∀ y d, IsReal (wq y d)) (hk : ∀ j (d : Fin 1024), d.val < 512 → IsReal (kv j d)) (x1 : Fin 2048 → EReal) (h : Fin 4) (j : Fin 256) :
    IsReal (sRow n wq kv x1 h j) := by
  obtain ⟨e, -, hE⟩ := scale_real
  unfold sRow
  rw [hE]
  refine IsReal.mul (IsReal.sum _ _ fun x _ => IsReal.mul ?_ (hk _ _ (show 128 * h.val + x.val < 512 by omega))) (isReal_coe e)
  exact IsReal.sum _ _ fun y _ => (rms_real n hn x1 y).mul (hw y _)

/-- The scale may be put on the queries. -/
theorem sRow_eq (n : Fin 2048 → EReal) (wq : Fin 2048 → Fin 512 → EReal) (kv : Fin 256 → Fin 1024 → EReal) (x1 : Fin 2048 → EReal) (h : Fin 4) (j : Fin 256) :
    ∑ x : Fin 128, (qRow n wq x1 ⟨128 * h.val + x.val, by omega⟩ * scale) * kv j ⟨128 * h.val + x.val, by omega⟩ = sRow n wq kv x1 h j := by
  obtain ⟨e, he, hE⟩ := scale_real
  unfold sRow
  rw [hE]
  refine Eq.trans (Finset.sum_congr rfl fun x _ => ?_) ((mul_comm _ _).trans (coe_mul_sum _ _ he.le _)).symm
  rw [mul_comm (qRow n wq x1 _) (e : EReal), mul_assoc]

/-- Equal parts give equal mixed rows. -/
theorem mixRow_congr {x x' : Fin 2048 → EReal} {g g' : Fin 4096 → EReal} {a a' b b' : Fin 1024 → EReal} {wa wa' wb wb' : Fin 1024 → Fin 2048 → EReal}
    {wo wo' : Fin 2048 → Fin 2048 → EReal} (hx : x = x') (hg : g = g') (ha : a = a') (hb : b = b') (hwa : wa = wa') (hwb : wb = wb') (hwo : wo = wo')
    (l : Fin 2048) : mixRow x g a b wa wb wo l = mixRow x' g' a' b' wa' wb' wo' l := by
  rw [hx, hg, ha, hb, hwa, hwb, hwo]

/-- Equal parts give equal rows after the cross-attention. -/
theorem crossRow_congr {n n' : Fin 2048 → EReal} {wq wq' : Fin 2048 → Fin 512 → EReal} {kv kv' : Fin 256 → Fin 1024 → EReal}
    {wx wx' : Fin 512 → Fin 2048 → EReal} {x x' : Fin 2048 → EReal} (hn : n = n') (hq : wq = wq') (hk : kv = kv') (hw : wx = wx') (hx : x = x') :
    crossRow n wq kv wx x = crossRow n' wq' kv' wx' x' := by
  rw [hn, hq, hk, hw, hx]

/-- The mixed row of a token, from the arrays. -/
def x1Row (x : FVec Ideal ⟨3, ![4, 4096, 2048]⟩ .f32) (g : FVec Ideal ⟨2, ![16384, 4096]⟩ .bf16) (ya yb : FVec Ideal ⟨3, ![4, 4096, 1024]⟩ .bf16)
    (wa wb : FVec Ideal ⟨2, ![1024, 2048]⟩ .bf16) (wo : FVec Ideal ⟨2, ![2048, 2048]⟩ .bf16) (b : Fin 4) (i : Fin 4096) : Fin 2048 → EReal :=
  mixRow (fun y => x (ix3 b i y)) (fun k => g (ix2 ⟨4096 * b.val + i.val, by omega⟩ k)) (fun y => ya (ix3 b i y)) (fun y => yb (ix3 b i y))
    (fun y k => wa (ix2 y k)) (fun y k => wb (ix2 y k)) (fun k l => wo (ix2 k l))

/-- A mixed row after the cross-attention with batch `b`'s memory, from the arrays. -/
def outRow (n : FVec Ideal ⟨2, ![1, 2048]⟩ .f32) (wq : FVec Ideal ⟨2, ![2048, 512]⟩ .bf16) (kv : FVec Ideal ⟨3, ![4, 256, 1024]⟩ .bf16)
    (wx : FVec Ideal ⟨2, ![512, 2048]⟩ .bf16) (b : Fin 4) (x1 : Fin 2048 → EReal) : Fin 2048 → EReal :=
  crossRow (fun y => n (ix2 0 y)) (fun y d => wq (ix2 y d)) (fun j c => kv (ix3 b j c)) (fun c l => wx (ix2 c l)) x1

end Cert.MixRow
-- ==== Proof.MixPoint.lean ====
/-
  The mixing kernel's blocks read at an index over the extended reals: the row functions of `Proof/MixRow.lean`.
-/
module

public import proofs.«01_k».proof.Proof.MixStep
public import proofs.«01_k».proof.Proof.MixRow
public import Idealize.ShloMosaic.Lib.Pointwise
public import Idealize.ShloMosaic.Lib.Pipeline.ValueKit

@[expose] public section

noncomputable section

namespace Cert.MixPoint

open Idealize.ShloMosaic Idealize.ShloMosaic.TcCoe Cert.MixIdeal Cert.MixIdeal.Gen Cert.MixStep Cert.MixRow Cert.FfnRow Cert.Soft

/-- A product with the first mixer's projection at an index. -/
theorem pay6_apply (ya : FVec Ideal S1x256x1024 .bf16) (wa : FVec Ideal S1024x2048 .bf16) (r : Fin 256) (l : Fin 2048) :
    k0_pay6 (F := Ideal) ya wa (ix2 r l) = ∑ y : Fin 1024, ya (ix3 0 r y) * wa (ix2 y l) := by
  pointwise [k0_pay6]

/-- The gated sum with the residual at an index. -/
theorem mixB_apply (x : FVec Ideal S1x256x2048 .f32) (g : FVec Ideal S256x4096 .bf16) (ya yb : FVec Ideal S1x256x1024 .bf16)
    (wa wb : FVec Ideal S1024x2048 .bf16) (wo : FVec Ideal S2048x2048 .bf16) (r : Fin 256) (l : Fin 2048) :
    mixB (F := Ideal) x g ya yb wa wb wo (ix2 r l)
      = mixRow (fun y => x (ix3 0 r y)) (fun k => g (ix2 r k)) (fun y => ya (ix3 0 r y)) (fun y => yb (ix3 0 r y))
          (fun y k => wa (ix2 y k)) (fun y k => wb (ix2 y k)) (fun k l => wo (ix2 k l)) l := by
  unfold mixB mixRow
  have ha := fun k => pay6_apply ya wa r k
  have hb := fun k => pay6_apply yb wb r k
  rw [show k0_pay8 (F := Ideal) yb wb = k0_pay6 (F := Ideal) yb wb from rfl]
  generalize k0_pay6 (F := Ideal) ya wa = A at ha ⊢
  generalize k0_pay6 (F := Ideal) yb wb = B at hb ⊢
  simp only [← ha, ← hb]
  pointwise [k0_pay3, gAt]

/-- The scaled queries at an index. -/
theorem pay7_apply (x1 : FVec Ideal S256x2048 .f32) (n : FVec Ideal S1x2048 .f32) (wq : FVec Ideal S2048x512 .bf16) (r : Fin 256) (d : Fin 512) :
    k0_pay7 (F := Ideal) x1 n wq (ix2 r d) = qRow (fun y => n (ix2 0 y)) (fun y d => wq (ix2 y d)) (fun y => x1 (ix2 r y)) d * scale := by
  unfold qRow rmsNorm scale
  pointwise [k0_pay7]

/-- A head's scores at an index. -/
theorem score_apply (q : FVec Ideal S256x512 .f32) (kv : FVec Ideal S1x256x1024 .bf16) (o : Nat) (hb : o + 128 ≤ 512) (ho : S256x512.Slices ![0, o] S256x128)
    (h : ∀ a, (![0, 0, o] : Fin 3 → Nat) a + S1x256x128.size a ≤ S1x256x1024.size a) (r j : Fin 256) :
    score q o ho (kvAt kv o h) (ix2 r j) = ∑ x : Fin 128, q (ix2 r ⟨o + x.val, by omega⟩) * kv (ix3 0 j ⟨o + x.val, by omega⟩) := by
  pointwise [score, kvAt]

/-- A head's quotient at an index. -/
theorem pay10_apply (s : FVec Ideal S256x256 .f32) (v : FVec Ideal S1x256x128 .bf16) (r : Fin 256) (d : Fin 128) :
    k0_pay10 (F := Ideal) s v (ix2 r d) = Ideal.div (∑ j : Fin 256, Ideal.exp (s (ix2 r j) - top (fun j => s (ix2 r j))) * v (ix3 0 j d))
      (∑ i : Fin 256, Ideal.exp (s (ix2 r i) - top (fun j => s (ix2 r j)))) := by
  unfold top
  rw [← RunRead.ofBits_negInf]
  pointwise [k0_pay10]

/-- A head's values at an index. -/
theorem kvAt_apply (kv : FVec Ideal S1x256x1024 .bf16) (o : Nat) (hb : o + 128 ≤ 1024)
    (h : ∀ a, (![0, 0, o] : Fin 3 → Nat) a + S1x256x128.size a ≤ S1x256x1024.size a) (j : Fin 256) (d : Fin 128) :
    kvAt kv o h (ix3 0 j d) = kv (ix3 0 j ⟨o + d.val, by omega⟩) := by
  pointwise [kvAt]

/-- Four heads side by side, at an index. -/
theorem concat_apply (a b c e : FVec Ideal S256x128 .bf16) (r : Fin 256) (x : Fin 512) :
    concatenate S256x512 1 [⟨S256x128, a⟩, ⟨S256x128, b⟩, ⟨S256x128, c⟩, ⟨S256x128, e⟩] concatenates_S256x128_S256x128_S256x128_S256x128_S256x512_d1 (ix2 r x)
      = if h : x.val < 128 then a (ix2 r ⟨x.val, h⟩) else
        if h1 : x.val - 128 < 128 then b (ix2 r ⟨x.val - 128, h1⟩) else
        if h2 : x.val - 128 - 128 < 128 then c (ix2 r ⟨x.val - 128 - 128, h2⟩) else e (ix2 r ⟨x.val - 128 - 128 - 128, by omega⟩) := by
  pointwise

variable (x1 : FVec Ideal S256x2048 .f32) (n : FVec Ideal S1x2048 .f32) (wq : FVec Ideal S2048x512 .bf16) (kv : FVec Ideal S1x256x1024 .bf16)
  (wx : FVec Ideal S512x2048 .bf16)

/-- A head at an index: the softmax of its scores on its values. -/
theorem head_apply (hn : ∀ d, IsReal (n (ix2 0 d))) (hw : ∀ y d, IsReal (wq (ix2 y d))) (hk : ∀ j (d : Fin 1024), d.val < 512 → IsReal (kv (ix3 0 j d)))
    (h : Fin 4) (o o' : Nat) (eo : o = 128 * h.val) (eo' : o' = 512 + 128 * h.val) (ho : S256x512.Slices ![0, o] S256x128)
    (i0 : ∀ a, (![0, 0, o] : Fin 3 → Nat) a + S1x256x128.size a ≤ S1x256x1024.size a)
    (i1 : ∀ a, (![0, 0, o'] : Fin 3 → Nat) a + S1x256x128.size a ≤ S1x256x1024.size a) (r : Fin 256) (d : Fin 128) (x : Fin 512) (hx : x.val = o + d.val) :
    head (k0_pay7 (F := Ideal) x1 n wq) o ho (kvAt kv o i0) (kvAt kv o' i1) (ix2 r d)
      = oRow (fun y => n (ix2 0 y)) (fun y d => wq (ix2 y d)) (fun j c => kv (ix3 0 j c)) (fun y => x1 (ix2 r y)) x := by
  subst eo eo'
  have hs : ∀ j, score (k0_pay7 (F := Ideal) x1 n wq) (128 * h.val) ho (kvAt kv (128 * h.val) i0) (ix2 r j)
      = sRow (fun y => n (ix2 0 y)) (fun y d => wq (ix2 y d)) (fun j c => kv (ix3 0 j c)) (fun y => x1 (ix2 r y)) h j := fun j => by
    refine (score_apply _ kv (128 * h.val) (by omega) ho i0 r j).trans ?_
    refine Eq.trans (Finset.sum_congr rfl fun x _ => ?_) (sRow_eq _ _ _ _ h j)
    exact congrArg (· * _) (pay7_apply x1 n wq r _)
  unfold head
  refine (pay10_apply _ _ r d).trans ?_
  simp only [hs, kvAt_apply kv (512 + 128 * h.val) (by omega) i1]
  refine (att_eq _ _ (fun j => sRow_real _ _ _ hn hw hk _ h j)).trans ?_
  unfold oRow
  have e1 : (⟨x.val / 128, by omega⟩ : Fin 4) = h := Fin.ext (show x.val / 128 = h.val by omega)
  have e2 : (⟨512 + 128 * h.val + d.val, by omega⟩ : Fin 1024) = ⟨512 + x.val, by omega⟩ := Fin.ext (show 512 + 128 * h.val + d.val = 512 + x.val by omega)
  rw [e1, e2]

/-- The cross-attention's row. -/
theorem crossB_apply (hn : ∀ d, IsReal (n (ix2 0 d))) (hw : ∀ y d, IsReal (wq (ix2 y d))) (hk : ∀ j (d : Fin 1024), d.val < 512 → IsReal (kv (ix3 0 j d)))
    (r : Fin 256) (l : Fin 2048) :
    crossB (F := Ideal) x1 n wq kv wx (ix2 r l)
      = crossRow (fun y => n (ix2 0 y)) (fun y d => wq (ix2 y d)) (fun j c => kv (ix3 0 j c)) (fun c l => wx (ix2 c l)) (fun y => x1 (ix2 r y)) l := by
  have hh := head_apply x1 n wq kv hn hw hk
  have h0 := hh 0 0 512 rfl rfl slices_S256x512_o0_0_S256x128 inb_S1x256x1024_S1x256x128_0_0_0 inb_S1x256x1024_S1x256x128_0_0_512 r
  have h1 := hh 1 128 640 rfl rfl slices_S256x512_o0_128_S256x128 inb_S1x256x1024_S1x256x128_0_0_128 inb_S1x256x1024_S1x256x128_0_0_640 r
  have h2 := hh 2 256 768 rfl rfl slices_S256x512_o0_256_S256x128 inb_S1x256x1024_S1x256x128_0_0_256 inb_S1x256x1024_S1x256x128_0_0_768 r
  have h3 := hh 3 384 896 rfl rfl slices_S256x512_o0_384_S256x128 inb_S1x256x1024_S1x256x128_0_0_384 inb_S1x256x1024_S1x256x128_0_0_896 r
  clear hh
  unfold crossB crossRow
  generalize head (k0_pay7 (F := Ideal) x1 n wq) 0 _ _ _ = a at h0 ⊢
  generalize head (k0_pay7 (F := Ideal) x1 n wq) 128 _ _ _ = b at h1 ⊢
  generalize head (k0_pay7 (F := Ideal) x1 n wq) 256 _ _ _ = c at h2 ⊢
  generalize head (k0_pay7 (F := Ideal) x1 n wq) 384 _ _ _ = e at h3 ⊢
  have hc : ∀ x : Fin 512, concatenate S256x512 1 [⟨S256x128, a⟩, ⟨S256x128, b⟩, ⟨S256x128, c⟩, ⟨S256x128, e⟩]
      concatenates_S256x128_S256x128_S256x128_S256x128_S256x512_d1 (ix2 r x)
      = oRow (fun y => n (ix2 0 y)) (fun y d => wq (ix2 y d)) (fun j c => kv (ix3 0 j c)) (fun y => x1 (ix2 r y)) x := fun x => by
    refine (concat_apply a b c e r x).trans ?_
    split
    · exact h0 _ x (Nat.zero_add _).symm
    · split
      · exact h1 _ x (show x.val = 128 + (x.val - 128) by omega)
      · split
        · exact h2 _ x (show x.val = 256 + (x.val - 128 - 128) by omega)
        · exact h3 _ x (show x.val = 384 + (x.val - 128 - 128 - 128) by omega)
  simp only [← hc]
  generalize concatenate S256x512 1 [⟨S256x128, a⟩, ⟨S256x128, b⟩, ⟨S256x128, c⟩, ⟨S256x128, e⟩]
      concatenates_S256x128_S256x128_S256x128_S256x128_S256x512_d1 = w
  pointwise

/-- The first result's block at an index. -/
theorem outB_apply (hn : ∀ d, IsReal (n (ix2 0 d))) (hw : ∀ y d, IsReal (wq (ix2 y d))) (hk : ∀ j (d : Fin 1024), d.val < 512 → IsReal (kv (ix3 0 j d)))
    (z : Fin 1) (r : Fin 256) (l : Fin 2048) :
    outB (F := Ideal) x1 n wq kv wx (ix3 z r l)
      = crossRow (fun y => n (ix2 0 y)) (fun y d => wq (ix2 y d)) (fun j c => kv (ix3 0 j c)) (fun c l => wx (ix2 c l)) (fun y => x1 (ix2 r y)) l := by
  rw [← crossB_apply x1 n wq kv wx hn hw hk]
  unfold outB
  generalize crossB (F := Ideal) x1 n wq kv wx = w
  pointwise

/-- The second result's block at an index. -/
theorem normB_apply (nf : FVec Ideal S1x2048 .f32) (hn : ∀ d, IsReal (n (ix2 0 d))) (hw : ∀ y d, IsReal (wq (ix2 y d)))
    (hk : ∀ j (d : Fin 1024), d.val < 512 → IsReal (kv (ix3 0 j d))) (z : Fin 1) (r : Fin 256) (l : Fin 2048) :
    normB (F := Ideal) x1 n wq kv wx nf (ix3 z r l)
      = rmsNorm (fun y => nf (ix2 0 y)) (crossRow (fun y => n (ix2 0 y)) (fun y d => wq (ix2 y d)) (fun j c => kv (ix3 0 j c)) (fun c l => wx (ix2 c l))
          (fun y => x1 (ix2 r y))) l := by
  have hc := crossB_apply x1 n wq kv wx hn hw hk r
  unfold normB rmsNorm
  simp only [← hc]
  generalize crossB (F := Ideal) x1 n wq kv wx = w
  pointwise [k0_pay2]

end Cert.MixPoint
-- ==== Proof.MixArray.lean ====
/-
  What the mixing kernel's result arrays hold: the row functions of `Proof/MixRow.lean`, read from the arguments. Point `t`
  fills one scratch with block `t`'s mixed rows and works on block `t - 1`'s, which the point before left in the other.
-/
module

public import proofs.«01_k».proof.Proof.Gen.MixIdeal.Value
public import proofs.«01_k».proof.Proof.MixBlockA
public import proofs.«01_k».proof.Proof.MixBlockB
public import proofs.«01_k».proof.Proof.MixBlockC
public import proofs.«01_k».proof.Proof.MixPoint
public import Idealize.ShloMosaic.Lib.Pipeline.ValueKit
public import Idealize.ShloMosaic.Lib.Pipeline.ReadBack

@[expose] public section

set_option maxRecDepth 16384

noncomputable section

namespace Cert.MixArray

open Idealize.ShloMosaic Idealize.ShloMosaic.TcCoe Idealize.SL.Sem Cert.MixIdeal Cert.MixIdeal.Gen Cert.MixIdeal.Value
open Cert.MixStep Cert.MixRow Cert.MixPoint Cert.FfnRow Cert.Soft

variable (m : (ℓ : Loc nD τ sig) → Buf (Elt Ideal) ℓ) (c : Dev nD)

/-- There are 65 points. -/
theorem lt65 (t : Fin cfg0.N) : t.val < 65 := lt_of_lt_of_eq t.isLt N_0

/-- An offset of zero. -/
theorem zero_off (i s y : Nat) (h : i = 0) : i * s + 1 * y = y := by rw [h]; omega

/-- The block of the residual at a point. -/
theorem index0 : ∀ t : Fin cfg0.N, win0_0.index t = ![min t.val 63 / 16, min t.val 63 % 16, 0] :=
  (by decide +kernel : ∀ t : Fin grid0.N, win0_0.index t = ![min t.val 63 / 16, min t.val 63 % 16, 0])
/-- The block of the gates at a point. -/
theorem index1 : ∀ t : Fin cfg0.N, win0_1.index t = ![min t.val 63, 0] :=
  (by decide +kernel : ∀ t : Fin grid0.N, win0_1.index t = ![min t.val 63, 0])
/-- The block of the first mixer at a point. -/
theorem index2 : ∀ t : Fin cfg0.N, win0_2.index t = ![min t.val 63 / 16, min t.val 63 % 16, 0] :=
  (by decide +kernel : ∀ t : Fin grid0.N, win0_2.index t = ![min t.val 63 / 16, min t.val 63 % 16, 0])
/-- The block of the second mixer at a point. -/
theorem index3 : ∀ t : Fin cfg0.N, win0_3.index t = ![min t.val 63 / 16, min t.val 63 % 16, 0] :=
  (by decide +kernel : ∀ t : Fin grid0.N, win0_3.index t = ![min t.val 63 / 16, min t.val 63 % 16, 0])
/-- The block of the first mixer's projection at a point. -/
theorem index4 : ∀ t : Fin cfg0.N, win0_4.index t = ![0, 0] :=
  (by decide +kernel : ∀ t : Fin grid0.N, win0_4.index t = ![0, 0])
/-- The block of the second mixer's projection at a point. -/
theorem index5 : ∀ t : Fin cfg0.N, win0_5.index t = ![0, 0] :=
  (by decide +kernel : ∀ t : Fin grid0.N, win0_5.index t = ![0, 0])
/-- The block of the output projection at a point. -/
theorem index6 : ∀ t : Fin cfg0.N, win0_6.index t = ![0, 0] :=
  (by decide +kernel : ∀ t : Fin grid0.N, win0_6.index t = ![0, 0])
/-- The block of the gain at a point. -/
theorem index7 : ∀ t : Fin cfg0.N, win0_7.index t = ![0, 0] :=
  (by decide +kernel : ∀ t : Fin grid0.N, win0_7.index t = ![0, 0])
/-- The block of the query weights at a point. -/
theorem index8 : ∀ t : Fin cfg0.N, win0_8.index t = ![0, 0] :=
  (by decide +kernel : ∀ t : Fin grid0.N, win0_8.index t = ![0, 0])
/-- The block of the keys and values at a point. -/
theorem index9 : ∀ t : Fin cfg0.N, win0_9.index t = ![(t.val - 1) / 16, 0, 0] :=
  (by decide +kernel : ∀ t : Fin grid0.N, win0_9.index t = ![(t.val - 1) / 16, 0, 0])
/-- The block of the cross-attention's projection at a point. -/
theorem index10 : ∀ t : Fin cfg0.N, win0_10.index t = ![0, 0] :=
  (by decide +kernel : ∀ t : Fin grid0.N, win0_10.index t = ![0, 0])
/-- The block of the last gain at a point. -/
theorem index11 : ∀ t : Fin cfg0.N, win0_11.index t = ![0, 0] :=
  (by decide +kernel : ∀ t : Fin grid0.N, win0_11.index t = ![0, 0])
/-- The block of the first result at a point. -/
theorem index12 : ∀ t : Fin cfg0.N, win0_12.index t = ![(t.val - 1) / 16, (t.val - 1) % 16, 0] :=
  (by decide +kernel : ∀ t : Fin grid0.N, win0_12.index t = ![(t.val - 1) / 16, (t.val - 1) % 16, 0])
/-- The block of the second result at a point. -/
theorem index13 : ∀ t : Fin cfg0.N, win0_13.index t = ![(t.val - 1) / 16, (t.val - 1) % 16, 0] :=
  (by decide +kernel : ∀ t : Fin grid0.N, win0_13.index t = ![(t.val - 1) / 16, (t.val - 1) % 16, 0])

/-- A point's rows of the residual. -/
theorem iblk0 (t : Fin cfg0.N) (r : Fin 256) (x : Fin 2048) :
    (iblk m c 0 t : Vec Ideal S1x256x2048 .f32) (ix3 0 r x)
      = (m ((c : Thread nD τ).loc main_arg0) : Vec Ideal S4x4096x2048 .f32) (ix3 ⟨min t.val 63 / 16, by omega⟩ ⟨256 * (min t.val 63 % 16) + r.val, by omega⟩ x) := by
  unfold iblk
  rw [View.read_apply]
  show (V m c main_arg0 : Vec Ideal S4x4096x2048 .f32) _ = _
  rw [V_main_arg0]
  refine congrArg _ (funext fun a => Fin.ext ?_)
  match a with
  | ⟨0, _⟩ => show win0_0.index t 0 * 1 + 1 * 0 = min t.val 63 / 16; rw [index0]; show min t.val 63 / 16 * 1 + 1 * 0 = _; omega
  | ⟨1, _⟩ => show win0_0.index t 1 * 256 + 1 * r.val = 256 * (min t.val 63 % 16) + r.val; rw [index0]; show min t.val 63 % 16 * 256 + 1 * r.val = _; omega
  | ⟨2, _⟩ => exact zero_off _ _ _ (congrFun (index0 t) 2)

/-- A point's rows of the first mixer. -/
theorem iblk2 (t : Fin cfg0.N) (r : Fin 256) (x : Fin 1024) :
    (iblk m c 2 t : Vec Ideal S1x256x1024 .bf16) (ix3 0 r x)
      = (m ((c : Thread nD τ).loc main_arg2) : Vec Ideal S4x4096x1024 .bf16) (ix3 ⟨min t.val 63 / 16, by omega⟩ ⟨256 * (min t.val 63 % 16) + r.val, by omega⟩ x) := by
  unfold iblk
  rw [View.read_apply]
  show (V m c main_arg2 : Vec Ideal S4x4096x1024 .bf16) _ = _
  rw [V_main_arg2]
  refine congrArg _ (funext fun a => Fin.ext ?_)
  match a with
  | ⟨0, _⟩ => show win0_2.index t 0 * 1 + 1 * 0 = min t.val 63 / 16; rw [index2]; show min t.val 63 / 16 * 1 + 1 * 0 = _; omega
  | ⟨1, _⟩ => show win0_2.index t 1 * 256 + 1 * r.val = 256 * (min t.val 63 % 16) + r.val; rw [index2]; show min t.val 63 % 16 * 256 + 1 * r.val = _; omega
  | ⟨2, _⟩ => exact zero_off _ _ _ (congrFun (index2 t) 2)

/-- A point's rows of the second mixer. -/
theorem iblk3 (t : Fin cfg0.N) (r : Fin 256) (x : Fin 1024) :
    (iblk m c 3 t : Vec Ideal S1x256x1024 .bf16) (ix3 0 r x)
      = (m ((c : Thread nD τ).loc main_arg3) : Vec Ideal S4x4096x1024 .bf16) (ix3 ⟨min t.val 63 / 16, by omega⟩ ⟨256 * (min t.val 63 % 16) + r.val, by omega⟩ x) := by
  unfold iblk
  rw [View.read_apply]
  show (V m c main_arg3 : Vec Ideal S4x4096x1024 .bf16) _ = _
  rw [V_main_arg3]
  refine congrArg _ (funext fun a => Fin.ext ?_)
  match a with
  | ⟨0, _⟩ => show win0_3.index t 0 * 1 + 1 * 0 = min t.val 63 / 16; rw [index3]; show min t.val 63 / 16 * 1 + 1 * 0 = _; omega
  | ⟨1, _⟩ => show win0_3.index t 1 * 256 + 1 * r.val = 256 * (min t.val 63 % 16) + r.val; rw [index3]; show min t.val 63 % 16 * 256 + 1 * r.val = _; omega
  | ⟨2, _⟩ => exact zero_off _ _ _ (congrFun (index3 t) 2)

/-- A point's rows of the gates. -/
theorem iblk1 (t : Fin cfg0.N) (r : Fin 256) (x : Fin 4096) :
    (iblk m c 1 t : Vec Ideal S256x4096 .bf16) (ix2 r x) = (m ((c : Thread nD τ).loc main_arg1) : Vec Ideal S16384x4096 .bf16) (ix2 ⟨256 * min t.val 63 + r.val, by omega⟩ x) := by
  unfold iblk
  rw [View.read_apply]
  show (V m c main_arg1 : Vec Ideal S16384x4096 .bf16) _ = _
  rw [V_main_arg1]
  refine congrArg _ (funext fun a => Fin.ext ?_)
  match a with
  | ⟨0, _⟩ => show win0_1.index t 0 * 256 + 1 * r.val = 256 * min t.val 63 + r.val; rw [index1]; show min t.val 63 * 256 + 1 * r.val = _; omega
  | ⟨1, _⟩ => exact zero_off _ _ _ (congrFun (index1 t) 1)

/-- A point's keys and values: those of the batch of the block before. -/
theorem iblk9 (t : Fin cfg0.N) (j : Fin 256) (x : Fin 1024) :
    (iblk m c 9 t : Vec Ideal S1x256x1024 .bf16) (ix3 0 j x) = (m ((c : Thread nD τ).loc main_arg9) : Vec Ideal S4x256x1024 .bf16) (ix3 ⟨(t.val - 1) / 16, by have := lt65 t; omega⟩ j x) := by
  unfold iblk
  rw [View.read_apply]
  show (V m c main_arg9 : Vec Ideal S4x256x1024 .bf16) _ = _
  rw [V_main_arg9]
  refine congrArg _ (funext fun a => Fin.ext ?_)
  match a with
  | ⟨0, _⟩ => show win0_9.index t 0 * 1 + 1 * 0 = (t.val - 1) / 16; rw [index9]; show (t.val - 1) / 16 * 1 + 1 * 0 = _; omega
  | ⟨1, _⟩ => exact zero_off _ _ _ (congrFun (index9 t) 1)
  | ⟨2, _⟩ => exact zero_off _ _ _ (congrFun (index9 t) 2)

/-- The first mixer's projection: the whole array. -/
theorem iblk4 (t : Fin cfg0.N) (y : S1024x2048.Idx) : (iblk m c 4 t : Vec Ideal S1024x2048 .bf16) y = (m ((c : Thread nD τ).loc main_arg4) : Vec Ideal S1024x2048 .bf16) y := by
  unfold iblk
  rw [View.read_apply]
  show (V m c main_arg4 : Vec Ideal S1024x2048 .bf16) _ = _
  rw [V_main_arg4]
  refine congrArg _ (funext fun a => Fin.ext ?_)
  match a with
  | ⟨0, _⟩ => exact zero_off _ _ _ (congrFun (index4 t) 0)
  | ⟨1, _⟩ => exact zero_off _ _ _ (congrFun (index4 t) 1)

/-- The second mixer's projection: the whole array. -/
theorem iblk5 (t : Fin cfg0.N) (y : S1024x2048.Idx) : (iblk m c 5 t : Vec Ideal S1024x2048 .bf16) y = (m ((c : Thread nD τ).loc main_arg5) : Vec Ideal S1024x2048 .bf16) y := by
  unfold iblk
  rw [View.read_apply]
  show (V m c main_arg5 : Vec Ideal S1024x2048 .bf16) _ = _
  rw [V_main_arg5]
  refine congrArg _ (funext fun a => Fin.ext ?_)
  match a with
  | ⟨0, _⟩ => exact zero_off _ _ _ (congrFun (index5 t) 0)
  | ⟨1, _⟩ => exact zero_off _ _ _ (congrFun (index5 t) 1)

/-- The output projection: the whole array. -/
theorem iblk6 (t : Fin cfg0.N) (y : S2048x2048.Idx) : (iblk m c 6 t : Vec Ideal S2048x2048 .bf16) y = (m ((c : Thread nD τ).loc main_arg6) : Vec Ideal S2048x2048 .bf16) y := by
  unfold iblk
  rw [View.read_apply]
  show (V m c main_arg6 : Vec Ideal S2048x2048 .bf16) _ = _
  rw [V_main_arg6]
  refine congrArg _ (funext fun a => Fin.ext ?_)
  match a with
  | ⟨0, _⟩ => exact zero_off _ _ _ (congrFun (index6 t) 0)
  | ⟨1, _⟩ => exact zero_off _ _ _ (congrFun (index6 t) 1)

/-- The gain: the whole array. -/
theorem iblk7 (t : Fin cfg0.N) (y : S1x2048.Idx) : (iblk m c 7 t : Vec Ideal S1x2048 .f32) y = (m ((c : Thread nD τ).loc main_arg7) : Vec Ideal S1x2048 .f32) y := by
  unfold iblk
  rw [View.read_apply]
  show (V m c main_arg7 : Vec Ideal S1x2048 .f32) _ = _
  rw [V_main_arg7]
  refine congrArg _ (funext fun a => Fin.ext ?_)
  match a with
  | ⟨0, _⟩ => exact zero_off _ _ _ (congrFun (index7 t) 0)
  | ⟨1, _⟩ => exact zero_off _ _ _ (congrFun (index7 t) 1)

/-- The query weights: the whole array. -/
theorem iblk8 (t : Fin cfg0.N) (y : S2048x512.Idx) : (iblk m c 8 t : Vec Ideal S2048x512 .bf16) y = (m ((c : Thread nD τ).loc main_arg8) : Vec Ideal S2048x512 .bf16) y := by
  unfold iblk
  rw [View.read_apply]
  show (V m c main_arg8 : Vec Ideal S2048x512 .bf16) _ = _
  rw [V_main_arg8]
  refine congrArg _ (funext fun a => Fin.ext ?_)
  match a with
  | ⟨0, _⟩ => exact zero_off _ _ _ (congrFun (index8 t) 0)
  | ⟨1, _⟩ => exact zero_off _ _ _ (congrFun (index8 t) 1)

/-- The cross-attention's projection: the whole array. -/
theorem iblk10 (t : Fin cfg0.N) (y : S512x2048.Idx) : (iblk m c 10 t : Vec Ideal S512x2048 .bf16) y = (m ((c : Thread nD τ).loc main_arg10) : Vec Ideal S512x2048 .bf16) y := by
  unfold iblk
  rw [View.read_apply]
  show (V m c main_arg10 : Vec Ideal S512x2048 .bf16) _ = _
  rw [V_main_arg10]
  refine congrArg _ (funext fun a => Fin.ext ?_)
  match a with
  | ⟨0, _⟩ => exact zero_off _ _ _ (congrFun (index10 t) 0)
  | ⟨1, _⟩ => exact zero_off _ _ _ (congrFun (index10 t) 1)

/-- The last gain: the whole array. -/
theorem iblk11 (t : Fin cfg0.N) (y : S1x2048.Idx) : (iblk m c 11 t : Vec Ideal S1x2048 .f32) y = (m ((c : Thread nD τ).loc main_arg11) : Vec Ideal S1x2048 .f32) y := by
  unfold iblk
  rw [View.read_apply]
  show (V m c main_arg11 : Vec Ideal S1x2048 .f32) _ = _
  rw [V_main_arg11]
  refine congrArg _ (funext fun a => Fin.ext ?_)
  match a with
  | ⟨0, _⟩ => exact zero_off _ _ _ (congrFun (index11 t) 0)
  | ⟨1, _⟩ => exact zero_off _ _ _ (congrFun (index11 t) 1)

/-- The even scratch after an even point: its block's mixed rows. -/
theorem even_eq (t : Fin cfg0.N) (h1 : t.val % 2 = 0) : (outsAt0 m c t.val t.isLt).2.2.1 = mixB (F := Ideal) (iblk m c 0 t) (iblk m c 1 t) (iblk m c 2 t) (iblk m c 3 t) (iblk m c 4 t) (iblk m c 5 t) (iblk m c 6 t) := by
  by_cases h0 : t.val % 65 = 0
  · rw [outsAt0_A m c t h0 h1 (by omega)]
    dsimp only
    unfold sout0_A_0
    rw [View.read_writes_junk_eq_canon]
    exact MixBlockA.scratch ..
  · rw [outsAt0_C m c t h0 h1 (by omega)]
    dsimp only
    unfold sout0_C_0
    rw [View.read_writes_junk_eq_canon]
    exact MixBlockC.scratch ..

/-- The odd scratch after an odd point: its block's mixed rows. -/
theorem odd_eq (t : Fin cfg0.N) (h1 : t.val % 2 = 1) : (outsAt0 m c t.val t.isLt).2.2.2 = mixB (F := Ideal) (iblk m c 0 t) (iblk m c 1 t) (iblk m c 2 t) (iblk m c 3 t) (iblk m c 4 t) (iblk m c 5 t) (iblk m c 6 t) := by
  rw [outsAt0_B m c t (by have := lt65 t; omega) (by omega) h1]
  dsimp only
  unfold sout0_B_1
  rw [View.read_writes_junk_eq_canon]
  exact MixBlockB.scratch ..

/-- The first result's block after a point: from the mixed rows of the point before. -/
theorem out_eq (t : Fin cfg0.N) (ht : 1 ≤ t.val) : (outsAt0 m c t.val t.isLt).1 = outB (F := Ideal)
    (mixB (F := Ideal) (iblk m c 0 ⟨t.val - 1, Nat.lt_of_le_of_lt (Nat.sub_le _ _) t.isLt⟩) (iblk m c 1 ⟨t.val - 1, Nat.lt_of_le_of_lt (Nat.sub_le _ _) t.isLt⟩) (iblk m c 2 ⟨t.val - 1, Nat.lt_of_le_of_lt (Nat.sub_le _ _) t.isLt⟩) (iblk m c 3 ⟨t.val - 1, Nat.lt_of_le_of_lt (Nat.sub_le _ _) t.isLt⟩) (iblk m c 4 ⟨t.val - 1, Nat.lt_of_le_of_lt (Nat.sub_le _ _) t.isLt⟩) (iblk m c 5 ⟨t.val - 1, Nat.lt_of_le_of_lt (Nat.sub_le _ _) t.isLt⟩) (iblk m c 6 ⟨t.val - 1, Nat.lt_of_le_of_lt (Nat.sub_le _ _) t.isLt⟩)) (iblk m c 7 t) (iblk m c 8 t) (iblk m c 9 t) (iblk m c 10 t) := by
  have h65 := lt65 t
  by_cases h1 : t.val % 2 = 0
  · have hs := odd_eq m c ⟨t.val - 1, Nat.lt_of_le_of_lt (Nat.sub_le _ _) t.isLt⟩ (show (t.val - 1) % 2 = 1 by omega)
    rw [outsAt0_C m c t (by omega) h1 (by omega)]
    dsimp only
    unfold out0_C_12
    rw [View.read_writes_junk_eq_canon, ← hs]
    exact MixBlockC.out ..
  · have hs := even_eq m c ⟨t.val - 1, Nat.lt_of_le_of_lt (Nat.sub_le _ _) t.isLt⟩ (show (t.val - 1) % 2 = 0 by omega)
    rw [outsAt0_B m c t (by omega) h1 (by omega)]
    dsimp only
    unfold out0_B_12
    rw [View.read_writes_junk_eq_canon, ← hs]
    exact MixBlockB.out ..

/-- The second result's block after a point: from the mixed rows of the point before. -/
theorem norm_eq (t : Fin cfg0.N) (ht : 1 ≤ t.val) : (outsAt0 m c t.val t.isLt).2.1 = normB (F := Ideal)
    (mixB (F := Ideal) (iblk m c 0 ⟨t.val - 1, Nat.lt_of_le_of_lt (Nat.sub_le _ _) t.isLt⟩) (iblk m c 1 ⟨t.val - 1, Nat.lt_of_le_of_lt (Nat.sub_le _ _) t.isLt⟩) (iblk m c 2 ⟨t.val - 1, Nat.lt_of_le_of_lt (Nat.sub_le _ _) t.isLt⟩) (iblk m c 3 ⟨t.val - 1, Nat.lt_of_le_of_lt (Nat.sub_le _ _) t.isLt⟩) (iblk m c 4 ⟨t.val - 1, Nat.lt_of_le_of_lt (Nat.sub_le _ _) t.isLt⟩) (iblk m c 5 ⟨t.val - 1, Nat.lt_of_le_of_lt (Nat.sub_le _ _) t.isLt⟩) (iblk m c 6 ⟨t.val - 1, Nat.lt_of_le_of_lt (Nat.sub_le _ _) t.isLt⟩)) (iblk m c 7 t) (iblk m c 8 t) (iblk m c 9 t) (iblk m c 10 t) (iblk m c 11 t) := by
  have h65 := lt65 t
  by_cases h1 : t.val % 2 = 0
  · have hs := odd_eq m c ⟨t.val - 1, Nat.lt_of_le_of_lt (Nat.sub_le _ _) t.isLt⟩ (show (t.val - 1) % 2 = 1 by omega)
    rw [outsAt0_C m c t (by omega) h1 (by omega)]
    dsimp only
    unfold out0_C_13
    rw [View.read_writes_junk_eq_canon, ← hs]
    exact MixBlockC.norm ..
  · have hs := even_eq m c ⟨t.val - 1, Nat.lt_of_le_of_lt (Nat.sub_le _ _) t.isLt⟩ (show (t.val - 1) % 2 = 0 by omega)
    rw [outsAt0_B m c t (by omega) h1 (by omega)]
    dsimp only
    unfold out0_B_13
    rw [View.read_writes_junk_eq_canon, ← hs]
    exact MixBlockB.norm ..

/-- A token's mixed row, from the arguments. -/
def mixed (b : Fin 4) (i : Fin 4096) : Fin 2048 → EReal :=
  x1Row (m ((c : Thread nD τ).loc main_arg0) : Vec Ideal S4x4096x2048 .f32) (m ((c : Thread nD τ).loc main_arg1) : Vec Ideal S16384x4096 .bf16) (m ((c : Thread nD τ).loc main_arg2) : Vec Ideal S4x4096x1024 .bf16) (m ((c : Thread nD τ).loc main_arg3) : Vec Ideal S4x4096x1024 .bf16) (m ((c : Thread nD τ).loc main_arg4) : Vec Ideal S1024x2048 .bf16) (m ((c : Thread nD τ).loc main_arg5) : Vec Ideal S1024x2048 .bf16) (m ((c : Thread nD τ).loc main_arg6) : Vec Ideal S2048x2048 .bf16) b i

/-- A token's row after the cross-attention, from the arguments. -/
def crossed (b : Fin 4) (i : Fin 4096) : Fin 2048 → EReal :=
  outRow (m ((c : Thread nD τ).loc main_arg7) : Vec Ideal S1x2048 .f32) (m ((c : Thread nD τ).loc main_arg8) : Vec Ideal S2048x512 .bf16) (m ((c : Thread nD τ).loc main_arg9) : Vec Ideal S4x256x1024 .bf16) (m ((c : Thread nD τ).loc main_arg10) : Vec Ideal S512x2048 .bf16) b (mixed m c b i)

/-- The first result. -/
def whole12 : Vec Ideal S4x4096x2048 .f32 := fun y => crossed m c (y 0) (y 1) (y 2)

/-- The second result. -/
def whole13 : Vec Ideal S4x4096x2048 .bf16 := fun y =>
  rmsNorm (fun d => (m ((c : Thread nD τ).loc main_arg11) : Vec Ideal S1x2048 .f32) (ix2 0 d)) (crossed m c (y 0) (y 1)) (y 2)

/-- What the claim asks of the arguments: the gain, the query weights and the keys are real. -/
structure Real5 : Prop where
  gain : ∀ d, IsReal ((m ((c : Thread nD τ).loc main_arg7) : Vec Ideal S1x2048 .f32) (ix2 0 d))
  query : ∀ y d, IsReal ((m ((c : Thread nD τ).loc main_arg8) : Vec Ideal S2048x512 .bf16) (ix2 y d))
  key : ∀ b j (d : Fin 1024), d.val < 512 → IsReal ((m ((c : Thread nD τ).loc main_arg9) : Vec Ideal S4x256x1024 .bf16) (ix3 b j d))

/-- A point's mixed rows. -/
theorem mixed_apply (t : Fin cfg0.N) (ht : t.val < 64) (r : Fin 256) (l : Fin 2048) :
    mixB (F := Ideal) (iblk m c 0 t) (iblk m c 1 t) (iblk m c 2 t) (iblk m c 3 t) (iblk m c 4 t) (iblk m c 5 t) (iblk m c 6 t) (ix2 r l) = mixed m c ⟨t.val / 16, by omega⟩ ⟨256 * (t.val % 16) + r.val, by omega⟩ l := by
  have hm : min t.val 63 = t.val := by omega
  have e0 : (⟨min t.val 63 / 16, by omega⟩ : Fin 4) = ⟨t.val / 16, by omega⟩ := Fin.ext (by dsimp only; omega)
  have e1 : (⟨256 * (min t.val 63 % 16) + r.val, by omega⟩ : Fin 4096) = ⟨256 * (t.val % 16) + r.val, by omega⟩ := Fin.ext (by dsimp only; omega)
  have e2 : (⟨256 * min t.val 63 + r.val, by omega⟩ : Fin 16384) = ⟨4096 * (t.val / 16) + (256 * (t.val % 16) + r.val), by omega⟩ :=
    Fin.ext (by dsimp only; omega)
  unfold mixed x1Row
  refine (mixB_apply _ _ _ _ _ _ _ r l).trans (mixRow_congr (funext fun y => ?_) (funext fun k => ?_) (funext fun y => ?_) (funext fun y => ?_)
    (funext fun y => funext fun k => iblk4 m c t (ix2 y k)) (funext fun y => funext fun k => iblk5 m c t (ix2 y k)) (funext fun y => funext fun k => iblk6 m c t (ix2 y k)) l)
  · refine (iblk0 m c t r y).trans ?_
    rw [e0, e1]
  · refine (iblk1 m c t r k).trans ?_
    rw [e2]
  · refine (iblk2 m c t r y).trans ?_
    rw [e0, e1]
  · refine (iblk3 m c t r y).trans ?_
    rw [e0, e1]

/-- A point's rows after the cross-attention. -/
theorem crossed_eq (t : Fin cfg0.N) (ht : 1 ≤ t.val) (r : Fin 256) :
    crossRow (fun y => (iblk m c 7 t : Vec Ideal S1x2048 .f32) (ix2 0 y)) (fun y d => (iblk m c 8 t : Vec Ideal S2048x512 .bf16) (ix2 y d))
        (fun j x => (iblk m c 9 t : Vec Ideal S1x256x1024 .bf16) (ix3 0 j x)) (fun x l => (iblk m c 10 t : Vec Ideal S512x2048 .bf16) (ix2 x l))
        (fun y => mixB (F := Ideal) (iblk m c 0 ⟨t.val - 1, Nat.lt_of_le_of_lt (Nat.sub_le _ _) t.isLt⟩) (iblk m c 1 ⟨t.val - 1, Nat.lt_of_le_of_lt (Nat.sub_le _ _) t.isLt⟩) (iblk m c 2 ⟨t.val - 1, Nat.lt_of_le_of_lt (Nat.sub_le _ _) t.isLt⟩) (iblk m c 3 ⟨t.val - 1, Nat.lt_of_le_of_lt (Nat.sub_le _ _) t.isLt⟩) (iblk m c 4 ⟨t.val - 1, Nat.lt_of_le_of_lt (Nat.sub_le _ _) t.isLt⟩) (iblk m c 5 ⟨t.val - 1, Nat.lt_of_le_of_lt (Nat.sub_le _ _) t.isLt⟩) (iblk m c 6 ⟨t.val - 1, Nat.lt_of_le_of_lt (Nat.sub_le _ _) t.isLt⟩) (ix2 r y))
      = crossed m c ⟨(t.val - 1) / 16, by have := lt65 t; omega⟩ ⟨256 * ((t.val - 1) % 16) + r.val, by omega⟩ :=
  crossRow_congr (funext fun y => iblk7 m c t _) (funext fun y => funext fun d => iblk8 m c t _) (funext fun j => funext fun x => iblk9 m c t j x)
    (funext fun x => funext fun l => iblk10 m c t _) (funext fun y => mixed_apply m c _ (by have := lt65 t; dsimp only; omega) r y)

/-- The results are written from point 1 on. -/
theorem flush12 : ∀ t : Fin cfg0.N, (cfg0.win 12).flush t = true ↔ 1 ≤ t.val :=
  (by decide +kernel : ∀ t : Fin grid0.N, win0_12.flush t = true ↔ 1 ≤ t.val)
/-- The results are written from point 1 on. -/
theorem flush13 : ∀ t : Fin cfg0.N, (cfg0.win 13).flush t = true ↔ 1 ≤ t.val :=
  (by decide +kernel : ∀ t : Fin grid0.N, win0_13.flush t = true ↔ 1 ≤ t.val)

/-- An index of a block, by its coordinates. -/
theorem idx3 (y : S1x256x2048.Idx) : y = ix3 (n0 := 1) (n1 := 256) (n2 := 2048) (y 0) (y 1) (y 2) := by
  funext a
  match a with
  | ⟨0, _⟩ => rfl
  | ⟨1, _⟩ => rfl
  | ⟨2, _⟩ => rfl

variable (hr : Real5 m c)
include hr

/-- The first result array. -/
theorem arr12 : (dats m 0 c).arrAt 12 cfg0.N = whole12 m c :=
  (dats m 0 c).arrAt_eq_of_cover 12 (whole12 m c)
    (fun t hf => by
      have h1 := (flush12 t).mp hf
      have h65 := lt65 t
      have hn : ∀ d, IsReal ((iblk m c 7 t : Vec Ideal S1x2048 .f32) (ix2 0 d)) := fun d => by rw [iblk7]; exact hr.gain d
      have hw : ∀ y d, IsReal ((iblk m c 8 t : Vec Ideal S2048x512 .bf16) (ix2 y d)) := fun y d => by rw [iblk8]; exact hr.query y d
      have hk : ∀ j (d : Fin 1024), d.val < 512 → IsReal ((iblk m c 9 t : Vec Ideal S1x256x1024 .bf16) (ix3 0 j d)) := fun j d hd => by
        rw [iblk9]; exact hr.key _ j d hd
      rw [flushed12, out_eq m c t h1]
      funext y
      rw [View.read_apply]
      have y0 : (y 0 : Fin 1).val < 1 := (y 0 : Fin 1).isLt
      have y1 : (y 1 : Fin 256).val < 256 := (y 1 : Fin 256).isLt
      have e : ((cfg0.win 12).blk t).view.emb y = ix3 (n0 := 4) (n1 := 4096) (n2 := 2048) ⟨(t.val - 1) / 16, by omega⟩
          ⟨256 * ((t.val - 1) % 16) + (y 1 : Fin 256).val, by omega⟩ (y 2) := by
        funext a
        apply Fin.ext
        match a with
        | ⟨0, _⟩ => show win0_12.index t 0 * 1 + 1 * (y 0 : Fin 1).val = (t.val - 1) / 16; rw [index12]; show (t.val - 1) / 16 * 1 + 1 * (y 0 : Fin 1).val = _; omega
        | ⟨1, _⟩ => show win0_12.index t 1 * 256 + 1 * (y 1 : Fin 256).val = _; rw [index12]; show (t.val - 1) % 16 * 256 + 1 * (y 1 : Fin 256).val = 256 * ((t.val - 1) % 16) + (y 1 : Fin 256).val; omega
        | ⟨2, _⟩ => exact zero_off _ _ _ (congrFun (index12 t) 2)
      refine Eq.trans ?_ (congrArg (whole12 m c) e).symm
      refine Eq.trans (congrArg _ (idx3 y)) ((outB_apply _ _ _ _ _ hn hw hk (y 0) (y 1) (y 2)).trans ?_)
      exact congrFun (crossed_eq m c t h1 (y 1)) (y 2))
    (fun i => by
      have h0 : (i 0 : Nat) < 4 := (i 0).isLt
      have h1 : (i 1 : Nat) < 4096 := (i 1).isLt
      have h2 : (i 2 : Nat) < 2048 := (i 2).isLt
      refine ⟨⟨16 * (i 0 : Nat) + (i 1 : Nat) / 256 + 1, lt_of_lt_of_eq (by omega) N_0.symm⟩, (flush12 _).mpr (Nat.le_add_left _ _), ?_⟩
      mem_blk [index12]
      dsimp
      omega)

/-- The second result array. -/
theorem arr13 : (dats m 0 c).arrAt 13 cfg0.N = whole13 m c :=
  (dats m 0 c).arrAt_eq_of_cover 13 (whole13 m c)
    (fun t hf => by
      have h1 := (flush13 t).mp hf
      have h65 := lt65 t
      have hn : ∀ d, IsReal ((iblk m c 7 t : Vec Ideal S1x2048 .f32) (ix2 0 d)) := fun d => by rw [iblk7]; exact hr.gain d
      have hw : ∀ y d, IsReal ((iblk m c 8 t : Vec Ideal S2048x512 .bf16) (ix2 y d)) := fun y d => by rw [iblk8]; exact hr.query y d
      have hk : ∀ j (d : Fin 1024), d.val < 512 → IsReal ((iblk m c 9 t : Vec Ideal S1x256x1024 .bf16) (ix3 0 j d)) := fun j d hd => by
        rw [iblk9]; exact hr.key _ j d hd
      rw [flushed13, norm_eq m c t h1]
      funext y
      rw [View.read_apply]
      have y0 : (y 0 : Fin 1).val < 1 := (y 0 : Fin 1).isLt
      have y1 : (y 1 : Fin 256).val < 256 := (y 1 : Fin 256).isLt
      have e : ((cfg0.win 13).blk t).view.emb y = ix3 (n0 := 4) (n1 := 4096) (n2 := 2048) ⟨(t.val - 1) / 16, by omega⟩
          ⟨256 * ((t.val - 1) % 16) + (y 1 : Fin 256).val, by omega⟩ (y 2) := by
        funext a
        apply Fin.ext
        match a with
        | ⟨0, _⟩ => show win0_13.index t 0 * 1 + 1 * (y 0 : Fin 1).val = (t.val - 1) / 16; rw [index13]; show (t.val - 1) / 16 * 1 + 1 * (y 0 : Fin 1).val = _; omega
        | ⟨1, _⟩ => show win0_13.index t 1 * 256 + 1 * (y 1 : Fin 256).val = _; rw [index13]; show (t.val - 1) % 16 * 256 + 1 * (y 1 : Fin 256).val = 256 * ((t.val - 1) % 16) + (y 1 : Fin 256).val; omega
        | ⟨2, _⟩ => exact zero_off _ _ _ (congrFun (index13 t) 2)
      refine Eq.trans ?_ (congrArg (whole13 m c) e).symm
      refine Eq.trans (congrArg _ (idx3 y)) ((normB_apply _ _ _ _ _ _ hn hw hk (y 0) (y 1) (y 2)).trans ?_)
      exact congrArg₂ (fun a b => rmsNorm a b (y 2)) (funext fun d => iblk11 m c t _) (crossed_eq m c t h1 (y 1)))
    (fun i => by
      have h0 : (i 0 : Nat) < 4 := (i 0).isLt
      have h1 : (i 1 : Nat) < 4096 := (i 1).isLt
      have h2 : (i 2 : Nat) < 2048 := (i 2).isLt
      refine ⟨⟨16 * (i 0 : Nat) + (i 1 : Nat) / 256 + 1, lt_of_lt_of_eq (by omega) N_0.symm⟩, (flush13 _).mpr (Nat.le_add_left _ _), ?_⟩
      mem_blk [index13]
      dsimp
      omega)

omit hr in
/-- THE RUN: from a real gain, real query weights and real keys, the kernel's results are the two whole results. -/
theorem run (ρ : Dev nD → PrngReg) (hr : ∀ c, Real5 m c) :
    θ_run defs (onTc (τ := τ) (main (F := Ideal))) ⟨m, fun _ => 0, ρ⟩ fun r => ∀ c : Dev nD,
      r.2.mem ((c : Thread nD τ).loc main_v0_0) = whole12 m c
      ∧ r.2.mem ((c : Thread nD τ).loc main_v0_1) = whole13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (arr12 m c (hr c)), (h c).2.1.trans (arr13 m c (hr c)), (h c).2.2⟩) (run_blocks m ρ)

end Cert.MixArray
-- ==== Proof.MixRef.lean ====
/-
  What the mixing call's reference computes, read at an index: the same row functions.
-/
module

public import proofs.«01_k».proof.Proof.Gen.MixRefIdeal.Read
public import proofs.«01_k».proof.Proof.MixRow
public import Idealize.ShloMosaic.Lib.Pointwise

@[expose] public section

noncomputable section

namespace Cert.MixRef

open Idealize.ShloMosaic Cert.MixRefIdeal Cert.MixRefIdeal.Gen Cert.MixRefIdeal.Read Cert.Soft Cert.MixRow Cert.FfnRow

variable (x0 : FVec Ideal S4x4096x2048 .f32) (x1 : FVec Ideal S16384x4096 .bf16) (x2 x3 : FVec Ideal S4x4096x1024 .bf16)
  (x4 x5 : FVec Ideal S1024x2048 .bf16) (x6 : FVec Ideal S2048x2048 .bf16) (x7 : FVec Ideal S1x2048 .f32) (x8 : FVec Ideal S2048x512 .bf16)
  (x9 : FVec Ideal S4x256x1024 .bf16) (x10 : FVec Ideal S512x2048 .bf16) (x11 : FVec Ideal S1x2048 .f32)

/-- The gates by token. -/
theorem gate_apply (b : Fin 4) (i k : Fin 4096) : val_main_v9 (F := Ideal) x1 (ix3 b i k) = x1 (ix2 ⟨4096 * b.val + i.val, by omega⟩ k) := by
  rw [val_main_v9_apply]
  show x1 _ = x1 _
  refine congrArg x1 (funext fun a => Fin.ext ?_)
  match a with
  | ⟨0, _⟩ => show ((b.val * 4096 + i.val) * 4096 + k.val) / 4096 = 4096 * b.val + i.val; omega
  | ⟨1, _⟩ => show ((b.val * 4096 + i.val) * 4096 + k.val) % 4096 = k.val; omega

/-- The mixers' gated sum. -/
theorem sum_apply (b : Fin 4) (i : Fin 4096) (k : Fin 2048) :
    val_main_v16 (F := Ideal) x1 x2 x3 x4 x5 (ix3 b i k)
      = x1 (ix2 ⟨4096 * b.val + i.val, by omega⟩ ⟨k.val, by omega⟩) * (∑ y : Fin 1024, x2 (ix3 b i y) * x4 (ix2 y k))
        + x1 (ix2 ⟨4096 * b.val + i.val, by omega⟩ ⟨2048 + k.val, by omega⟩) * (∑ y : Fin 1024, x3 (ix3 b i y) * x5 (ix2 y k)) := by
  have hg := gate_apply x1 b i
  simp only [← hg]
  unfold val_main_v16 val_main_v12 val_main_v15 val_main_v10 val_main_v13
  generalize val_main_v9 (F := Ideal) x1 = g
  pointwise [val_main_v11, val_main_v14, val_main_v0, val_main_v1, val_main_v2, val_main_v3]

/-- The mixed row. -/
theorem mixed_apply (b : Fin 4) (i : Fin 4096) (l : Fin 2048) :
    val_main_v18 (F := Ideal) x0 x1 x2 x3 x4 x5 x6 (ix3 b i l) = x1Row x0 x1 x2 x3 x4 x5 x6 b i l := by
  have h := sum_apply x1 x2 x3 x4 x5 b i
  unfold val_main_v18 val_main_v17 x1Row mixRow
  simp only [← h]
  generalize val_main_v16 (F := Ideal) x1 x2 x3 x4 x5 = s
  pointwise [val_main_v4]

/-- The query. -/
theorem query_apply (b : Fin 4) (i : Fin 4096) (d : Fin 512) :
    val_main_v33 (F := Ideal) x0 x1 x2 x3 x4 x5 x6 x7 x8 (ix3 b i d)
      = qRow (fun y => x7 (ix2 0 y)) (fun y d => x8 (ix2 y d)) (x1Row x0 x1 x2 x3 x4 x5 x6 b i) d := by
  have h := mixed_apply x0 x1 x2 x3 x4 x5 x6 b i
  unfold val_main_v33 val_main_v32 val_main_v28 val_main_v27 val_main_v26 val_main_v25 val_main_v23 val_main_v21 val_main_v20 val_main_v19 qRow rmsNorm
  simp only [← h]
  generalize val_main_v18 (F := Ideal) x0 x1 x2 x3 x4 x5 x6 = s
  pointwise [val_main_v5, val_main_v31, val_main_v30, val_main_v29, val_main_v24, val_main_v22, val_main_cst, val_main_cst_0, val_main_cst_1]

/-- The keys by head. -/
theorem key_apply (b : Fin 4) (j : Fin 256) (h : Fin 4) (x : Fin 128) :
    val_main_v36 (F := Ideal) x9 (ix4 b j h x) = x9 (ix3 b j ⟨128 * h.val + x.val, by omega⟩) := by
  rw [val_main_v36_apply, val_main_v35_apply]
  show x9 _ = x9 _
  refine congrArg x9 (funext fun a => Fin.ext ?_)
  match a with
  | ⟨0, _⟩ => show (((b.val * 256 + j.val) * 4 + h.val) * 128 + x.val) / 131072 = b.val; omega
  | ⟨1, _⟩ => show (((b.val * 256 + j.val) * 4 + h.val) * 128 + x.val) / 512 % 256 = j.val; omega
  | ⟨2, _⟩ => show (((b.val * 256 + j.val) * 4 + h.val) * 128 + x.val) % 512 = 128 * h.val + x.val; omega

/-- The values by head. -/
theorem value_apply (b : Fin 4) (j : Fin 256) (h : Fin 4) (x : Fin 128) :
    val_main_v38 (F := Ideal) x9 (ix4 b j h x) = x9 (ix3 b j ⟨512 + (128 * h.val + x.val), by omega⟩) := by
  rw [val_main_v38_apply, val_main_v37_apply]
  show x9 _ = x9 _
  refine congrArg x9 (funext fun a => Fin.ext ?_)
  match a with
  | ⟨0, _⟩ => show (((b.val * 256 + j.val) * 4 + h.val) * 128 + x.val) / 131072 = b.val; omega
  | ⟨1, _⟩ => show (((b.val * 256 + j.val) * 4 + h.val) * 128 + x.val) / 512 % 256 = j.val; omega
  | ⟨2, _⟩ => show 512 + (((b.val * 256 + j.val) * 4 + h.val) * 128 + x.val) % 512 = 512 + (128 * h.val + x.val); omega

/-- The queries by head. -/
theorem head_apply (b : Fin 4) (i : Fin 4096) (h : Fin 4) (x : Fin 128) :
    val_main_v34 (F := Ideal) x0 x1 x2 x3 x4 x5 x6 x7 x8 (ix4 b i h x)
      = qRow (fun y => x7 (ix2 0 y)) (fun y d => x8 (ix2 y d)) (x1Row x0 x1 x2 x3 x4 x5 x6 b i) ⟨128 * h.val + x.val, by omega⟩ := by
  rw [val_main_v34_apply]
  refine Eq.trans (congrArg _ (funext fun a => Fin.ext ?_)) (query_apply x0 x1 x2 x3 x4 x5 x6 x7 x8 b i ⟨128 * h.val + x.val, by omega⟩)
  match a with
  | ⟨0, _⟩ => show (((b.val * 4096 + i.val) * 4 + h.val) * 128 + x.val) / 2097152 = b.val; omega
  | ⟨1, _⟩ => show (((b.val * 4096 + i.val) * 4 + h.val) * 128 + x.val) / 512 % 4096 = i.val; omega
  | ⟨2, _⟩ => show (((b.val * 4096 + i.val) * 4 + h.val) * 128 + x.val) % 512 = 128 * h.val + x.val; omega

/-- The scores. -/
theorem score_apply (b h : Fin 4) (i : Fin 4096) (j : Fin 256) :
    val_main_v41 (F := Ideal) x0 x1 x2 x3 x4 x5 x6 x7 x8 x9 (ix4 b h i j)
      = sRow (fun y => x7 (ix2 0 y)) (fun y d => x8 (ix2 y d)) (fun j c => x9 (ix3 b j c)) (x1Row x0 x1 x2 x3 x4 x5 x6 b i) h j := by
  rw [val_main_v41_apply, val_main_v40_apply, val_main_cst_2_apply, val_main_v39_apply]
  unfold sRow scale
  refine congrArg (· * Ideal.ofBits .f32 0x3DB504F3#32) (Finset.sum_congr rfl fun x _ => congrArg₂ (· * ·) ?_ ?_)
  · refine Eq.trans (congrArg _ (funext fun a => ?_)) (head_apply x0 x1 x2 x3 x4 x5 x6 x7 x8 b i h x)
    match a with
    | ⟨0, _⟩ => rfl
    | ⟨1, _⟩ => rfl
    | ⟨2, _⟩ => rfl
    | ⟨3, _⟩ => rfl
  · refine Eq.trans (congrArg _ (funext fun a => ?_)) (key_apply x9 b j h x)
    match a with
    | ⟨0, _⟩ => rfl
    | ⟨1, _⟩ => rfl
    | ⟨2, _⟩ => rfl
    | ⟨3, _⟩ => rfl

/-- The largest score of a row, folded. -/
theorem fold_apply (b h : Fin 4) (i : Fin 4096) :
    val_main_v42 (F := Ideal) x0 x1 x2 x3 x4 x5 x6 x7 x8 x9 (ix3 b h i)
      = Finset.fold max (Ideal.ofBits FTy.f32 4286578688#32) (fun j : Fin 256 => val_main_v41 (F := Ideal) x0 x1 x2 x3 x4 x5 x6 x7 x8 x9 (ix4 b h i j)) Finset.univ := by
  unfold val_main_v42
  generalize val_main_v41 (F := Ideal) x0 x1 x2 x3 x4 x5 x6 x7 x8 x9 = s
  pointwise [val_main_cst_3]

/-- The largest score of a row. -/
theorem max_apply (b h : Fin 4) (i : Fin 4096) :
    val_main_v44 (F := Ideal) x0 x1 x2 x3 x4 x5 x6 x7 x8 x9 (ix3 b h i) = top (fun j => val_main_v41 (F := Ideal) x0 x1 x2 x3 x4 x5 x6 x7 x8 x9 (ix4 b h i j)) := by
  have h9 : val_main_v44 (F := Ideal) x0 x1 x2 x3 x4 x5 x6 x7 x8 x9 (ix3 b h i)
      = max (Ideal.ofBits FTy.f32 4286578688#32) (val_main_v42 (F := Ideal) x0 x1 x2 x3 x4 x5 x6 x7 x8 x9 (ix3 b h i)) := by
    rw [val_main_v44_apply, val_main_v43_apply]
    rfl
  rw [h9, fold_apply, RunRead.ofBits_negInf]
  exact max_eq_right bot_le

/-- A score's exponential, over the row's largest. -/
theorem exp_apply (b h : Fin 4) (i : Fin 4096) (j : Fin 256) :
    val_main_v48 (F := Ideal) x0 x1 x2 x3 x4 x5 x6 x7 x8 x9 (ix4 b h i j)
      = Ideal.exp (val_main_v41 (F := Ideal) x0 x1 x2 x3 x4 x5 x6 x7 x8 x9 (ix4 b h i j) - top (fun j => val_main_v41 (F := Ideal) x0 x1 x2 x3 x4 x5 x6 x7 x8 x9 (ix4 b h i j))) := by
  rw [val_main_v48_apply, val_main_v47_apply, val_main_v46_apply, val_main_v45_apply, ← max_apply, Ideal.hostUnary_exp_def, Ideal.subf_def]
  generalize val_main_v41 (F := Ideal) x0 x1 x2 x3 x4 x5 x6 x7 x8 x9 (ix4 b h i j) = y
  refine congrArg (fun z => Ideal.exp (y - val_main_v44 (F := Ideal) x0 x1 x2 x3 x4 x5 x6 x7 x8 x9 z)) (funext fun a => ?_)
  match a with
  | ⟨0, _⟩ => rfl
  | ⟨1, _⟩ => rfl
  | ⟨2, _⟩ => rfl

/-- A softmax's weight. -/
theorem weight_apply (b h : Fin 4) (i : Fin 4096) (j : Fin 256) :
    val_main_v52 (F := Ideal) x0 x1 x2 x3 x4 x5 x6 x7 x8 x9 (ix4 b h i j)
      = Ideal.div (val_main_v48 (F := Ideal) x0 x1 x2 x3 x4 x5 x6 x7 x8 x9 (ix4 b h i j)) (∑ k : Fin 256, val_main_v48 (F := Ideal) x0 x1 x2 x3 x4 x5 x6 x7 x8 x9 (ix4 b h i k)) := by
  rw [val_main_v52_apply, val_main_v51_apply, val_main_v50_apply, val_main_v49_apply, Ideal.hostDivf_def]
  have h0 : val_main_cst_5 (F := Ideal) (Shape.Idx.first h_S_) = 0 := by
    rw [val_main_cst_5_apply]
    show Ideal.ofBits .f32 0#32 = 0
    simp [Ideal.ofBits, Ideal.ieee]
  rw [h0, zero_add]
  refine congrArg (Ideal.div _) (Finset.sum_congr rfl fun k _ => congrArg _ (funext fun a => ?_))
  match a with
  | ⟨0, _⟩ => rfl
  | ⟨1, _⟩ => rfl
  | ⟨2, _⟩ => rfl
  | ⟨3, _⟩ => rfl

/-- A head's result. -/
theorem att_apply (b h : Fin 4) (i : Fin 4096) (x : Fin 128) :
    val_main_v53 (F := Ideal) x0 x1 x2 x3 x4 x5 x6 x7 x8 x9 (ix4 b h x i)
      = att (sRow (fun y => x7 (ix2 0 y)) (fun y d => x8 (ix2 y d)) (fun j c => x9 (ix3 b j c)) (x1Row x0 x1 x2 x3 x4 x5 x6 b i) h)
          (fun j => x9 (ix3 b j ⟨512 + (128 * h.val + x.val), by omega⟩)) := by
  rw [← funext (score_apply x0 x1 x2 x3 x4 x5 x6 x7 x8 x9 b h i), val_main_v53_apply]
  unfold att
  refine Finset.sum_congr rfl fun j _ => (mul_comm _ _).trans (congrArg₂ (· * ·) ?_ ?_)
  · simp only [← exp_apply x0 x1 x2 x3 x4 x5 x6 x7 x8 x9 b h i]
    rw [← weight_apply]
    refine congrArg _ (funext fun a => ?_)
    match a with
    | ⟨0, _⟩ => rfl
    | ⟨1, _⟩ => rfl
    | ⟨2, _⟩ => rfl
    | ⟨3, _⟩ => rfl
  · refine Eq.trans (congrArg _ (funext fun a => ?_)) (value_apply x9 b j h x)
    match a with
    | ⟨0, _⟩ => rfl
    | ⟨1, _⟩ => rfl
    | ⟨2, _⟩ => rfl
    | ⟨3, _⟩ => rfl

/-- The heads side by side. -/
theorem heads_apply (b : Fin 4) (i : Fin 4096) (c : Fin 512) :
    val_main_v55 (F := Ideal) x0 x1 x2 x3 x4 x5 x6 x7 x8 x9 (ix3 b i c)
      = oRow (fun y => x7 (ix2 0 y)) (fun y d => x8 (ix2 y d)) (fun j c => x9 (ix3 b j c)) (x1Row x0 x1 x2 x3 x4 x5 x6 b i) c := by
  rw [val_main_v55_apply, val_main_v54_apply]
  refine Eq.trans (congrArg _ (funext fun a => Fin.ext ?_))
    ((att_apply x0 x1 x2 x3 x4 x5 x6 x7 x8 x9 b ⟨c.val / 128, by omega⟩ i ⟨c.val % 128, by omega⟩).trans ?_)
  · match a with
    | ⟨0, _⟩ => show ((b.val * 4096 + i.val) * 512 + c.val) / 2097152 = b.val; omega
    | ⟨1, _⟩ => show ((b.val * 4096 + i.val) * 512 + c.val) / 128 % 4 = c.val / 128; omega
    | ⟨2, _⟩ => show ((b.val * 4096 + i.val) * 512 + c.val) % 128 = c.val % 128; omega
    | ⟨3, _⟩ => show ((b.val * 4096 + i.val) * 512 + c.val) / 512 % 4096 = i.val; omega
  · unfold oRow
    have e : (⟨512 + (128 * (c.val / 128) + c.val % 128), by omega⟩ : Fin 1024) = ⟨512 + c.val, by omega⟩ := Fin.ext (by dsimp only; omega)
    rw [e]

/-- THE FIRST RESULT at an index. -/
theorem cross_apply (b : Fin 4) (i : Fin 4096) (l : Fin 2048) :
    val_main_v57 (F := Ideal) x0 x1 x2 x3 x4 x5 x6 x7 x8 x9 x10 (ix3 b i l) = outRow x7 x8 x9 x10 b (x1Row x0 x1 x2 x3 x4 x5 x6 b i) l := by
  have ho := heads_apply x0 x1 x2 x3 x4 x5 x6 x7 x8 x9 b i
  have hm := mixed_apply x0 x1 x2 x3 x4 x5 x6 b i l
  unfold val_main_v57 val_main_v56 outRow crossRow
  simp only [← ho, ← hm]
  generalize val_main_v55 (F := Ideal) x0 x1 x2 x3 x4 x5 x6 x7 x8 x9 = o
  generalize val_main_v18 (F := Ideal) x0 x1 x2 x3 x4 x5 x6 = s
  pointwise [val_main_v7]

/-- THE SECOND RESULT at an index. -/
theorem norm_apply (b : Fin 4) (i : Fin 4096) (l : Fin 2048) :
    val_main_v72 (F := Ideal) x0 x1 x2 x3 x4 x5 x6 x7 x8 x9 x10 x11 (ix3 b i l)
      = rmsNorm (fun d => x11 (ix2 0 d)) (outRow x7 x8 x9 x10 b (x1Row x0 x1 x2 x3 x4 x5 x6 b i)) l := by
  have h := cross_apply x0 x1 x2 x3 x4 x5 x6 x7 x8 x9 x10 b i
  unfold val_main_v72 val_main_v71 val_main_v67 val_main_v66 val_main_v65 val_main_v64 val_main_v62 val_main_v60 val_main_v59 val_main_v58 rmsNorm
  simp only [← h]
  generalize val_main_v57 (F := Ideal) x0 x1 x2 x3 x4 x5 x6 x7 x8 x9 x10 = s
  pointwise [val_main_v70, val_main_v69, val_main_v68, val_main_v63, val_main_v61, val_main_cst_6, val_main_cst_7, val_main_cst_8]

end Cert.MixRef
-- ==== Proof.MixClaim.lean ====
/-
  The mixing call's claims: the precondition read, the equation of the kernel's and the reference's results, the frames.
-/
module

public import proofs.«01_k».proof.Defs
public import proofs.«01_k».proof.Proof.MixArray
public import proofs.«01_k».proof.Proof.MixRef
public import proofs.«01_k».proof.Proof.Gen.Mix.Frame
public import Idealize.ShloMosaic.Lib.Quiescent

@[expose] public section

noncomputable section

namespace Cert.MixClaim

open Idealize.ShloMosaic Idealize.ShloMosaic.TcCoe Idealize.SL.Sem Cert.Soft

/-- The precondition's side conditions. -/
instance preFacts : Cert.Pre_finite5.Facts := ⟨by decide, by decide, by decide, by decide⟩

/-- A number between two words that are the infinities is real. -/
theorem real_of_cmp (x p n : EReal) (hn : n = ⊥) (hp : p = ⊤) (h : Ideal.cmp .ogt x n &&& Ideal.cmp .olt x p = 1#1) : IsReal x := by
  rw [hn, hp] at h
  have hb : ∀ p q : Bool, BitVec.ofBool p &&& BitVec.ofBool q = 1#1 → p = true ∧ q = true := by decide
  obtain ⟨h1, h2⟩ := hb _ _ h
  exact isReal_of_ne (ne_of_gt (of_decide_eq_true h1)) (ne_of_lt (of_decide_eq_true h2))

/-- The 16-bit word of minus infinity. -/
theorem negInf : Ideal.ofBits .bf16 0xFF80#16 = ⊥ := by simp [Ideal.ofBits, Ideal.ieee]
/-- The 16-bit word of plus infinity. -/
theorem posInf : Ideal.ofBits .bf16 0x7F80#16 = ⊤ := by simp [Ideal.ofBits, Ideal.ieee]
/-- The 32-bit word of plus infinity. -/
theorem posInf' : Ideal.ofBits .f32 0x7F800000#32 = ⊤ := by simp [Ideal.ofBits, Ideal.ieee]

/-- The precondition, read: the gain, the query weights and the keys are real. -/
theorem pre_real (m : (ℓ : Loc Cert.MixIdeal.nD Cert.MixIdeal.τ Cert.MixIdeal.sig) → Buf (Elt Ideal) ℓ) (h : Cert.Pre_MixIdeal_finite5 m)
    (c : Dev Cert.MixIdeal.nD) : MixArray.Real5 m c := by
  obtain ⟨h1, h2, h3⟩ := h c
  refine ⟨fun d => ?_, fun y d => ?_, fun b j d hd => ?_⟩
  · exact real_of_cmp _ _ _ RunRead.ofBits_negInf posInf' (congrFun h1 (ix2 0 d))
  · exact real_of_cmp _ _ _ negInf posInf (congrFun h2 (ix2 y d))
  · have h3' := congrFun h3 (ix3 (n0 := 4) (n1 := 256) (n2 := 512) b j ⟨d.val, hd⟩)
    have hx := real_of_cmp _ _ _ negInf posInf h3'
    refine Eq.mp (congrArg IsReal (congrArg _ (funext fun a => Fin.ext ?_))) hx
    match a with
    | ⟨0, _⟩ => show 0 + b.val = b.val; omega
    | ⟨1, _⟩ => show 0 + j.val = j.val; omega
    | ⟨2, _⟩ => show 0 + d.val = d.val; omega

/-- The reference has no semaphore. -/
theorem ref_sems (s : MemSt Cert.MixRefIdeal.nD Cert.MixRefIdeal.τ Cert.MixRefIdeal.sig (Elt Ideal)) : s.sem = fun _ => 0 :=
  sem_eq_zero_of_no_sems (by decide) s

/-- The kernel's program, bit-exact: its frame. -/
theorem frame_P : Cert.quiescent_Mix := fun m g _ => Cert.Mix.Gen.frame m g
/-- The idealized kernel's frame. -/
theorem frame_PI : Cert.quiescent_MixIdeal := fun m g _ => Cert.MixIdeal.Gen.frame m g
/-- The idealized kernel's frame, under the precondition. -/
theorem frame_PI_pre : Cert.quiescent_MixIdeal_pre_finite5 := fun m g _ => Cert.MixIdeal.Gen.frame m g
/-- The idealized reference's frame. -/
theorem frame_RI : Cert.quiescent_MixRefIdeal := fun m g _ =>
  (θ_run _ _ _).mono (fun r h => ⟨fun c => (h c).2.2, ref_sems r.2⟩) (Cert.MixRefIdeal.Value.run (F := Ideal) m g)
/-- The idealized reference's frame, under the precondition. -/
theorem frame_RI_pre : Cert.quiescent_MixRefIdeal_pre_finite5 := fun m g _ =>
  (θ_run _ _ _).mono (fun r h => ⟨fun c => (h c).2.2, ref_sems r.2⟩) (Cert.MixRefIdeal.Value.run (F := Ideal) m g)

/-- An index by its coordinates. -/
theorem idx3 (y : Cert.MixRefIdeal.S4x4096x2048.Idx) : y = ix3 (n0 := 4) (n1 := 4096) (n2 := 2048) (y 0) (y 1) (y 2) := by
  funext a
  match a with
  | ⟨0, _⟩ => rfl
  | ⟨1, _⟩ => rfl
  | ⟨2, _⟩ => rfl

open Cert.MixRefIdeal in
/-- The reference's first result as a function of the arguments. -/
theorem first_eq (x0 : FVec Ideal S4x4096x2048 .f32) (x1 : FVec Ideal S16384x4096 .bf16) (x2 x3 : FVec Ideal S4x4096x1024 .bf16)
    (x4 x5 : FVec Ideal S1024x2048 .bf16) (x6 : FVec Ideal S2048x2048 .bf16) (x7 : FVec Ideal S1x2048 .f32) (x8 : FVec Ideal S2048x512 .bf16)
    (x9 : FVec Ideal S4x256x1024 .bf16) (x10 : FVec Ideal S512x2048 .bf16) :
    Read.val_main_v57 (F := Ideal) x0 x1 x2 x3 x4 x5 x6 x7 x8 x9 x10
      = fun y => MixRow.outRow x7 x8 x9 x10 (y 0) (MixRow.x1Row x0 x1 x2 x3 x4 x5 x6 (y 0) (y 1)) (y 2) := by
  funext y
  refine (congrArg _ (idx3 y)).trans (MixRef.cross_apply x0 x1 x2 x3 x4 x5 x6 x7 x8 x9 x10 (y 0) (y 1) (y 2))

open Cert.MixRefIdeal in
/-- The reference's second result as a function of the arguments. -/
theorem second_eq (x0 : FVec Ideal S4x4096x2048 .f32) (x1 : FVec Ideal S16384x4096 .bf16) (x2 x3 : FVec Ideal S4x4096x1024 .bf16)
    (x4 x5 : FVec Ideal S1024x2048 .bf16) (x6 : FVec Ideal S2048x2048 .bf16) (x7 : FVec Ideal S1x2048 .f32) (x8 : FVec Ideal S2048x512 .bf16)
    (x9 : FVec Ideal S4x256x1024 .bf16) (x10 : FVec Ideal S512x2048 .bf16) (x11 : FVec Ideal S1x2048 .f32) :
    Read.val_main_v72 (F := Ideal) x0 x1 x2 x3 x4 x5 x6 x7 x8 x9 x10 x11
      = fun y => FfnRow.rmsNorm (fun d => x11 (ix2 0 d)) (MixRow.outRow x7 x8 x9 x10 (y 0) (MixRow.x1Row x0 x1 x2 x3 x4 x5 x6 (y 0) (y 1))) (y 2) := by
  funext y
  refine (congrArg _ (idx3 y)).trans (MixRef.norm_apply x0 x1 x2 x3 x4 x5 x6 x7 x8 x9 x10 x11 (y 0) (y 1) (y 2))

/-- THE VALUE CLAIM: from a finite gain, finite query weights and finite keys the idealized kernel and the idealized reference end with equal results. -/
theorem value : Cert.algebraic_MixIdeal_MixRefIdeal_pre_finite5 := by
  intro m g m' g' hpre hagree
  refine ⟨fun c => MixArray.whole12 m c, fun c => MixArray.whole13 m c, MixArray.run m g (pre_real m hpre), ?_⟩
  refine (θ_run _ _ _).mono (fun r h c => ?_) (Cert.MixRefIdeal.Value.run (F := Ideal) m' g')
  obtain ⟨h0, h1, hk⟩ := h c
  obtain ⟨a0, a1, a2, a3, a4, a5, a6, a7, a8, a9, a10, a11⟩ := hagree c
  refine ⟨h0.trans ?_, h1.trans ?_, hk⟩
  · refine (Cert.MixRefIdeal.Read.val_main_v57_eq m' c).trans ((first_eq _ _ _ _ _ _ _ _ _ _ _).trans ?_)
    rw [a0, a1, a2, a3, a4, a5, a6, a7, a8, a9, a10]
    rfl
  · refine (Cert.MixRefIdeal.Read.val_main_v72_eq m' c).trans ((second_eq _ _ _ _ _ _ _ _ _ _ _ _).trans ?_)
    rw [a0, a1, a2, a3, a4, a5, a6, a7, a8, a9, a10, a11]
    rfl

end Cert.MixClaim
-- ==== Proof.lean ====
/-
  The certificate: every claim, from the modules that prove them.
-/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Gqa
public import proofs.«01_k».proof.Proof.Gen.Gqa.Frame
public import proofs.«01_k».proof.Proof.Gen.GqaIdeal
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.Gen.GqaRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.AttnClaim
public import proofs.«01_k».proof.Proof.FfnClaim
public import proofs.«01_k».proof.Proof.GateClaim
public import proofs.«01_k».proof.Proof.GqaClaim
public import proofs.«01_k».proof.Proof.MixClaim
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts, Cert.Gate.Gen.facts, Cert.GateIdeal.Gen.facts, Cert.GateRefIdeal.Gen.facts, Cert.Gqa.Gen.facts, Cert.GqaIdeal.Gen.facts, Cert.GqaRefIdeal.Gen.facts, Cert.Mix.Gen.facts, Cert.MixIdeal.Gen.facts, Cert.MixRefIdeal.Gen.facts, AttnClaim.preFacts, GqaClaim.preFacts, MixClaim.preFacts,
    AttnClaim.frame_P,
    AttnClaim.frame_PI,
    AttnClaim.frame_PI_pre,
    AttnClaim.frame_RI,
    AttnClaim.frame_RI_pre,
    FfnClaim.frame_P,
    FfnClaim.frame_PI,
    FfnClaim.frame_RI,
    GateClaim.frame_P,
    GateClaim.frame_PI,
    GateClaim.frame_RI,
    GqaClaim.frame_P,
    GqaClaim.frame_PI,
    GqaClaim.frame_PI_pre,
    GqaClaim.frame_RI,
    GqaClaim.frame_RI_pre,
    MixClaim.frame_P,
    MixClaim.frame_PI,
    MixClaim.frame_PI_pre,
    MixClaim.frame_RI,
    MixClaim.frame_RI_pre,
    trivial,
    AttnClaim.value,
    trivial,
    FfnClaim.value,
    trivial,
    GateClaim.value,
    trivial,
    GqaClaim.value,
    trivial,
    MixClaim.value⟩

end Cert.Proof

end
